-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_scores [hPre_finite_scores : Cert.Pre_finite_scores.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_scores.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_scores [hPre_finite_scores : Cert.Pre_finite_scores.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_scores.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_scores [hKernel12Ideal : Cert.Kernel12Ideal.Facts] [hPre_finite_scores : Cert.Pre_finite_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_scores m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_scores [hReference12Ideal : Cert.Reference12Ideal.Facts] [hPre_finite_scores : Cert.Pre_finite_scores.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_scores m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v134) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v53)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v53) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v140) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_scores [hKernel12Ideal : Cert.Kernel12Ideal.Facts] [hReference12Ideal : Cert.Reference12Ideal.Facts] [hPre_finite_scores : Cert.Pre_finite_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_scores m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_scores (hKernel12Ideal := hKernel12Ideal) (hPre_finite_scores := hPre_finite_scores)
    ∧ quiescent_Reference12Ideal (hReference12Ideal := hReference12Ideal)
    ∧ quiescent_Reference12Ideal_pre_finite_scores (hReference12Ideal := hReference12Ideal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_scores (hKernel12Ideal := hKernel12Ideal) (hReference12Ideal := hReference12Ideal) (hPre_finite_scores := hPre_finite_scores)
-- ==== Pre_finite_scores.lean ====
abbrev S4x2304x1280 : Shape := ⟨3, ![4, 2304, 1280]⟩
abbrev S4x2304x256 : Shape := ⟨3, ![4, 2304, 256]⟩
abbrev S2x8 : Shape := ⟨2, ![2, 8]⟩
abbrev S_ : Shape := ⟨0, ![]⟩

class Facts : Prop where
  bitsLt_bf16_f32 : FTy.bits .bf16 < FTy.bits .f32
  bcast_S_S4x2304x1280 : S_.BroadcastsInDim S4x2304x1280 (![] : Fin 0 → Fin S4x2304x1280.rank)
  reducesTo_S4x2304x1280_S_d0_1_2 : S4x2304x1280.ReducesTo [0, 1, 2] S_
  h_S_ : 0 < S_.numel
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S4x2304x1280 .bf16) (main_arg1 : FVec F S4x2304x256 .bf16) (main_arg2 : FVec F S2x8 .f32) : IVec S_ 1 :=
  let main_v0 : FVec F S4x2304x1280 .f32 := (extf .f32 · bitsLt_bf16_f32) main_arg0
  let main_v1 : FVec F S4x2304x1280 .f32 := Host.absf main_v0
  let main_cst : FVec F S_ .f32 := constant S_ .f32 0x7F800000#32
  let main_v2 : FVec F S4x2304x1280 .f32 := broadcastInDim S4x2304x1280 ![] bcast_S_S4x2304x1280 main_cst
  let main_v3 : IVec S4x2304x1280 1 := cmpf .olt main_v1 main_v2
  let main_c : IVec S_ 1 := constantI S_ 1 1#1
  let main_v4 : IVec S_ 1 := (fun x v => Host.reduce IntOp.andi x v reducesTo_S4x2304x1280_S_d0_1_2 h_S_) main_v3 main_c
  let main_v5 : FVec F S2x8 .f32 := Host.absf main_arg2
  let main_cst_0 : FVec F S_ .f32 := constant S_ .f32 0x7F800000#32
  let main_v6 : FVec F S2x8 .f32 := broadcastInDim S2x8 ![] bcast_S_S2x8 main_cst_0
  let main_v7 : IVec S2x8 1 := cmpf .olt main_v5 main_v6
  let main_c_1 : IVec S_ 1 := constantI S_ 1 1#1
  let main_v8 : IVec S_ 1 := (fun x v => Host.reduce IntOp.andi x v reducesTo_S2x8_S_d0_1 h_S_) main_v7 main_c_1
  let main_v9 : IVec S_ 1 := andi main_v4 main_v8
  main_v9
-- ==== Kernel.lean ====
abbrev S4x2304x1280 : Shape := ⟨3, ![4, 2304, 1280]⟩
abbrev S4x2304x256 : Shape := ⟨3, ![4, 2304, 256]⟩
abbrev S2x8 : Shape := ⟨2, ![2, 8]⟩
abbrev S512 : Shape := ⟨1, ![512]⟩
abbrev S512x1 : Shape := ⟨2, ![512, 1]⟩
abbrev S_ : Shape := ⟨0, ![]⟩
abbrev S640 : Shape := ⟨1, ![640]⟩
abbrev S1x640 : Shape := ⟨2, ![1, 640]⟩
abbrev S512x640 : Shape := ⟨2, ![512, 640]⟩
abbrev S1x512x640 : Shape := ⟨3, ![1, 512, 640]⟩
abbrev S3x512x640 : Shape := ⟨3, ![3, 512, 640]⟩
abbrev S4x2048x1024 : Shape := ⟨3, ![4, 2048, 1024]⟩
abbrev S1x128x512 : Shape := ⟨3, ![1, 128, 512]⟩
abbrev S1x256x128 : Shape := ⟨3, ![1, 256, 128]⟩
abbrev S1x128x128 : Shape := ⟨3, ![1, 128, 128]⟩
abbrev S128x128 : Shape := ⟨2, ![128, 128]⟩
abbrev S512x128 : Shape := ⟨2, ![512, 128]⟩
abbrev S256x128 : Shape := ⟨2, ![256, 128]⟩
abbrev S640x128 : Shape := ⟨2, ![640, 128]⟩
abbrev S1x1 : Shape := ⟨2, ![1, 1]⟩

abbrev nBuf : Space → Nat
  | .hbm => 83
  | .vmem => 22
  | .smem => 1
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S2x8, .f32⟩
  | .hbm, ⟨3, _⟩ => ⟨S512, .i32⟩
  | .hbm, ⟨4, _⟩ => ⟨S512x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S_, .i32⟩
  | .hbm, ⟨20, _⟩ => ⟨S_, .i1⟩
  | .hbm, ⟨21, _⟩ => ⟨S512x1, .i1⟩
  | .hbm, ⟨22, _⟩ => ⟨S512x1, .i1⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S640, .i32⟩
  | .hbm, ⟨28, _⟩ => ⟨S1x640, .i32⟩
  | .hbm, ⟨29, _⟩ => ⟨S_, .i32⟩
  | .hbm, ⟨30, _⟩ => ⟨S1x640, .i32⟩
  | .hbm, ⟨31, _⟩ => ⟨S1x640, .i32⟩
  | .hbm, ⟨32, _⟩ => ⟨S_, .i32⟩
  | .hbm, ⟨33, _⟩ => ⟨S1x640, .i32⟩
  | .hbm, ⟨34, _⟩ => ⟨S1x640, .i32⟩
  | .hbm, ⟨35, _⟩ => ⟨S512x640, .i32⟩
  | .hbm, ⟨36, _⟩ => ⟨S512x640, .i32⟩
  | .hbm, ⟨37, _⟩ => ⟨S512x640, .i32⟩
  | .hbm, ⟨38, _⟩ => ⟨S512x640, .i32⟩
  | .hbm, ⟨39, _⟩ => ⟨S_, .i32⟩
  | .hbm, ⟨40, _⟩ => ⟨S512x640, .i32⟩
  | .hbm, ⟨41, _⟩ => ⟨S512x640, .i1⟩
  | .hbm, ⟨42, _⟩ => ⟨S_, .i32⟩
  | .hbm, ⟨43, _⟩ => ⟨S1x640, .i32⟩
  | .hbm, ⟨44, _⟩ => ⟨S1x640, .i1⟩
  | .hbm, ⟨45, _⟩ => ⟨S_, .i32⟩
  | .hbm, ⟨46, _⟩ => ⟨S1x640, .i32⟩
  | .hbm, ⟨47, _⟩ => ⟨S1x640, .i1⟩
  | .hbm, ⟨48, _⟩ => ⟨S_, .i32⟩
  | .hbm, ⟨49, _⟩ => ⟨S1x640, .i32⟩
  | .hbm, ⟨50, _⟩ => ⟨S1x640, .i1⟩
  | .hbm, ⟨51, _⟩ => ⟨S_, .i32⟩
  | .hbm, ⟨52, _⟩ => ⟨S1x640, .i32⟩
  | .hbm, ⟨53, _⟩ => ⟨S1x640, .i1⟩
  | .hbm, ⟨54, _⟩ => ⟨S512x640, .i1⟩
  | .hbm, ⟨55, _⟩ => ⟨S512x640, .i1⟩
  | .hbm, ⟨56, _⟩ => ⟨S512x640, .i1⟩
  | .hbm, ⟨57, _⟩ => ⟨S512x640, .i1⟩
  | .hbm, ⟨58, _⟩ => ⟨S_, .i32⟩
  | .hbm, ⟨59, _⟩ => ⟨S1x640, .i32⟩
  | .hbm, ⟨60, _⟩ => ⟨S1x640, .i1⟩
  | .hbm, ⟨61, _⟩ => ⟨S512x640, .i1⟩
  | .hbm, ⟨62, _⟩ => ⟨S512x640, .i1⟩
  | .hbm, ⟨63, _⟩ => ⟨S512x640, .i1⟩
  | .hbm, ⟨64, _⟩ => ⟨S512x640, .i1⟩
  | .hbm, ⟨65, _⟩ => ⟨S_, .i32⟩
  | .hbm, ⟨66, _⟩ => ⟨S1x640, .i32⟩
  | .hbm, ⟨67, _⟩ => ⟨S1x640, .i1⟩
  | .hbm, ⟨68, _⟩ => ⟨S512x640, .i1⟩
  | .hbm, ⟨69, _⟩ => ⟨S512x640, .i1⟩
  | .hbm, ⟨70, _⟩ => ⟨S512x640, .i1⟩
  | .hbm, ⟨71, _⟩ => ⟨S512x640, .i1⟩
  | .hbm, ⟨72, _⟩ => ⟨S1x512x640, .i1⟩
  | .hbm, ⟨73, _⟩ => ⟨S1x512x640, .i1⟩
  | .hbm, ⟨74, _⟩ => ⟨S1x512x640, .i1⟩
  | .hbm, ⟨75, _⟩ => ⟨S3x512x640, .i1⟩
  | .hbm, ⟨76, _⟩ => ⟨S_, .f32⟩
  | .hbm, ⟨77, _⟩ => ⟨S_, .f32⟩
  | .hbm, ⟨78, _⟩ => ⟨S3x512x640, .f32⟩
  | .hbm, ⟨79, _⟩ => ⟨S3x512x640, .f32⟩
  | .hbm, ⟨80, _⟩ => ⟨S3x512x640, .f32⟩
  | .hbm, ⟨81, _⟩ => ⟨S3x512x640, .f32⟩
  | .hbm, ⟨82, _⟩ => ⟨S4x2048x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x512x640, .f32⟩
  | .local _ .vmem, ⟨19, _⟩ => ⟨S1x512x640, .f32⟩
  | .local _ .vmem, ⟨20, _⟩ => ⟨S1x128x512, .bf16⟩
  | .local _ .vmem, ⟨21, _⟩ => ⟨S1x128x512, .bf16⟩
  | .local _ .smem, ⟨0, _⟩ => ⟨S2x8, .f32⟩
  | _, _ => ⟨S4x2304x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_7 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst : Ref sig .tc := ⟨.hbm, 76, rfl⟩
abbrev main_cst_9 : Ref sig .tc := ⟨.hbm, 77, rfl⟩
abbrev main_call1_v0 : Ref sig .tc := ⟨.hbm, 78, rfl⟩
abbrev main_call1_v1 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 2, 16], ![false, false, false]⟩

def k0_off1 (i : grid0.Coords) (c0_i32_42 : BitVec 32) : Fin 2 → Nat :=
  let c0_43 : Index := 0#32
  let arg1 : BitVec 32 := BitVec.ofNat 32 (i 1).val
  let c4_i32 : BitVec 32 := 4#32
  let v61 : BitVec 32 := Scalar.muli arg1 c4_i32
  let v62 : BitVec 32 := Scalar.addi v61 c0_i32_42
  let v63 : Index := Scalar.indexCast v62
  ![0, v63.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 v1
  let c8_i32 : BitVec 32 := 8#32
  let v3 : BitVec 32 := Scalar.addi c8_i32 arg1
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c8_i32 : BitVec 32 := 8#32
  let v1 : BitVec 32 := Scalar.addi c8_i32 arg1
  let c0_i32 : BitVec 32 := 0#32
  ![arg0.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c2_i32 : BitVec 32 := 2#32
  let v2 : BitVec 32 := Scalar.addi c2_i32 v1
  let c8_i32 : BitVec 32 := 8#32
  let v3 : BitVec 32 := Scalar.addi c8_i32 arg1
  let c0_i32 : BitVec 32 := 0#32
  ![arg0.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 v1
  let c0_i32_0 : BitVec 32 := 0#32
  ![arg0.toNat, v2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c2_i32 : BitVec 32 := 2#32
  let v2 : BitVec 32 := Scalar.addi c2_i32 v1
  let c0_i32 : BitVec 32 := 0#32
  ![arg0.toNat, v2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S4x2304x1280 : Shape := ⟨3, ![4, 2304, 1280]⟩
abbrev S4x2304x256 : Shape := ⟨3, ![4, 2304, 256]⟩
abbrev S2x8 : Shape := ⟨2, ![2, 8]⟩
abbrev S1x8 : Shape := ⟨2, ![1, 8]⟩
abbrev S8 : Shape := ⟨1, ![8]⟩
abbrev S4x2048x1024 : Shape := ⟨3, ![4, 2048, 1024]⟩
abbrev S4x2048x256 : Shape := ⟨3, ![4, 2048, 256]⟩
abbrev S4x2048x2x128 : Shape := ⟨4, ![4, 2048, 2, 128]⟩
abbrev S4x256x256 : Shape := ⟨3, ![4, 256, 256]⟩
abbrev S4x256x2x128 : Shape := ⟨4, ![4, 256, 2, 128]⟩
abbrev S4x16x128x2x4x128 : Shape := ⟨6, ![4, 16, 128, 2, 4, 128]⟩
abbrev S_ : Shape := ⟨0, ![]⟩
abbrev S4x2304x2x128 : Shape := ⟨4, ![4, 2304, 2, 128]⟩
abbrev S4x18x128x2x128 : Shape := ⟨5, ![4, 18, 128, 2, 128]⟩
abbrev S4x16x128x2x128 : Shape := ⟨5, ![4, 16, 128, 2, 128]⟩
abbrev S4x16x384x2x128 : Shape := ⟨5, ![4, 16, 384, 2, 128]⟩
abbrev S4x16x2x384x128x4 : Shape := ⟨6, ![4, 16, 2, 384, 128, 4]⟩
abbrev S4x16x2x4x128x384 : Shape := ⟨6, ![4, 16, 2, 4, 128, 384]⟩
abbrev S4x2x256x16x128x4 : Shape := ⟨6, ![4, 2, 256, 16, 128, 4]⟩
abbrev S4x16x2x4x128x256 : Shape := ⟨6, ![4, 16, 2, 4, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S1x16x1x1x128x384 : Shape := ⟨6, ![1, 16, 1, 1, 128, 384]⟩
abbrev S2x4 : Shape := ⟨2, ![2, 4]⟩
abbrev S2x4x1x1 : Shape := ⟨4, ![2, 4, 1, 1]⟩
abbrev S4x16x2x4x128x1 : Shape := ⟨6, ![4, 16, 2, 4, 128, 1]⟩
abbrev S4x16x2x4x128x641 : Shape := ⟨6, ![4, 16, 2, 4, 128, 641]⟩
abbrev S4x16x2x4x128 : Shape := ⟨5, ![4, 16, 2, 4, 128]⟩
abbrev S4x2x128x16x4x128 : Shape := ⟨6, ![4, 2, 128, 16, 4, 128]⟩
abbrev S4x16x2x128x4x128 : Shape := ⟨6, ![4, 16, 2, 128, 4, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S2x8, .f32⟩
  | .hbm, ⟨3, _⟩ => ⟨S4x2304x1280, .f32⟩
  | .hbm, ⟨4, _⟩ => ⟨S4x2304x256, .f32⟩
  | .hbm, ⟨5, _⟩ => ⟨S1x8, .f32⟩
  | .hbm, ⟨6, _⟩ => ⟨S8, .f32⟩
  | .hbm, ⟨7, _⟩ => ⟨S4x2048x1024, .f32⟩
  | .hbm, ⟨8, _⟩ => ⟨S4x2048x256, .f32⟩
  | .hbm, ⟨9, _⟩ => ⟨S4x2048x2x128, .f32⟩
  | .hbm, ⟨10, _⟩ => ⟨S4x256x256, .f32⟩
  | .hbm, ⟨11, _⟩ => ⟨S4x256x2x128, .f32⟩
  | .hbm, ⟨12, _⟩ => ⟨S4x256x256, .f32⟩
  | .hbm, ⟨13, _⟩ => ⟨S4x256x2x128, .f32⟩
  | .hbm, ⟨14, _⟩ => ⟨S4x2048x256, .f32⟩
  | .hbm, ⟨15, _⟩ => ⟨S4x2048x2x128, .f32⟩
  | .hbm, ⟨16, _⟩ => ⟨S4x16x128x2x4x128, .f32⟩
  | .hbm, ⟨17, _⟩ => ⟨S_, .i32⟩
  | .hbm, ⟨18, _⟩ => ⟨S_, .f32⟩
  | .hbm, ⟨19, _⟩ => ⟨S4x2304x2x128, .f32⟩
  | .hbm, ⟨20, _⟩ => ⟨S4x18x128x2x128, .f32⟩
  | .hbm, ⟨21, _⟩ => ⟨S4x16x128x2x128, .f32⟩
  | .hbm, ⟨22, _⟩ => ⟨S4x16x128x2x128, .f32⟩
  | .hbm, ⟨23, _⟩ => ⟨S4x16x128x2x128, .f32⟩
  | .hbm, ⟨24, _⟩ => ⟨S4x16x384x2x128, .f32⟩
  | .hbm, ⟨25, _⟩ => ⟨S_, .i32⟩
  | .hbm, ⟨26, _⟩ => ⟨S_, .f32⟩
  | .hbm, ⟨27, _⟩ => ⟨S4x2304x2x128, .f32⟩
  | .hbm, ⟨28, _⟩ => ⟨S4x18x128x2x128, .f32⟩
  | .hbm, ⟨29, _⟩ => ⟨S4x16x128x2x128, .f32⟩
  | .hbm, ⟨30, _⟩ => ⟨S4x16x128x2x128, .f32⟩
  | .hbm, ⟨31, _⟩ => ⟨S4x16x128x2x128, .f32⟩
  | .hbm, ⟨32, _⟩ => ⟨S4x16x384x2x128, .f32⟩
  | .hbm, ⟨33, _⟩ => ⟨S4x16x2x384x128x4, .f32⟩
  | .hbm, ⟨34, _⟩ => ⟨S4x16x2x4x128x384, .f32⟩
  | .hbm, ⟨35, _⟩ => ⟨S_, .f32⟩
  | .hbm, ⟨36, _⟩ => ⟨S4x16x2x4x128x384, .f32⟩
  | .hbm, ⟨37, _⟩ => ⟨S4x16x2x4x128x384, .f32⟩
  | .hbm, ⟨38, _⟩ => ⟨S4x2x256x16x128x4, .f32⟩
  | .hbm, ⟨39, _⟩ => ⟨S4x16x2x4x128x256, .f32⟩
  | .hbm, ⟨40, _⟩ => ⟨S_, .f32⟩
  | .hbm, ⟨41, _⟩ => ⟨S4x16x2x4x128x256, .f32⟩
  | .hbm, ⟨42, _⟩ => ⟨S4x16x2x4x128x256, .f32⟩
  | .hbm, ⟨43, _⟩ => ⟨S16, .i32⟩
  | .hbm, ⟨44, _⟩ => ⟨S16x1, .i32⟩
  | .hbm, ⟨45, _⟩ => ⟨S_, .i32⟩
  | .hbm, ⟨46, _⟩ => ⟨S16x1, .i32⟩
  | .hbm, ⟨47, _⟩ => ⟨S16x1, .i32⟩
  | .hbm, ⟨48, _⟩ => ⟨S128, .i32⟩
  | .hbm, ⟨49, _⟩ => ⟨S1x128, .i32⟩
  | .hbm, ⟨50, _⟩ => ⟨S16x128, .i32⟩
  | .hbm, ⟨51, _⟩ => ⟨S16x128, .i32⟩
  | .hbm, ⟨52, _⟩ => ⟨S16x128, .i32⟩
  | .hbm, ⟨53, _⟩ => ⟨S16, .i32⟩
  | .hbm, ⟨54, _⟩ => ⟨S16x1, .i32⟩
  | .hbm, ⟨55, _⟩ => ⟨S_, .i32⟩
  | .hbm, ⟨56, _⟩ => ⟨S16x1, .i32⟩
  | .hbm, ⟨57, _⟩ => ⟨S16x1, .i32⟩
  | .hbm, ⟨58, _⟩ => ⟨S_, .i32⟩
  | .hbm, ⟨59, _⟩ => ⟨S16x1, .i32⟩
  | .hbm, ⟨60, _⟩ => ⟨S16x1, .i32⟩
  | .hbm, ⟨61, _⟩ => ⟨S384, .i32⟩
  | .hbm, ⟨62, _⟩ => ⟨S1x384, .i32⟩
  | .hbm, ⟨63, _⟩ => ⟨S16x384, .i32⟩
  | .hbm, ⟨64, _⟩ => ⟨S16x384, .i32⟩
  | .hbm, ⟨65, _⟩ => ⟨S16x384, .i32⟩
  | .hbm, ⟨66, _⟩ => ⟨S16x1x384, .i32⟩
  | .hbm, ⟨67, _⟩ => ⟨S16x128x1, .i32⟩
  | .hbm, ⟨68, _⟩ => ⟨S16x128x384, .i32⟩
  | .hbm, ⟨69, _⟩ => ⟨S16x128x384, .i32⟩
  | .hbm, ⟨70, _⟩ => ⟨S16x128x384, .i32⟩
  | .hbm, ⟨71, _⟩ => ⟨S16x128x384, .i32⟩
  | .hbm, ⟨72, _⟩ => ⟨S_, .i32⟩
  | .hbm, ⟨73, _⟩ => ⟨S16x128x384, .i32⟩
  | .hbm, ⟨74, _⟩ => ⟨S16x128x384, .i1⟩
  | .hbm, ⟨75, _⟩ => ⟨S16x1x384, .i32⟩
  | .hbm, ⟨76, _⟩ => ⟨S_, .i32⟩
  | .hbm, ⟨77, _⟩ => ⟨S16x1x384, .i32⟩
  | .hbm, ⟨78, _⟩ => ⟨S16x1x384, .i1⟩
  | .hbm, ⟨79, _⟩ => ⟨S16x128x384, .i1⟩
  | .hbm, ⟨80, _⟩ => ⟨S16x128x384, .i1⟩
  | .hbm, ⟨81, _⟩ => ⟨S16x1x384, .i32⟩
  | .hbm, ⟨82, _⟩ => ⟨S_, .i32⟩
  | .hbm, ⟨83, _⟩ => ⟨S16x1x384, .i32⟩
  | .hbm, ⟨84, _⟩ => ⟨S16x1x384, .i1⟩
  | .hbm, ⟨85, _⟩ => ⟨S16x128x384, .i1⟩
  | .hbm, ⟨86, _⟩ => ⟨S16x128x384, .i1⟩
  | .hbm, ⟨87, _⟩ => ⟨S1x16x1x1x128x384, .i1⟩
  | .hbm, ⟨88, _⟩ => ⟨S_, .f32⟩
  | .hbm, ⟨89, _⟩ => ⟨S_, .f32⟩
  | .hbm, ⟨90, _⟩ => ⟨S4x16x2x4x128x384, .i1⟩
  | .hbm, ⟨91, _⟩ => ⟨S4x16x2x4x128x384, .f32⟩
  | .hbm, ⟨92, _⟩ => ⟨S4x16x2x4x128x384, .f32⟩
  | .hbm, ⟨93, _⟩ => ⟨S2x4, .f32⟩
  | .hbm, ⟨94, _⟩ => ⟨S2x4x1x1, .f32⟩
  | .hbm, ⟨95, _⟩ => ⟨S4x16x2x4x128x1, .f32⟩
  | .hbm, ⟨96, _⟩ => ⟨S4x16x2x4x128x641, .f32⟩
  | .hbm, ⟨97, _⟩ => ⟨S_, .f32⟩
  | .hbm, ⟨98, _⟩ => ⟨S4x16x2x4x128, .f32⟩
  | .hbm, ⟨99, _⟩ => ⟨S_, .f32⟩
  | .hbm, ⟨100, _⟩ => ⟨S4x16x2x4x128, .f32⟩
  | .hbm, ⟨101, _⟩ => ⟨S4x16x2x4x128, .f32⟩
  | .hbm, ⟨102, _⟩ => ⟨S4x16x2x4x128x1, .f32⟩
  | .hbm, ⟨103, _⟩ => ⟨S4x16x2x4x128x641, .f32⟩
  | .hbm, ⟨104, _⟩ => ⟨S4x16x2x4x128x641, .f32⟩
  | .hbm, ⟨105, _⟩ => ⟨S4x16x2x4x128x641, .f32⟩
  | .hbm, ⟨106, _⟩ => ⟨S_, .f32⟩
  | .hbm, ⟨107, _⟩ => ⟨S4x16x2x4x128, .f32⟩
  | .hbm, ⟨108, _⟩ => ⟨S4x16x2x4x128x1, .f32⟩
  | .hbm, ⟨109, _⟩ => ⟨S4x16x2x4x128x641, .f32⟩
  | .hbm, ⟨110, _⟩ => ⟨S4x16x2x4x128x641, .f32⟩
  | .hbm, ⟨111, _⟩ => ⟨S4x16x2x4x128x256, .f32⟩
  | .hbm, ⟨112, _⟩ => ⟨S4x2x128x16x4x128, .f32⟩
  | .hbm, ⟨113, _⟩ => ⟨S4x16x128x2x4x128, .f32⟩
  | .hbm, ⟨114, _⟩ => ⟨S4x16x2x4x128x384, .f32⟩
  | .hbm, ⟨115, _⟩ => ⟨S4x16x2x128x4x128, .f32⟩
  | .hbm, ⟨116, _⟩ => ⟨S4x16x128x2x4x128, .f32⟩
  | .hbm, ⟨117, _⟩ => ⟨S4x16x128x2x4x128, .f32⟩
  | .hbm, ⟨118, _⟩ => ⟨S4x2048x1024, .f32⟩
  | .hbm, ⟨119, _⟩ => ⟨S4x2048x1024, .bf16⟩
  | _, _ => ⟨S4x2304x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_3 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c_5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_11 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩

abbrev nD : Nat := 1
abbrev τ : Topo := Topo.v7x

variable {F : FTy → Type} [FloatOps F]
-- ==== Kernel2.lean ====
abbrev S4x2304x2048 : Shape := ⟨3, ![4, 2304, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S4x1x5632 : Shape := ⟨3, ![4, 1, 5632]⟩
abbrev S4x2304x5632 : Shape := ⟨3, ![4, 2304, 5632]⟩
abbrev S1x2304x2048 : Shape := ⟨3, ![1, 2304, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x2304x512 : Shape := ⟨3, ![1, 2304, 512]⟩
abbrev S2304x2048 : Shape := ⟨2, ![2304, 2048]⟩
abbrev S1x2048x256 : Shape := ⟨3, ![1, 2048, 256]⟩
abbrev S2048x256 : Shape := ⟨2, ![2048, 256]⟩
abbrev S2304x256 : Shape := ⟨2, ![2304, 256]⟩
abbrev S1x3x256 : Shape := ⟨3, ![1, 3, 256]⟩
abbrev S3x256 : Shape := ⟨2, ![3, 256]⟩
abbrev S288x8x256 : Shape := ⟨3, ![288, 8, 256]⟩
abbrev S1x8x256 : Shape := ⟨3, ![1, 8, 256]⟩
abbrev S1x256 : Shape := ⟨2, ![1, 256]⟩
abbrev S1x1x256 : Shape := ⟨3, ![1, 1, 256]⟩
abbrev S31x8x256 : Shape := ⟨3, ![31, 8, 256]⟩
abbrev S255x8x256 : Shape := ⟨3, ![255, 8, 256]⟩
abbrev S1x2304x256 : Shape := ⟨3, ![1, 2304, 256]⟩

abbrev nBuf : Space → Nat
  | .hbm => 6
  | .vmem => 11
  | .smem => 0
  | _ => 0

abbrev bufTy : (tb : Table) → Fin (tcTables nBuf tb) → BufTy
  | .hbm, ⟨0, _⟩ => ⟨S4x2304x2048, .bf16⟩
  | .hbm, ⟨1, _⟩ => ⟨S4x2048x11264, .f32⟩
  | .hbm, ⟨2, _⟩ => ⟨S4x3x5632, .f32⟩
  | .hbm, ⟨3, _⟩ => ⟨S4x5632, .f32⟩
  | .hbm, ⟨4, _⟩ => ⟨S4x1x5632, .f32⟩
  | .hbm, ⟨5, _⟩ => ⟨S4x2304x5632, .bf16⟩
  | .local _ .vmem, ⟨0, _⟩ => ⟨S1x2304x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x3x512, .f32⟩
  | .local _ .vmem, ⟨6, _⟩ => ⟨S1x3x512, .f32⟩
  | .local _ .vmem, ⟨7, _⟩ => ⟨S1x1x512, .f32⟩
  | .local _ .vmem, ⟨8, _⟩ => ⟨S1x1x512, .f32⟩
  | .local _ .vmem, ⟨9, _⟩ => ⟨S1x2304x512, .bf16⟩
  | .local _ .vmem, ⟨10, _⟩ => ⟨S1x2304x512, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x2304x2048 : Shape := ⟨3, ![4, 2304, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S1x2048x11264 : Shape := ⟨3, ![1, 2048, 11264]⟩
abbrev S2048x11264 : Shape := ⟨2, ![2048, 11264]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S4x256x2048 : Shape := ⟨3, ![4, 256, 2048]⟩
abbrev S4x256x11264 : Shape := ⟨3, ![4, 256, 11264]⟩
abbrev S4x256x5632 : Shape := ⟨3, ![4, 256, 5632]⟩
abbrev S_ : Shape := ⟨0, ![]⟩
abbrev S4x258x5632 : Shape := ⟨3, ![4, 258, 5632]⟩
abbrev S1x1x5632 : Shape := ⟨3, ![1, 1, 5632]⟩
abbrev S4x2048x2048 : Shape := ⟨3, ![4, 2048, 2048]⟩
abbrev S4x2048x5632 : Shape := ⟨3, ![4, 2048, 5632]⟩
abbrev S4x2050x5632 : Shape := ⟨3, ![4, 2050, 5632]⟩
abbrev S4x2304x5632 : Shape := ⟨3, ![4, 2304, 5632]⟩

abbrev nBuf : Space → Nat
  | .hbm => 93
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S4x2048x11264, .f32⟩
  | .hbm, ⟨2, _⟩ => ⟨S4x3x5632, .f32⟩
  | .hbm, ⟨3, _⟩ => ⟨S4x5632, .f32⟩
  | .hbm, ⟨4, _⟩ => ⟨S4x2304x2048, .f32⟩
  | .hbm, ⟨5, _⟩ => ⟨S1x2048x11264, .f32⟩
  | .hbm, ⟨6, _⟩ => ⟨S2048x11264, .f32⟩
  | .hbm, ⟨7, _⟩ => ⟨S1x3x5632, .f32⟩
  | .hbm, ⟨8, _⟩ => ⟨S3x5632, .f32⟩
  | .hbm, ⟨9, _⟩ => ⟨S1x5632, .f32⟩
  | .hbm, ⟨10, _⟩ => ⟨S5632, .f32⟩
  | .hbm, ⟨11, _⟩ => ⟨S4x256x2048, .f32⟩
  | .hbm, ⟨12, _⟩ => ⟨S4x256x11264, .f32⟩
  | .hbm, ⟨13, _⟩ => ⟨S4x256x5632, .f32⟩
  | .hbm, ⟨14, _⟩ => ⟨S4x256x5632, .f32⟩
  | .hbm, ⟨15, _⟩ => ⟨S_, .i32⟩
  | .hbm, ⟨16, _⟩ => ⟨S_, .f32⟩
  | .hbm, ⟨17, _⟩ => ⟨S4x258x5632, .f32⟩
  | .hbm, ⟨18, _⟩ => ⟨S4x256x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x256x5632, .f32⟩
  | .hbm, ⟨23, _⟩ => ⟨S4x256x5632, .f32⟩
  | .hbm, ⟨24, _⟩ => ⟨S4x256x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x256x5632, .f32⟩
  | .hbm, ⟨29, _⟩ => ⟨S4x256x5632, .f32⟩
  | .hbm, ⟨30, _⟩ => ⟨S4x256x5632, .f32⟩
  | .hbm, ⟨31, _⟩ => ⟨S4x256x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S4x256x5632, .f32⟩
  | .hbm, ⟨36, _⟩ => ⟨S4x256x5632, .f32⟩
  | .hbm, ⟨37, _⟩ => ⟨S4x256x5632, .f32⟩
  | .hbm, ⟨38, _⟩ => ⟨S1x1x5632, .f32⟩
  | .hbm, ⟨39, _⟩ => ⟨S4x256x5632, .f32⟩
  | .hbm, ⟨40, _⟩ => ⟨S4x256x5632, .f32⟩
  | .hbm, ⟨41, _⟩ => ⟨S4x256x5632, .f32⟩
  | .hbm, ⟨42, _⟩ => ⟨S4x256x5632, .f32⟩
  | .hbm, ⟨43, _⟩ => ⟨S_, .f32⟩
  | .hbm, ⟨44, _⟩ => ⟨S4x256x5632, .f32⟩
  | .hbm, ⟨45, _⟩ => ⟨S4x256x5632, .f32⟩
  | .hbm, ⟨46, _⟩ => ⟨S_, .f32⟩
  | .hbm, ⟨47, _⟩ => ⟨S4x256x5632, .f32⟩
  | .hbm, ⟨48, _⟩ => ⟨S4x256x5632, .f32⟩
  | .hbm, ⟨49, _⟩ => ⟨S4x256x5632, .f32⟩
  | .hbm, ⟨50, _⟩ => ⟨S4x256x5632, .f32⟩
  | .hbm, ⟨51, _⟩ => ⟨S4x2048x2048, .f32⟩
  | .hbm, ⟨52, _⟩ => ⟨S4x2048x11264, .f32⟩
  | .hbm, ⟨53, _⟩ => ⟨S4x2048x5632, .f32⟩
  | .hbm, ⟨54, _⟩ => ⟨S4x2048x5632, .f32⟩
  | .hbm, ⟨55, _⟩ => ⟨S_, .i32⟩
  | .hbm, ⟨56, _⟩ => ⟨S_, .f32⟩
  | .hbm, ⟨57, _⟩ => ⟨S4x2050x5632, .f32⟩
  | .hbm, ⟨58, _⟩ => ⟨S4x2048x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S4x2048x5632, .f32⟩
  | .hbm, ⟨69, _⟩ => ⟨S4x2048x5632, .f32⟩
  | .hbm, ⟨70, _⟩ => ⟨S4x2048x5632, .f32⟩
  | .hbm, ⟨71, _⟩ => ⟨S4x2048x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S4x2048x5632, .f32⟩
  | .hbm, ⟨76, _⟩ => ⟨S4x2048x5632, .f32⟩
  | .hbm, ⟨77, _⟩ => ⟨S4x2048x5632, .f32⟩
  | .hbm, ⟨78, _⟩ => ⟨S1x1x5632, .f32⟩
  | .hbm, ⟨79, _⟩ => ⟨S4x2048x5632, .f32⟩
  | .hbm, ⟨80, _⟩ => ⟨S4x2048x5632, .f32⟩
  | .hbm, ⟨81, _⟩ => ⟨S4x2048x5632, .f32⟩
  | .hbm, ⟨82, _⟩ => ⟨S4x2048x5632, .f32⟩
  | .hbm, ⟨83, _⟩ => ⟨S_, .f32⟩
  | .hbm, ⟨84, _⟩ => ⟨S4x2048x5632, .f32⟩
  | .hbm, ⟨85, _⟩ => ⟨S4x2048x5632, .f32⟩
  | .hbm, ⟨86, _⟩ => ⟨S_, .f32⟩
  | .hbm, ⟨87, _⟩ => ⟨S4x2048x5632, .f32⟩
  | .hbm, ⟨88, _⟩ => ⟨S4x2048x5632, .f32⟩
  | .hbm, ⟨89, _⟩ => ⟨S4x2048x5632, .f32⟩
  | .hbm, ⟨90, _⟩ => ⟨S4x2048x5632, .f32⟩
  | .hbm, ⟨91, _⟩ => ⟨S4x2304x5632, .f32⟩
  | .hbm, ⟨92, _⟩ => ⟨S4x2304x5632, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_0 : Ref sig .tc := ⟨.hbm, 55, rfl⟩
abbrev main_call2_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel3.lean ====
abbrev S4x2304x5632 : Shape := ⟨3, ![4, 2304, 5632]⟩
abbrev S4x5632x2048 : Shape := ⟨3, ![4, 5632, 2048]⟩
abbrev S4x2304x2048 : Shape := ⟨3, ![4, 2304, 2048]⟩
abbrev S8x2048 : Shape := ⟨2, ![8, 2048]⟩
abbrev S9216x5632 : Shape := ⟨2, ![9216, 5632]⟩
abbrev S9216x2048 : Shape := ⟨2, ![9216, 2048]⟩
abbrev S1152x5632 : Shape := ⟨2, ![1152, 5632]⟩
abbrev S1x5632x256 : Shape := ⟨3, ![1, 5632, 256]⟩
abbrev S1152x256 : Shape := ⟨2, ![1152, 256]⟩
abbrev S8x256 : Shape := ⟨2, ![8, 256]⟩
abbrev S5632x256 : Shape := ⟨2, ![5632, 256]⟩
abbrev S1152x1 : Shape := ⟨2, ![1152, 1]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S4x2304x5632, .bf16⟩
  | .hbm, ⟨1, _⟩ => ⟨S4x5632x2048, .f32⟩
  | .hbm, ⟨2, _⟩ => ⟨S4x2304x2048, .f32⟩
  | .hbm, ⟨3, _⟩ => ⟨S8x2048, .f32⟩
  | .hbm, ⟨4, _⟩ => ⟨S9216x5632, .bf16⟩
  | .hbm, ⟨5, _⟩ => ⟨S9216x2048, .f32⟩
  | .hbm, ⟨6, _⟩ => ⟨S9216x2048, .f32⟩
  | .local _ .vmem, ⟨0, _⟩ => ⟨S1152x5632, .bf16⟩
  | .local _ .vmem, ⟨1, _⟩ => ⟨S1152x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1152x256, .f32⟩
  | .local _ .vmem, ⟨5, _⟩ => ⟨S1152x256, .f32⟩
  | .local _ .vmem, ⟨6, _⟩ => ⟨S8x256, .f32⟩
  | .local _ .vmem, ⟨7, _⟩ => ⟨S8x256, .f32⟩
  | .local _ .vmem, ⟨8, _⟩ => ⟨S1152x256, .f32⟩
  | .local _ .vmem, ⟨9, _⟩ => ⟨S1152x256, .f32⟩
  | _, _ => ⟨S4x2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_4 : BitVec 32 := 0#32
  let v9 : BitVec 1 := Scalar.cmpi .slt arg0 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg0 c2_i32
  let c0_i32_7 : BitVec 32 := 0#32
  let v19 : BitVec 1 := Scalar.cmpi .ne v18 c0_i32_7
  let v20 : BitVec 1 := Scalar.andi v17 v19
  let v6 : BitVec 32 := Scalar.divsi arg0 c2_i32
  let c1_i32 : BitVec 32 := 1#32
  let v21 : BitVec 32 := Scalar.subi v6 c1_i32
  let v22 : BitVec 32 := Scalar.select v20 v21 v6
  let v40 : Index := Scalar.indexCast v22
  let c0_15 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x2304x5632 : Shape := ⟨3, ![4, 2304, 5632]⟩
abbrev S4x5632x2048 : Shape := ⟨3, ![4, 5632, 2048]⟩
abbrev S4x2304x2048 : Shape := ⟨3, ![4, 2304, 2048]⟩
abbrev S8x2048 : Shape := ⟨2, ![8, 2048]⟩
abbrev S1x5632x2048 : Shape := ⟨3, ![1, 5632, 2048]⟩
abbrev S5632x2048 : Shape := ⟨2, ![5632, 2048]⟩
abbrev S4x256x2048 : Shape := ⟨3, ![4, 256, 2048]⟩
abbrev S1x2048 : Shape := ⟨2, ![1, 2048]⟩
abbrev S2048 : Shape := ⟨1, ![2048]⟩
abbrev S4x256x5632 : Shape := ⟨3, ![4, 256, 5632]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4x2048x5632 : Shape := ⟨3, ![4, 2048, 5632]⟩
abbrev S9216x2048 : Shape := ⟨2, ![9216, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2304x5632, .bf16⟩
  | .hbm, ⟨1, _⟩ => ⟨S4x5632x2048, .f32⟩
  | .hbm, ⟨2, _⟩ => ⟨S4x2304x2048, .f32⟩
  | .hbm, ⟨3, _⟩ => ⟨S8x2048, .f32⟩
  | .hbm, ⟨4, _⟩ => ⟨S4x2304x5632, .f32⟩
  | .hbm, ⟨5, _⟩ => ⟨S1x5632x2048, .f32⟩
  | .hbm, ⟨6, _⟩ => ⟨S5632x2048, .f32⟩
  | .hbm, ⟨7, _⟩ => ⟨S4x256x2048, .f32⟩
  | .hbm, ⟨8, _⟩ => ⟨S1x2048, .f32⟩
  | .hbm, ⟨9, _⟩ => ⟨S2048, .f32⟩
  | .hbm, ⟨10, _⟩ => ⟨S4x256x5632, .f32⟩
  | .hbm, ⟨11, _⟩ => ⟨S4x256x2048, .f32⟩
  | .hbm, ⟨12, _⟩ => ⟨S1x1x2048, .f32⟩
  | .hbm, ⟨13, _⟩ => ⟨S4x256x2048, .f32⟩
  | .hbm, ⟨14, _⟩ => ⟨S4x256x2048, .f32⟩
  | .hbm, ⟨15, _⟩ => ⟨S4x256x2048, .f32⟩
  | .hbm, ⟨16, _⟩ => ⟨S4x2048x2048, .f32⟩
  | .hbm, ⟨17, _⟩ => ⟨S4x2048, .f32⟩
  | .hbm, ⟨18, _⟩ => ⟨S4x1x2048, .f32⟩
  | .hbm, ⟨19, _⟩ => ⟨S4x2048x5632, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2304x2048, .f32⟩
  | .hbm, ⟨25, _⟩ => ⟨S9216x2048, .f32⟩
  | _, _ => ⟨S4x2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel4.lean ====
abbrev S4x2304x2048 : Shape := ⟨3, ![4, 2304, 2048]⟩
abbrev S2x2048x12416 : Shape := ⟨3, ![2, 2048, 12416]⟩
abbrev S2x5x8192 : Shape := ⟨3, ![2, 5, 8192]⟩
abbrev S4x2304x4096 : Shape := ⟨3, ![4, 2304, 4096]⟩
abbrev S1x2304x2048 : Shape := ⟨3, ![1, 2304, 2048]⟩
abbrev S1x2048x512 : Shape := ⟨3, ![1, 2048, 512]⟩
abbrev S1x5x512 : Shape := ⟨3, ![1, 5, 512]⟩
abbrev S1x2304x512 : Shape := ⟨3, ![1, 2304, 512]⟩
abbrev S2304x2048 : Shape := ⟨2, ![2304, 2048]⟩
abbrev S1x2048x256 : Shape := ⟨3, ![1, 2048, 256]⟩
abbrev S2048x256 : Shape := ⟨2, ![2048, 256]⟩
abbrev S2304x256 : Shape := ⟨2, ![2304, 256]⟩
abbrev S1x5x256 : Shape := ⟨3, ![1, 5, 256]⟩
abbrev S5x256 : Shape := ⟨2, ![5, 256]⟩
abbrev S288x8x256 : Shape := ⟨3, ![288, 8, 256]⟩
abbrev S1x8x256 : Shape := ⟨3, ![1, 8, 256]⟩
abbrev S1x256 : Shape := ⟨2, ![1, 256]⟩
abbrev S1x1x256 : Shape := ⟨3, ![1, 1, 256]⟩
abbrev S31x8x256 : Shape := ⟨3, ![31, 8, 256]⟩
abbrev S255x8x256 : Shape := ⟨3, ![255, 8, 256]⟩
abbrev S2304x128 : Shape := ⟨2, ![2304, 128]⟩
abbrev S2304 : Shape := ⟨1, ![2304]⟩
abbrev S2304x1 : Shape := ⟨2, ![2304, 1]⟩
abbrev S1x2304x128 : Shape := ⟨3, ![1, 2304, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x12416, .f32⟩
  | .hbm, ⟨2, _⟩ => ⟨S2x5x8192, .f32⟩
  | .hbm, ⟨3, _⟩ => ⟨S4x2304x4096, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x5x512, .f32⟩
  | .local _ .vmem, ⟨5, _⟩ => ⟨S1x5x512, .f32⟩
  | .local _ .vmem, ⟨6, _⟩ => ⟨S1x2304x512, .bf16⟩
  | .local _ .vmem, ⟨7, _⟩ => ⟨S1x2304x512, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2304x2048 : Shape := ⟨3, ![4, 2304, 2048]⟩
abbrev S2x2048x12416 : Shape := ⟨3, ![2, 2048, 12416]⟩
abbrev S2x5x8192 : Shape := ⟨3, ![2, 5, 8192]⟩
abbrev S1x2048x12416 : Shape := ⟨3, ![1, 2048, 12416]⟩
abbrev S2048x12416 : Shape := ⟨2, ![2048, 12416]⟩
abbrev S2048x4096 : Shape := ⟨2, ![2048, 4096]⟩
abbrev S1x5x8192 : Shape := ⟨3, ![1, 5, 8192]⟩
abbrev S5x8192 : Shape := ⟨2, ![5, 8192]⟩
abbrev S5x4096 : Shape := ⟨2, ![5, 4096]⟩
abbrev S4x256x2048 : Shape := ⟨3, ![4, 256, 2048]⟩
abbrev S4x256x4096 : Shape := ⟨3, ![4, 256, 4096]⟩
abbrev S_ : Shape := ⟨0, ![]⟩
abbrev S4x260x4096 : Shape := ⟨3, ![4, 260, 4096]⟩
abbrev S1x4096 : Shape := ⟨2, ![1, 4096]⟩
abbrev S4096 : Shape := ⟨1, ![4096]⟩
abbrev S1x1x4096 : Shape := ⟨3, ![1, 1, 4096]⟩
abbrev S4x256x16x128 : Shape := ⟨4, ![4, 256, 16, 128]⟩
abbrev S4x256x16 : Shape := ⟨3, ![4, 256, 16]⟩
abbrev S4x256x16x1 : Shape := ⟨4, ![4, 256, 16, 1]⟩
abbrev S4x2048x2048 : Shape := ⟨3, ![4, 2048, 2048]⟩
abbrev S4x2048x4096 : Shape := ⟨3, ![4, 2048, 4096]⟩
abbrev S4x2052x4096 : Shape := ⟨3, ![4, 2052, 4096]⟩
abbrev S4x2048x16x128 : Shape := ⟨4, ![4, 2048, 16, 128]⟩
abbrev S4x2048x16 : Shape := ⟨3, ![4, 2048, 16]⟩
abbrev S4x2048x16x1 : Shape := ⟨4, ![4, 2048, 16, 1]⟩
abbrev S4x2304x4096 : Shape := ⟨3, ![4, 2304, 4096]⟩

abbrev nBuf : Space → Nat
  | .hbm => 168
  | .vmem => 0
  | .smem => 0
  | _ => 0

abbrev hbmTy0_0 (i : Nat) : BufTy := match i % 128 with
  | 0 => ⟨S4x2304x2048, .bf16⟩
  | 1 => ⟨S2x2048x12416, .f32⟩
  | 2 => ⟨S2x5x8192, .f32⟩
  | 3 => ⟨S4x2304x2048, .f32⟩
  | 4 => ⟨S1x2048x12416, .f32⟩
  | 5 => ⟨S2048x12416, .f32⟩
  | 6 => ⟨S2048x4096, .f32⟩
  | 7 => ⟨S1x5x8192, .f32⟩
  | 8 => ⟨S5x8192, .f32⟩
  | 9 => ⟨S5x4096, .f32⟩
  | 10 => ⟨S4x256x2048, .f32⟩
  | 11 => ⟨S4x256x4096, .f32⟩
  | 12 => ⟨S_, .i32⟩
  | 13 => ⟨S_, .f32⟩
  | 14 => ⟨S4x260x4096, .f32⟩
  | 15 => ⟨S4x256x4096, .f32⟩
  | 16 => ⟨S1x4096, .f32⟩
  | 17 => ⟨S4096, .f32⟩
  | 18 => ⟨S1x1x4096, .f32⟩
  | 19 => ⟨S4x256x4096, .f32⟩
  | 20 => ⟨S4x256x4096, .f32⟩
  | 21 => ⟨S4x256x4096, .f32⟩
  | 22 => ⟨S1x4096, .f32⟩
  | 23 => ⟨S4096, .f32⟩
  | 24 => ⟨S1x1x4096, .f32⟩
  | 25 => ⟨S4x256x4096, .f32⟩
  | 26 => ⟨S4x256x4096, .f32⟩
  | 27 => ⟨S4x256x4096, .f32⟩
  | 28 => ⟨S4x256x4096, .f32⟩
  | 29 => ⟨S1x4096, .f32⟩
  | 30 => ⟨S4096, .f32⟩
  | 31 => ⟨S1x1x4096, .f32⟩
  | 32 => ⟨S4x256x4096, .f32⟩
  | 33 => ⟨S4x256x4096, .f32⟩
  | 34 => ⟨S4x256x4096, .f32⟩
  | 35 => ⟨S4x256x4096, .f32⟩
  | 36 => ⟨S1x4096, .f32⟩
  | 37 => ⟨S4096, .f32⟩
  | 38 => ⟨S1x1x4096, .f32⟩
  | 39 => ⟨S4x256x4096, .f32⟩
  | 40 => ⟨S4x256x4096, .f32⟩
  | 41 => ⟨S4x256x4096, .f32⟩
  | 42 => ⟨S4x256x4096, .f32⟩
  | 43 => ⟨S1x4096, .f32⟩
  | 44 => ⟨S4096, .f32⟩
  | 45 => ⟨S1x1x4096, .f32⟩
  | 46 => ⟨S4x256x4096, .f32⟩
  | 47 => ⟨S4x256x4096, .f32⟩
  | 48 => ⟨S4x256x4096, .f32⟩
  | 49 => ⟨S4x256x4096, .f32⟩
  | 50 => ⟨S4x256x4096, .f32⟩
  | 51 => ⟨S_, .f32⟩
  | 52 => ⟨S4x256x4096, .f32⟩
  | 53 => ⟨S4x256x4096, .f32⟩
  | 54 => ⟨S_, .f32⟩
  | 55 => ⟨S4x256x4096, .f32⟩
  | 56 => ⟨S4x256x4096, .f32⟩
  | 57 => ⟨S4x256x4096, .f32⟩
  | 58 => ⟨S4x256x2048, .f32⟩
  | 59 => ⟨S4x256x16x128, .f32⟩
  | 60 => ⟨S4x256x16x128, .f32⟩
  | 61 => ⟨S_, .f32⟩
  | 62 => ⟨S4x256x16, .f32⟩
  | 63 => ⟨S4x256x16x1, .f32⟩
  | 64 => ⟨S_, .f32⟩
  | 65 => ⟨S4x256x16x1, .f32⟩
  | 66 => ⟨S4x256x16x1, .f32⟩
  | 67 => ⟨S4x256x16x1, .f32⟩
  | 68 => ⟨S4x256x16x128, .f32⟩
  | 69 => ⟨S4x256x16x128, .f32⟩
  | 70 => ⟨S_, .f32⟩
  | 71 => ⟨S4x256x16x128, .f32⟩
  | 72 => ⟨S4x256x16x128, .f32⟩
  | 73 => ⟨S4x256x2048, .f32⟩
  | 74 => ⟨S4x256x16x128, .f32⟩
  | 75 => ⟨S4x256x16x128, .f32⟩
  | 76 => ⟨S_, .f32⟩
  | 77 => ⟨S4x256x16, .f32⟩
  | 78 => ⟨S4x256x16x1, .f32⟩
  | 79 => ⟨S_, .f32⟩
  | 80 => ⟨S4x256x16x1, .f32⟩
  | 81 => ⟨S4x256x16x1, .f32⟩
  | 82 => ⟨S4x256x16x1, .f32⟩
  | 83 => ⟨S4x256x16x128, .f32⟩
  | 84 => ⟨S4x256x16x128, .f32⟩
  | 85 => ⟨S4x256x2048, .f32⟩
  | 86 => ⟨S4x256x2048, .f32⟩
  | 87 => ⟨S4x256x4096, .f32⟩
  | 88 => ⟨S4x2048x2048, .f32⟩
  | 89 => ⟨S4x2048x4096, .f32⟩
  | 90 => ⟨S_, .i32⟩
  | 91 => ⟨S_, .f32⟩
  | 92 => ⟨S4x2052x4096, .f32⟩
  | 93 => ⟨S4x2048x4096, .f32⟩
  | 94 => ⟨S1x4096, .f32⟩
  | 95 => ⟨S4096, .f32⟩
  | 96 => ⟨S1x1x4096, .f32⟩
  | 97 => ⟨S4x2048x4096, .f32⟩
  | 98 => ⟨S4x2048x4096, .f32⟩
  | 99 => ⟨S4x2048x4096, .f32⟩
  | 100 => ⟨S1x4096, .f32⟩
  | 101 => ⟨S4096, .f32⟩
  | 102 => ⟨S1x1x4096, .f32⟩
  | 103 => ⟨S4x2048x4096, .f32⟩
  | 104 => ⟨S4x2048x4096, .f32⟩
  | 105 => ⟨S4x2048x4096, .f32⟩
  | 106 => ⟨S4x2048x4096, .f32⟩
  | 107 => ⟨S1x4096, .f32⟩
  | 108 => ⟨S4096, .f32⟩
  | 109 => ⟨S1x1x4096, .f32⟩
  | 110 => ⟨S4x2048x4096, .f32⟩
  | 111 => ⟨S4x2048x4096, .f32⟩
  | 112 => ⟨S4x2048x4096, .f32⟩
  | 113 => ⟨S4x2048x4096, .f32⟩
  | 114 => ⟨S1x4096, .f32⟩
  | 115 => ⟨S4096, .f32⟩
  | 116 => ⟨S1x1x4096, .f32⟩
  | 117 => ⟨S4x2048x4096, .f32⟩
  | 118 => ⟨S4x2048x4096, .f32⟩
  | 119 => ⟨S4x2048x4096, .f32⟩
  | 120 => ⟨S4x2048x4096, .f32⟩
  | 121 => ⟨S1x4096, .f32⟩
  | 122 => ⟨S4096, .f32⟩
  | 123 => ⟨S1x1x4096, .f32⟩
  | 124 => ⟨S4x2048x4096, .f32⟩
  | 125 => ⟨S4x2048x4096, .f32⟩
  | 126 => ⟨S4x2048x4096, .f32⟩
  | 127 => ⟨S4x2048x4096, .f32⟩
  | _ => ⟨S4x2304x2048, .bf16⟩

abbrev hbmTy0_1 (i : Nat) : BufTy := match i % 128 with
  | 0 => ⟨S4x2048x4096, .f32⟩
  | 1 => ⟨S_, .f32⟩
  | 2 => ⟨S4x2048x4096, .f32⟩
  | 3 => ⟨S4x2048x4096, .f32⟩
  | 4 => ⟨S_, .f32⟩
  | 5 => ⟨S4x2048x4096, .f32⟩
  | 6 => ⟨S4x2048x4096, .f32⟩
  | 7 => ⟨S4x2048x4096, .f32⟩
  | 8 => ⟨S4x2048x2048, .f32⟩
  | 9 => ⟨S4x2048x16x128, .f32⟩
  | 10 => ⟨S4x2048x16x128, .f32⟩
  | 11 => ⟨S_, .f32⟩
  | 12 => ⟨S4x2048x16, .f32⟩
  | 13 => ⟨S4x2048x16x1, .f32⟩
  | 14 => ⟨S_, .f32⟩
  | 15 => ⟨S4x2048x16x1, .f32⟩
  | 16 => ⟨S4x2048x16x1, .f32⟩
  | 17 => ⟨S4x2048x16x1, .f32⟩
  | 18 => ⟨S4x2048x16x128, .f32⟩
  | 19 => ⟨S4x2048x16x128, .f32⟩
  | 20 => ⟨S_, .f32⟩
  | 21 => ⟨S4x2048x16x128, .f32⟩
  | 22 => ⟨S4x2048x16x128, .f32⟩
  | 23 => ⟨S4x2048x2048, .f32⟩
  | 24 => ⟨S4x2048x16x128, .f32⟩
  | 25 => ⟨S4x2048x16x128, .f32⟩
  | 26 => ⟨S_, .f32⟩
  | 27 => ⟨S4x2048x16, .f32⟩
  | 28 => ⟨S4x2048x16x1, .f32⟩
  | 29 => ⟨S_, .f32⟩
  | 30 => ⟨S4x2048x16x1, .f32⟩
  | 31 => ⟨S4x2048x16x1, .f32⟩
  | 32 => ⟨S4x2048x16x1, .f32⟩
  | 33 => ⟨S4x2048x16x128, .f32⟩
  | 34 => ⟨S4x2048x16x128, .f32⟩
  | 35 => ⟨S4x2048x2048, .f32⟩
  | 36 => ⟨S4x2048x2048, .f32⟩
  | 37 => ⟨S4x2048x4096, .f32⟩
  | 38 => ⟨S4x2304x4096, .f32⟩
  | 39 => ⟨S4x2304x4096, .bf16⟩
  | _ => ⟨S4x2304x2048, .bf16⟩

abbrev hbmTy (i : Nat) : BufTy := match i / 128 with
  | 0 => hbmTy0_0 i
  | 1 => hbmTy0_1 i
  | _ => ⟨S4x2304x2048, .bf16⟩

abbrev bufTy : (tb : Table) → Fin (tcTables nBuf tb) → BufTy
  | .hbm, ⟨i, _⟩ => hbmTy i
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst : Ref sig .tc := ⟨.hbm, 61, rfl⟩
abbrev main_v48 : Ref sig .tc := ⟨.hbm, 62, rfl⟩
abbrev main_v49 : Ref sig .tc := ⟨.hbm, 63, rfl⟩
abbrev main_cst_0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_1 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_2 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_4 : Ref sig .tc := ⟨.hbm, 90, rfl⟩
abbrev main_call2_v0 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_call3_v0 : Ref sig .tc := ⟨.hbm, 127, rfl⟩
abbrev main_call3_v1 : Ref sig .tc := ⟨.hbm, 128, rfl⟩
abbrev main_call3_cst : Ref sig .tc := ⟨.hbm, 129, rfl⟩
abbrev main_call3_v2 : Ref sig .tc := ⟨.hbm, 130, rfl⟩
abbrev main_call3_v3 : Ref sig .tc := ⟨.hbm, 131, rfl⟩
abbrev main_call3_cst_0 : Ref sig .tc := ⟨.hbm, 132, rfl⟩
abbrev main_call3_v4 : Ref sig .tc := ⟨.hbm, 133, rfl⟩
abbrev main_call3_v5 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_5 : Ref sig .tc := ⟨.hbm, 139, rfl⟩
abbrev main_v111 : Ref sig .tc := ⟨.hbm, 140, rfl⟩
abbrev main_v112 : Ref sig .tc := ⟨.hbm, 141, rfl⟩
abbrev main_cst_6 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_7 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_8 : Ref sig .tc := ⟨.hbm, 154, rfl⟩
abbrev main_v123 : Ref sig .tc := ⟨.hbm, 155, rfl⟩
abbrev main_v124 : Ref sig .tc := ⟨.hbm, 156, rfl⟩
abbrev main_cst_9 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩

abbrev nD : Nat := 1
abbrev τ : Topo := Topo.v7x

variable {F : FTy → Type} [FloatOps F]
-- ==== Kernel5.lean ====
abbrev S4x2304x2048 : Shape := ⟨3, ![4, 2304, 2048]⟩
abbrev S2x2048x12416 : Shape := ⟨3, ![2, 2048, 12416]⟩
abbrev S2x5x8192 : Shape := ⟨3, ![2, 5, 8192]⟩
abbrev S4x2304x4096 : Shape := ⟨3, ![4, 2304, 4096]⟩
abbrev S1x2304x2048 : Shape := ⟨3, ![1, 2304, 2048]⟩
abbrev S1x2048x512 : Shape := ⟨3, ![1, 2048, 512]⟩
abbrev S1x5x512 : Shape := ⟨3, ![1, 5, 512]⟩
abbrev S1x2304x512 : Shape := ⟨3, ![1, 2304, 512]⟩
abbrev S2304x2048 : Shape := ⟨2, ![2304, 2048]⟩
abbrev S1x2048x256 : Shape := ⟨3, ![1, 2048, 256]⟩
abbrev S2048x256 : Shape := ⟨2, ![2048, 256]⟩
abbrev S2304x256 : Shape := ⟨2, ![2304, 256]⟩
abbrev S1x5x256 : Shape := ⟨3, ![1, 5, 256]⟩
abbrev S5x256 : Shape := ⟨2, ![5, 256]⟩
abbrev S288x8x256 : Shape := ⟨3, ![288, 8, 256]⟩
abbrev S1x8x256 : Shape := ⟨3, ![1, 8, 256]⟩
abbrev S1x256 : Shape := ⟨2, ![1, 256]⟩
abbrev S1x1x256 : Shape := ⟨3, ![1, 1, 256]⟩
abbrev S31x8x256 : Shape := ⟨3, ![31, 8, 256]⟩
abbrev S255x8x256 : Shape := ⟨3, ![255, 8, 256]⟩
abbrev S1x2304x256 : Shape := ⟨3, ![1, 2304, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x12416, .f32⟩
  | .hbm, ⟨2, _⟩ => ⟨S2x5x8192, .f32⟩
  | .hbm, ⟨3, _⟩ => ⟨S4x2304x4096, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x5x512, .f32⟩
  | .local _ .vmem, ⟨5, _⟩ => ⟨S1x5x512, .f32⟩
  | .local _ .vmem, ⟨6, _⟩ => ⟨S1x2304x512, .bf16⟩
  | .local _ .vmem, ⟨7, _⟩ => ⟨S1x2304x512, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x2304x2048 : Shape := ⟨3, ![4, 2304, 2048]⟩
abbrev S2x2048x12416 : Shape := ⟨3, ![2, 2048, 12416]⟩
abbrev S2x5x8192 : Shape := ⟨3, ![2, 5, 8192]⟩
abbrev S1x2048x12416 : Shape := ⟨3, ![1, 2048, 12416]⟩
abbrev S2048x12416 : Shape := ⟨2, ![2048, 12416]⟩
abbrev S2048x4096 : Shape := ⟨2, ![2048, 4096]⟩
abbrev S1x5x8192 : Shape := ⟨3, ![1, 5, 8192]⟩
abbrev S5x8192 : Shape := ⟨2, ![5, 8192]⟩
abbrev S5x4096 : Shape := ⟨2, ![5, 4096]⟩
abbrev S4x256x2048 : Shape := ⟨3, ![4, 256, 2048]⟩
abbrev S4x256x4096 : Shape := ⟨3, ![4, 256, 4096]⟩
abbrev S_ : Shape := ⟨0, ![]⟩
abbrev S4x260x4096 : Shape := ⟨3, ![4, 260, 4096]⟩
abbrev S1x4096 : Shape := ⟨2, ![1, 4096]⟩
abbrev S4096 : Shape := ⟨1, ![4096]⟩
abbrev S1x1x4096 : Shape := ⟨3, ![1, 1, 4096]⟩
abbrev S4x2048x2048 : Shape := ⟨3, ![4, 2048, 2048]⟩
abbrev S4x2048x4096 : Shape := ⟨3, ![4, 2048, 4096]⟩
abbrev S4x2052x4096 : Shape := ⟨3, ![4, 2052, 4096]⟩
abbrev S4x2304x4096 : Shape := ⟨3, ![4, 2304, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x12416, .f32⟩
  | .hbm, ⟨2, _⟩ => ⟨S2x5x8192, .f32⟩
  | .hbm, ⟨3, _⟩ => ⟨S4x2304x2048, .f32⟩
  | .hbm, ⟨4, _⟩ => ⟨S1x2048x12416, .f32⟩
  | .hbm, ⟨5, _⟩ => ⟨S2048x12416, .f32⟩
  | .hbm, ⟨6, _⟩ => ⟨S2048x4096, .f32⟩
  | .hbm, ⟨7, _⟩ => ⟨S1x5x8192, .f32⟩
  | .hbm, ⟨8, _⟩ => ⟨S5x8192, .f32⟩
  | .hbm, ⟨9, _⟩ => ⟨S5x4096, .f32⟩
  | .hbm, ⟨10, _⟩ => ⟨S4x256x2048, .f32⟩
  | .hbm, ⟨11, _⟩ => ⟨S4x256x4096, .f32⟩
  | .hbm, ⟨12, _⟩ => ⟨S_, .i32⟩
  | .hbm, ⟨13, _⟩ => ⟨S_, .f32⟩
  | .hbm, ⟨14, _⟩ => ⟨S4x260x4096, .f32⟩
  | .hbm, ⟨15, _⟩ => ⟨S4x256x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S4x256x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S4x256x4096, .f32⟩
  | .hbm, ⟨26, _⟩ => ⟨S4x256x4096, .f32⟩
  | .hbm, ⟨27, _⟩ => ⟨S4x256x4096, .f32⟩
  | .hbm, ⟨28, _⟩ => ⟨S4x256x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S4x256x4096, .f32⟩
  | .hbm, ⟨33, _⟩ => ⟨S4x256x4096, .f32⟩
  | .hbm, ⟨34, _⟩ => ⟨S4x256x4096, .f32⟩
  | .hbm, ⟨35, _⟩ => ⟨S4x256x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x256x4096, .f32⟩
  | .hbm, ⟨40, _⟩ => ⟨S4x256x4096, .f32⟩
  | .hbm, ⟨41, _⟩ => ⟨S4x256x4096, .f32⟩
  | .hbm, ⟨42, _⟩ => ⟨S4x256x4096, .f32⟩
  | .hbm, ⟨43, _⟩ => ⟨S1x4096, .f32⟩
  | .hbm, ⟨44, _⟩ => ⟨S4096, .f32⟩
  | .hbm, ⟨45, _⟩ => ⟨S1x1x4096, .f32⟩
  | .hbm, ⟨46, _⟩ => ⟨S4x256x4096, .f32⟩
  | .hbm, ⟨47, _⟩ => ⟨S4x256x4096, .f32⟩
  | .hbm, ⟨48, _⟩ => ⟨S4x256x4096, .f32⟩
  | .hbm, ⟨49, _⟩ => ⟨S4x256x4096, .f32⟩
  | .hbm, ⟨50, _⟩ => ⟨S4x256x4096, .f32⟩
  | .hbm, ⟨51, _⟩ => ⟨S_, .f32⟩
  | .hbm, ⟨52, _⟩ => ⟨S4x256x4096, .f32⟩
  | .hbm, ⟨53, _⟩ => ⟨S4x256x4096, .f32⟩
  | .hbm, ⟨54, _⟩ => ⟨S_, .f32⟩
  | .hbm, ⟨55, _⟩ => ⟨S4x256x4096, .f32⟩
  | .hbm, ⟨56, _⟩ => ⟨S4x256x4096, .f32⟩
  | .hbm, ⟨57, _⟩ => ⟨S4x256x4096, .f32⟩
  | .hbm, ⟨58, _⟩ => ⟨S4x2048x2048, .f32⟩
  | .hbm, ⟨59, _⟩ => ⟨S4x2048x4096, .f32⟩
  | .hbm, ⟨60, _⟩ => ⟨S_, .i32⟩
  | .hbm, ⟨61, _⟩ => ⟨S_, .f32⟩
  | .hbm, ⟨62, _⟩ => ⟨S4x2052x4096, .f32⟩
  | .hbm, ⟨63, _⟩ => ⟨S4x2048x4096, .f32⟩
  | .hbm, ⟨64, _⟩ => ⟨S1x4096, .f32⟩
  | .hbm, ⟨65, _⟩ => ⟨S4096, .f32⟩
  | .hbm, ⟨66, _⟩ => ⟨S1x1x4096, .f32⟩
  | .hbm, ⟨67, _⟩ => ⟨S4x2048x4096, .f32⟩
  | .hbm, ⟨68, _⟩ => ⟨S4x2048x4096, .f32⟩
  | .hbm, ⟨69, _⟩ => ⟨S4x2048x4096, .f32⟩
  | .hbm, ⟨70, _⟩ => ⟨S1x4096, .f32⟩
  | .hbm, ⟨71, _⟩ => ⟨S4096, .f32⟩
  | .hbm, ⟨72, _⟩ => ⟨S1x1x4096, .f32⟩
  | .hbm, ⟨73, _⟩ => ⟨S4x2048x4096, .f32⟩
  | .hbm, ⟨74, _⟩ => ⟨S4x2048x4096, .f32⟩
  | .hbm, ⟨75, _⟩ => ⟨S4x2048x4096, .f32⟩
  | .hbm, ⟨76, _⟩ => ⟨S4x2048x4096, .f32⟩
  | .hbm, ⟨77, _⟩ => ⟨S1x4096, .f32⟩
  | .hbm, ⟨78, _⟩ => ⟨S4096, .f32⟩
  | .hbm, ⟨79, _⟩ => ⟨S1x1x4096, .f32⟩
  | .hbm, ⟨80, _⟩ => ⟨S4x2048x4096, .f32⟩
  | .hbm, ⟨81, _⟩ => ⟨S4x2048x4096, .f32⟩
  | .hbm, ⟨82, _⟩ => ⟨S4x2048x4096, .f32⟩
  | .hbm, ⟨83, _⟩ => ⟨S4x2048x4096, .f32⟩
  | .hbm, ⟨84, _⟩ => ⟨S1x4096, .f32⟩
  | .hbm, ⟨85, _⟩ => ⟨S4096, .f32⟩
  | .hbm, ⟨86, _⟩ => ⟨S1x1x4096, .f32⟩
  | .hbm, ⟨87, _⟩ => ⟨S4x2048x4096, .f32⟩
  | .hbm, ⟨88, _⟩ => ⟨S4x2048x4096, .f32⟩
  | .hbm, ⟨89, _⟩ => ⟨S4x2048x4096, .f32⟩
  | .hbm, ⟨90, _⟩ => ⟨S4x2048x4096, .f32⟩
  | .hbm, ⟨91, _⟩ => ⟨S1x4096, .f32⟩
  | .hbm, ⟨92, _⟩ => ⟨S4096, .f32⟩
  | .hbm, ⟨93, _⟩ => ⟨S1x1x4096, .f32⟩
  | .hbm, ⟨94, _⟩ => ⟨S4x2048x4096, .f32⟩
  | .hbm, ⟨95, _⟩ => ⟨S4x2048x4096, .f32⟩
  | .hbm, ⟨96, _⟩ => ⟨S4x2048x4096, .f32⟩
  | .hbm, ⟨97, _⟩ => ⟨S4x2048x4096, .f32⟩
  | .hbm, ⟨98, _⟩ => ⟨S4x2048x4096, .f32⟩
  | .hbm, ⟨99, _⟩ => ⟨S_, .f32⟩
  | .hbm, ⟨100, _⟩ => ⟨S4x2048x4096, .f32⟩
  | .hbm, ⟨101, _⟩ => ⟨S4x2048x4096, .f32⟩
  | .hbm, ⟨102, _⟩ => ⟨S_, .f32⟩
  | .hbm, ⟨103, _⟩ => ⟨S4x2048x4096, .f32⟩
  | .hbm, ⟨104, _⟩ => ⟨S4x2048x4096, .f32⟩
  | .hbm, ⟨105, _⟩ => ⟨S4x2048x4096, .f32⟩
  | .hbm, ⟨106, _⟩ => ⟨S4x2304x4096, .f32⟩
  | .hbm, ⟨107, _⟩ => ⟨S4x2304x4096, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_0 : Ref sig .tc := ⟨.hbm, 60, rfl⟩
abbrev main_call2_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Kernel6.lean ====
abbrev S4x2304x2048 : Shape := ⟨3, ![4, 2304, 2048]⟩
abbrev S2x2048x12416 : Shape := ⟨3, ![2, 2048, 12416]⟩
abbrev S4x2304x4096 : Shape := ⟨3, ![4, 2304, 4096]⟩
abbrev S1x2304x2048 : Shape := ⟨3, ![1, 2304, 2048]⟩
abbrev S1x2048x256 : Shape := ⟨3, ![1, 2048, 256]⟩
abbrev S1x2304x256 : Shape := ⟨3, ![1, 2304, 256]⟩
abbrev S2304x2048 : Shape := ⟨2, ![2304, 2048]⟩
abbrev S2048x256 : Shape := ⟨2, ![2048, 256]⟩
abbrev S2304x256 : Shape := ⟨2, ![2304, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x12416, .f32⟩
  | .hbm, ⟨2, _⟩ => ⟨S4x2304x4096, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2304x256, .bf16⟩
  | .local _ .vmem, ⟨5, _⟩ => ⟨S1x2304x256, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2304x2048 : Shape := ⟨3, ![4, 2304, 2048]⟩
abbrev S2x2048x12416 : Shape := ⟨3, ![2, 2048, 12416]⟩
abbrev S1x2048x12416 : Shape := ⟨3, ![1, 2048, 12416]⟩
abbrev S2048x12416 : Shape := ⟨2, ![2048, 12416]⟩
abbrev S2048x4096 : Shape := ⟨2, ![2048, 4096]⟩
abbrev S4x2304x4096 : Shape := ⟨3, ![4, 2304, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x12416, .f32⟩
  | .hbm, ⟨2, _⟩ => ⟨S4x2304x2048, .f32⟩
  | .hbm, ⟨3, _⟩ => ⟨S1x2048x12416, .f32⟩
  | .hbm, ⟨4, _⟩ => ⟨S2048x12416, .f32⟩
  | .hbm, ⟨5, _⟩ => ⟨S2048x4096, .f32⟩
  | .hbm, ⟨6, _⟩ => ⟨S4x2304x4096, .f32⟩
  | .hbm, ⟨7, _⟩ => ⟨S4x2304x4096, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4x2304x4096 : Shape := ⟨3, ![4, 2304, 4096]⟩
abbrev S2x4096x2048 : Shape := ⟨3, ![2, 4096, 2048]⟩
abbrev S4x2304x2048 : Shape := ⟨3, ![4, 2304, 2048]⟩
abbrev S8x2048 : Shape := ⟨2, ![8, 2048]⟩
abbrev S9216x4096 : Shape := ⟨2, ![9216, 4096]⟩
abbrev S9216x2048 : Shape := ⟨2, ![9216, 2048]⟩
abbrev S1152x4096 : Shape := ⟨2, ![1152, 4096]⟩
abbrev S1x4096x256 : Shape := ⟨3, ![1, 4096, 256]⟩
abbrev S1152x256 : Shape := ⟨2, ![1152, 256]⟩
abbrev S8x256 : Shape := ⟨2, ![8, 256]⟩
abbrev S4096x256 : Shape := ⟨2, ![4096, 256]⟩
abbrev S1152x1 : Shape := ⟨2, ![1152, 1]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S4x2304x4096, .bf16⟩
  | .hbm, ⟨1, _⟩ => ⟨S2x4096x2048, .f32⟩
  | .hbm, ⟨2, _⟩ => ⟨S4x2304x2048, .f32⟩
  | .hbm, ⟨3, _⟩ => ⟨S8x2048, .f32⟩
  | .hbm, ⟨4, _⟩ => ⟨S9216x4096, .bf16⟩
  | .hbm, ⟨5, _⟩ => ⟨S9216x2048, .f32⟩
  | .hbm, ⟨6, _⟩ => ⟨S9216x2048, .f32⟩
  | .local _ .vmem, ⟨0, _⟩ => ⟨S1152x4096, .bf16⟩
  | .local _ .vmem, ⟨1, _⟩ => ⟨S1152x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1152x256, .f32⟩
  | .local _ .vmem, ⟨5, _⟩ => ⟨S1152x256, .f32⟩
  | .local _ .vmem, ⟨6, _⟩ => ⟨S8x256, .f32⟩
  | .local _ .vmem, ⟨7, _⟩ => ⟨S8x256, .f32⟩
  | .local _ .vmem, ⟨8, _⟩ => ⟨S1152x256, .f32⟩
  | .local _ .vmem, ⟨9, _⟩ => ⟨S1152x256, .f32⟩
  | _, _ => ⟨S4x2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_4 : BitVec 32 := 0#32
  let v9 : BitVec 1 := Scalar.cmpi .slt arg0 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg0 c2_i32
  let c0_i32_7 : BitVec 32 := 0#32
  let v19 : BitVec 1 := Scalar.cmpi .ne v18 c0_i32_7
  let v20 : BitVec 1 := Scalar.andi v17 v19
  let v6 : BitVec 32 := Scalar.divsi arg0 c2_i32
  let c1_i32 : BitVec 32 := 1#32
  let v21 : BitVec 32 := Scalar.subi v6 c1_i32
  let v22 : BitVec 32 := Scalar.select v20 v21 v6
  let v40 : Index := Scalar.indexCast v22
  let c0_15 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4x2304x4096 : Shape := ⟨3, ![4, 2304, 4096]⟩
abbrev S2x4096x2048 : Shape := ⟨3, ![2, 4096, 2048]⟩
abbrev S4x2304x2048 : Shape := ⟨3, ![4, 2304, 2048]⟩
abbrev S8x2048 : Shape := ⟨2, ![8, 2048]⟩
abbrev S1x4096x2048 : Shape := ⟨3, ![1, 4096, 2048]⟩
abbrev S4096x2048 : Shape := ⟨2, ![4096, 2048]⟩
abbrev S4x256x2048 : Shape := ⟨3, ![4, 256, 2048]⟩
abbrev S1x2048 : Shape := ⟨2, ![1, 2048]⟩
abbrev S2048 : Shape := ⟨1, ![2048]⟩
abbrev S4x256x4096 : Shape := ⟨3, ![4, 256, 4096]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4x2048x4096 : Shape := ⟨3, ![4, 2048, 4096]⟩
abbrev S9216x2048 : Shape := ⟨2, ![9216, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2304x4096, .bf16⟩
  | .hbm, ⟨1, _⟩ => ⟨S2x4096x2048, .f32⟩
  | .hbm, ⟨2, _⟩ => ⟨S4x2304x2048, .f32⟩
  | .hbm, ⟨3, _⟩ => ⟨S8x2048, .f32⟩
  | .hbm, ⟨4, _⟩ => ⟨S4x2304x4096, .f32⟩
  | .hbm, ⟨5, _⟩ => ⟨S1x4096x2048, .f32⟩
  | .hbm, ⟨6, _⟩ => ⟨S4096x2048, .f32⟩
  | .hbm, ⟨7, _⟩ => ⟨S4x256x2048, .f32⟩
  | .hbm, ⟨8, _⟩ => ⟨S1x2048, .f32⟩
  | .hbm, ⟨9, _⟩ => ⟨S2048, .f32⟩
  | .hbm, ⟨10, _⟩ => ⟨S4x256x4096, .f32⟩
  | .hbm, ⟨11, _⟩ => ⟨S4x256x2048, .f32⟩
  | .hbm, ⟨12, _⟩ => ⟨S1x1x2048, .f32⟩
  | .hbm, ⟨13, _⟩ => ⟨S4x256x2048, .f32⟩
  | .hbm, ⟨14, _⟩ => ⟨S4x256x2048, .f32⟩
  | .hbm, ⟨15, _⟩ => ⟨S4x256x2048, .f32⟩
  | .hbm, ⟨16, _⟩ => ⟨S4x2048x2048, .f32⟩
  | .hbm, ⟨17, _⟩ => ⟨S4x2048, .f32⟩
  | .hbm, ⟨18, _⟩ => ⟨S4x1x2048, .f32⟩
  | .hbm, ⟨19, _⟩ => ⟨S4x2048x4096, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2304x2048, .f32⟩
  | .hbm, ⟨25, _⟩ => ⟨S9216x2048, .f32⟩
  | _, _ => ⟨S4x2304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel8.lean ====
abbrev S4x2304x1024 : Shape := ⟨3, ![4, 2304, 1024]⟩
abbrev S2x2048x2048 : Shape := ⟨3, ![2, 2048, 2048]⟩
abbrev S4x2304x2048 : Shape := ⟨3, ![4, 2304, 2048]⟩
abbrev S8x2048 : Shape := ⟨2, ![8, 2048]⟩
abbrev S9216x1024 : Shape := ⟨2, ![9216, 1024]⟩
abbrev S9216x2048 : Shape := ⟨2, ![9216, 2048]⟩
abbrev S1152x1024 : Shape := ⟨2, ![1152, 1024]⟩
abbrev S1x2048x256 : Shape := ⟨3, ![1, 2048, 256]⟩
abbrev S1152x256 : Shape := ⟨2, ![1152, 256]⟩
abbrev S8x256 : Shape := ⟨2, ![8, 256]⟩
abbrev S1x1024x256 : Shape := ⟨3, ![1, 1024, 256]⟩
abbrev S1024x256 : Shape := ⟨2, ![1024, 256]⟩
abbrev S1152x1 : Shape := ⟨2, ![1152, 1]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S2x2048x2048, .f32⟩
  | .hbm, ⟨3, _⟩ => ⟨S4x2304x2048, .f32⟩
  | .hbm, ⟨4, _⟩ => ⟨S8x2048, .f32⟩
  | .hbm, ⟨5, _⟩ => ⟨S9216x1024, .bf16⟩
  | .hbm, ⟨6, _⟩ => ⟨S9216x1024, .bf16⟩
  | .hbm, ⟨7, _⟩ => ⟨S9216x2048, .f32⟩
  | .hbm, ⟨8, _⟩ => ⟨S9216x2048, .f32⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1x2048x256, .f32⟩
  | .local _ .vmem, ⟨5, _⟩ => ⟨S1x2048x256, .f32⟩
  | .local _ .vmem, ⟨6, _⟩ => ⟨S1152x256, .f32⟩
  | .local _ .vmem, ⟨7, _⟩ => ⟨S1152x256, .f32⟩
  | .local _ .vmem, ⟨8, _⟩ => ⟨S8x256, .f32⟩
  | .local _ .vmem, ⟨9, _⟩ => ⟨S8x256, .f32⟩
  | .local _ .vmem, ⟨10, _⟩ => ⟨S1152x256, .f32⟩
  | .local _ .vmem, ⟨11, _⟩ => ⟨S1152x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let c0_i32 : BitVec 32 := 0#32
  let v14 : BitVec 1 := Scalar.cmpi .sgt arg0 c0_i32
  let v15 : BitVec 32 := Scalar.extui v14
  let c0_i32_9 : BitVec 32 := 0#32
  let v16 : BitVec 1 := Scalar.cmpi .slt arg0 c0_i32_9
  let v17 : BitVec 32 := Scalar.extui v16
  let v18 : BitVec 32 := Scalar.subi v15 v17
  let c2_i32 : BitVec 32 := 2#32
  let c0_i32_10 : BitVec 32 := 0#32
  let v19 : BitVec 1 := Scalar.cmpi .sgt c2_i32 c0_i32_10
  let v20 : BitVec 32 := Scalar.extui v19
  let c0_i32_11 : BitVec 32 := 0#32
  let v21 : BitVec 1 := Scalar.cmpi .slt c2_i32 c0_i32_11
  let v22 : BitVec 32 := Scalar.extui v21
  let v23 : BitVec 32 := Scalar.subi v20 v22
  let v24 : BitVec 1 := Scalar.cmpi .ne v18 v23
  let v25 : BitVec 32 := Scalar.remsi arg0 c2_i32
  let c0_i32_12 : BitVec 32 := 0#32
  let v26 : BitVec 1 := Scalar.cmpi .ne v25 c0_i32_12
  let v27 : BitVec 1 := Scalar.andi v24 v26
  let v13 : BitVec 32 := Scalar.divsi arg0 c2_i32
  let c1_i32 : BitVec 32 := 1#32
  let v28 : BitVec 32 := Scalar.subi v13 c1_i32
  let v29 : BitVec 32 := Scalar.select v27 v28 v13
  let v47 : Index := Scalar.indexCast v29
  let c0_20 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1152x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x2304x1024 : Shape := ⟨3, ![4, 2304, 1024]⟩
abbrev S2x2048x2048 : Shape := ⟨3, ![2, 2048, 2048]⟩
abbrev S4x2304x2048 : Shape := ⟨3, ![4, 2304, 2048]⟩
abbrev S8x2048 : Shape := ⟨2, ![8, 2048]⟩
abbrev S1x2048x2048 : Shape := ⟨3, ![1, 2048, 2048]⟩
abbrev S2048x2048 : Shape := ⟨2, ![2048, 2048]⟩
abbrev S4x256x2048 : Shape := ⟨3, ![4, 256, 2048]⟩
abbrev S1x2048 : Shape := ⟨2, ![1, 2048]⟩
abbrev S2048 : Shape := ⟨1, ![2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S9216x2048 : Shape := ⟨2, ![9216, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S2x2048x2048, .f32⟩
  | .hbm, ⟨3, _⟩ => ⟨S4x2304x2048, .f32⟩
  | .hbm, ⟨4, _⟩ => ⟨S8x2048, .f32⟩
  | .hbm, ⟨5, _⟩ => ⟨S4x2304x1024, .f32⟩
  | .hbm, ⟨6, _⟩ => ⟨S4x2304x1024, .f32⟩
  | .hbm, ⟨7, _⟩ => ⟨S4x2304x2048, .f32⟩
  | .hbm, ⟨8, _⟩ => ⟨S1x2048x2048, .f32⟩
  | .hbm, ⟨9, _⟩ => ⟨S2048x2048, .f32⟩
  | .hbm, ⟨10, _⟩ => ⟨S4x256x2048, .f32⟩
  | .hbm, ⟨11, _⟩ => ⟨S1x2048, .f32⟩
  | .hbm, ⟨12, _⟩ => ⟨S2048, .f32⟩
  | .hbm, ⟨13, _⟩ => ⟨S4x256x2048, .f32⟩
  | .hbm, ⟨14, _⟩ => ⟨S4x256x2048, .f32⟩
  | .hbm, ⟨15, _⟩ => ⟨S1x1x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x2048x2048, .f32⟩
  | .hbm, ⟨20, _⟩ => ⟨S4x2048, .f32⟩
  | .hbm, ⟨21, _⟩ => ⟨S4x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2304x2048, .f32⟩
  | .hbm, ⟨28, _⟩ => ⟨S9216x2048, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel9.lean ====
abbrev S4x2304x2048 : Shape := ⟨3, ![4, 2304, 2048]⟩
abbrev S2x2048x3584 : Shape := ⟨3, ![2, 2048, 3584]⟩
abbrev S4x2304x1024 : Shape := ⟨3, ![4, 2304, 1024]⟩
abbrev S1x2304x2048 : Shape := ⟨3, ![1, 2304, 2048]⟩
abbrev S1x2048x256 : Shape := ⟨3, ![1, 2048, 256]⟩
abbrev S1x2304x256 : Shape := ⟨3, ![1, 2304, 256]⟩
abbrev S2304x2048 : Shape := ⟨2, ![2304, 2048]⟩
abbrev S2048x256 : Shape := ⟨2, ![2048, 256]⟩
abbrev S2304x256 : Shape := ⟨2, ![2304, 256]⟩

abbrev nBuf : Space → Nat
  | .hbm => 3
  | .vmem => 8
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x3584, .f32⟩
  | .hbm, ⟨2, _⟩ => ⟨S4x2304x1024, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2304x256, .bf16⟩
  | .local _ .vmem, ⟨7, _⟩ => ⟨S1x2304x256, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x2304x2048 : Shape := ⟨3, ![4, 2304, 2048]⟩
abbrev S2x2048x3584 : Shape := ⟨3, ![2, 2048, 3584]⟩
abbrev S1x2048x3584 : Shape := ⟨3, ![1, 2048, 3584]⟩
abbrev S2048x3584 : Shape := ⟨2, ![2048, 3584]⟩
abbrev S2048x2048 : Shape := ⟨2, ![2048, 2048]⟩
abbrev S4x2304x1024 : Shape := ⟨3, ![4, 2304, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x3584, .f32⟩
  | .hbm, ⟨2, _⟩ => ⟨S4x2304x2048, .f32⟩
  | .hbm, ⟨3, _⟩ => ⟨S1x2048x3584, .f32⟩
  | .hbm, ⟨4, _⟩ => ⟨S2048x3584, .f32⟩
  | .hbm, ⟨5, _⟩ => ⟨S2048x2048, .f32⟩
  | .hbm, ⟨6, _⟩ => ⟨S4x2304x2048, .f32⟩
  | .hbm, ⟨7, _⟩ => ⟨S4x2304x1024, .f32⟩
  | .hbm, ⟨8, _⟩ => ⟨S4x2304x1024, .f32⟩
  | .hbm, ⟨9, _⟩ => ⟨S4x2304x1024, .f32⟩
  | .hbm, ⟨10, _⟩ => ⟨S4x2304x1024, .f32⟩
  | .hbm, ⟨11, _⟩ => ⟨S_, .f32⟩
  | .hbm, ⟨12, _⟩ => ⟨S4x2304x1024, .f32⟩
  | .hbm, ⟨13, _⟩ => ⟨S4x2304x1024, .f32⟩
  | .hbm, ⟨14, _⟩ => ⟨S_, .f32⟩
  | .hbm, ⟨15, _⟩ => ⟨S4x2304x1024, .f32⟩
  | .hbm, ⟨16, _⟩ => ⟨S4x2304x1024, .f32⟩
  | .hbm, ⟨17, _⟩ => ⟨S4x2304x1024, .f32⟩
  | .hbm, ⟨18, _⟩ => ⟨S4x2304x1024, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel10.lean ====
abbrev S4x2304x2048 : Shape := ⟨3, ![4, 2304, 2048]⟩
abbrev S2x2048x3584 : Shape := ⟨3, ![2, 2048, 3584]⟩
abbrev S4x2304x256 : Shape := ⟨3, ![4, 2304, 256]⟩
abbrev S1x2304x2048 : Shape := ⟨3, ![1, 2304, 2048]⟩
abbrev S1x2048x256 : Shape := ⟨3, ![1, 2048, 256]⟩
abbrev S1x2304x256 : Shape := ⟨3, ![1, 2304, 256]⟩
abbrev S2304x2048 : Shape := ⟨2, ![2304, 2048]⟩
abbrev S2048x256 : Shape := ⟨2, ![2048, 256]⟩
abbrev S2304x256 : Shape := ⟨2, ![2304, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x3584, .f32⟩
  | .hbm, ⟨2, _⟩ => ⟨S4x2304x256, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x256, .f32⟩
  | .local _ .vmem, ⟨3, _⟩ => ⟨S1x2304x256, .bf16⟩
  | .local _ .vmem, ⟨4, _⟩ => ⟨S1x2304x256, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x2304x2048 : Shape := ⟨3, ![4, 2304, 2048]⟩
abbrev S2x2048x3584 : Shape := ⟨3, ![2, 2048, 3584]⟩
abbrev S1x2048x3584 : Shape := ⟨3, ![1, 2048, 3584]⟩
abbrev S2048x3584 : Shape := ⟨2, ![2048, 3584]⟩
abbrev S2048x256 : Shape := ⟨2, ![2048, 256]⟩
abbrev S4x2304x256 : Shape := ⟨3, ![4, 2304, 256]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x3584, .f32⟩
  | .hbm, ⟨2, _⟩ => ⟨S4x2304x2048, .f32⟩
  | .hbm, ⟨3, _⟩ => ⟨S1x2048x3584, .f32⟩
  | .hbm, ⟨4, _⟩ => ⟨S2048x3584, .f32⟩
  | .hbm, ⟨5, _⟩ => ⟨S2048x256, .f32⟩
  | .hbm, ⟨6, _⟩ => ⟨S4x2304x256, .f32⟩
  | .hbm, ⟨7, _⟩ => ⟨S4x2304x256, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S4x2304x2048 : Shape := ⟨3, ![4, 2304, 2048]⟩
abbrev S2x2048x3584 : Shape := ⟨3, ![2, 2048, 3584]⟩
abbrev S2x128 : Shape := ⟨2, ![2, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S128 : Shape := ⟨1, ![128]⟩
abbrev S256x128 : Shape := ⟨2, ![256, 128]⟩
abbrev S2304x128 : Shape := ⟨2, ![2304, 128]⟩
abbrev S1x128 : Shape := ⟨2, ![1, 128]⟩
abbrev S2x1x128 : Shape := ⟨3, ![2, 1, 128]⟩
abbrev S4x2304x1280 : Shape := ⟨3, ![4, 2304, 1280]⟩
abbrev S1x2304x2048 : Shape := ⟨3, ![1, 2304, 2048]⟩
abbrev S1x2048x256 : Shape := ⟨3, ![1, 2048, 256]⟩
abbrev S1x1x128 : Shape := ⟨3, ![1, 1, 128]⟩
abbrev S1x2304x256 : Shape := ⟨3, ![1, 2304, 256]⟩
abbrev S2304x2048 : Shape := ⟨2, ![2304, 2048]⟩
abbrev S2048x256 : Shape := ⟨2, ![2048, 256]⟩
abbrev S2304x256 : Shape := ⟨2, ![2304, 256]⟩
abbrev S2304 : Shape := ⟨1, ![2304]⟩
abbrev S2304x1 : Shape := ⟨2, ![2304, 1]⟩
abbrev S1x2304x128 : Shape := ⟨3, ![1, 2304, 128]⟩

abbrev nBuf : Space → Nat
  | .hbm => 112
  | .vmem => 11
  | .smem => 0
  | _ => 0

abbrev bufTy : (tb : Table) → Fin (tcTables nBuf tb) → BufTy
  | .hbm, ⟨0, _⟩ => ⟨S4x2304x2048, .bf16⟩
  | .hbm, ⟨1, _⟩ => ⟨S2x2048x3584, .f32⟩
  | .hbm, ⟨2, _⟩ => ⟨S2x128, .f32⟩
  | .hbm, ⟨3, _⟩ => ⟨S2x128, .f32⟩
  | .hbm, ⟨4, _⟩ => ⟨S32, .f32⟩
  | .hbm, ⟨5, _⟩ => ⟨S32x64, .f32⟩
  | .hbm, ⟨6, _⟩ => ⟨S2048, .f32⟩
  | .hbm, ⟨7, _⟩ => ⟨S64, .f32⟩
  | .hbm, ⟨8, _⟩ => ⟨S1x64, .f32⟩
  | .hbm, ⟨9, _⟩ => ⟨S32x64, .f32⟩
  | .hbm, ⟨10, _⟩ => ⟨S2048, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S128, .i32⟩
  | .hbm, ⟨39, _⟩ => ⟨S_, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S_, .i1⟩
  | .hbm, ⟨73, _⟩ => ⟨S128, .i1⟩
  | .hbm, ⟨74, _⟩ => ⟨S128, .i1⟩
  | .hbm, ⟨75, _⟩ => ⟨S128, .i1⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S_, .i32⟩
  | .hbm, ⟨80, _⟩ => ⟨S128, .i32⟩
  | .hbm, ⟨81, _⟩ => ⟨S128, .i1⟩
  | .hbm, ⟨82, _⟩ => ⟨S2048x128, .f32⟩
  | .hbm, ⟨83, _⟩ => ⟨S_, .f32⟩
  | .hbm, ⟨84, _⟩ => ⟨S_, .f32⟩
  | .hbm, ⟨85, _⟩ => ⟨S2048x128, .i1⟩
  | .hbm, ⟨86, _⟩ => ⟨S2048x128, .f32⟩
  | .hbm, ⟨87, _⟩ => ⟨S2048x128, .f32⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .f32⟩
  | .hbm, ⟨92, _⟩ => ⟨S_, .f32⟩
  | .hbm, ⟨93, _⟩ => ⟨S2048x128, .i1⟩
  | .hbm, ⟨94, _⟩ => ⟨S2048x128, .f32⟩
  | .hbm, ⟨95, _⟩ => ⟨S2048x128, .f32⟩
  | .hbm, ⟨96, _⟩ => ⟨S_, .f32⟩
  | .hbm, ⟨97, _⟩ => ⟨S256x128, .f32⟩
  | .hbm, ⟨98, _⟩ => ⟨S_, .f32⟩
  | .hbm, ⟨99, _⟩ => ⟨S256x128, .f32⟩
  | .hbm, ⟨100, _⟩ => ⟨S2304x128, .f32⟩
  | .hbm, ⟨101, _⟩ => ⟨S2304x128, .f32⟩
  | .hbm, ⟨102, _⟩ => ⟨S2304x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S1x128, .f32⟩
  | .hbm, ⟨109, _⟩ => ⟨S2x128, .f32⟩
  | .hbm, ⟨110, _⟩ => ⟨S2x1x128, .f32⟩
  | .hbm, ⟨111, _⟩ => ⟨S4x2304x1280, .bf16⟩
  | .local _ .vmem, ⟨0, _⟩ => ⟨S1x2304x2048, .bf16⟩
  | .local _ .vmem, ⟨1, _⟩ => ⟨S1x2304x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x1x128, .f32⟩
  | .local _ .vmem, ⟨5, _⟩ => ⟨S1x1x128, .f32⟩
  | .local _ .vmem, ⟨6, _⟩ => ⟨S2304x128, .f32⟩
  | .local _ .vmem, ⟨7, _⟩ => ⟨S2304x128, .f32⟩
  | .local _ .vmem, ⟨8, _⟩ => ⟨S2304x128, .f32⟩
  | .local _ .vmem, ⟨9, _⟩ => ⟨S1x2304x256, .bf16⟩
  | .local _ .vmem, ⟨10, _⟩ => ⟨S1x2304x256, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v31 : Ref sig .tc := ⟨.hbm, 56, rfl⟩
abbrev main_c_3 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v32 : Ref sig .tc := ⟨.hbm, 78, rfl⟩
abbrev main_c_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v36 : Ref sig .tc := ⟨.hbm, 87, rfl⟩
abbrev main_c_6 : Ref sig .tc := ⟨.hbm, 88, rfl⟩
abbrev main_v37 : Ref sig .tc := ⟨.hbm, 89, rfl⟩
abbrev main_v38 : Ref sig .tc := ⟨.hbm, 90, rfl⟩
abbrev main_cst_7 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v39 : Ref sig .tc := ⟨.hbm, 95, rfl⟩
abbrev main_cst_8 : Ref sig .tc := ⟨.hbm, 96, rfl⟩
abbrev main_v40 : Ref sig .tc := ⟨.hbm, 97, rfl⟩
abbrev main_cst_9 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S4x2304x2048 : Shape := ⟨3, ![4, 2304, 2048]⟩
abbrev S2x2048x3584 : Shape := ⟨3, ![2, 2048, 3584]⟩
abbrev S2x128 : Shape := ⟨2, ![2, 128]⟩
abbrev S1x2048x3584 : Shape := ⟨3, ![1, 2048, 3584]⟩
abbrev S2048x3584 : Shape := ⟨2, ![2048, 3584]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x1280 : Shape := ⟨2, ![2048, 1280]⟩
abbrev S4x2304x1280 : Shape := ⟨3, ![4, 2304, 1280]⟩
abbrev S4x2304x1024 : Shape := ⟨3, ![4, 2304, 1024]⟩
abbrev S1x128 : Shape := ⟨2, ![1, 128]⟩
abbrev S128 : Shape := ⟨1, ![128]⟩
abbrev S4x256x1024 : Shape := ⟨3, ![4, 256, 1024]⟩
abbrev S4x256x8x128 : Shape := ⟨4, ![4, 256, 8, 128]⟩
abbrev S4x256x8 : Shape := ⟨3, ![4, 256, 8]⟩
abbrev S4x256x8x1 : Shape := ⟨4, ![4, 256, 8, 1]⟩
abbrev S1x1x1x128 : Shape := ⟨4, ![1, 1, 1, 128]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S4x2048x8x32 : Shape := ⟨4, ![4, 2048, 8, 32]⟩
abbrev S2048x1x128 : Shape := ⟨3, ![2048, 1, 128]⟩
abbrev S1x2048x1x128 : Shape := ⟨4, ![1, 2048, 1, 128]⟩
abbrev S4x2304x256 : Shape := ⟨3, ![4, 2304, 256]⟩
abbrev S4x256x256 : Shape := ⟨3, ![4, 256, 256]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S4x2048x256 : Shape := ⟨3, ![4, 2048, 256]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S4x2048x2x32 : Shape := ⟨4, ![4, 2048, 2, 32]⟩

abbrev nBuf : Space → Nat
  | .hbm => 161
  | .vmem => 0
  | .smem => 0
  | _ => 0

abbrev hbmTy0_0 (i : Nat) : BufTy := match i % 128 with
  | 0 => ⟨S4x2304x2048, .bf16⟩
  | 1 => ⟨S2x2048x3584, .f32⟩
  | 2 => ⟨S2x128, .f32⟩
  | 3 => ⟨S2x128, .f32⟩
  | 4 => ⟨S4x2304x2048, .f32⟩
  | 5 => ⟨S1x2048x3584, .f32⟩
  | 6 => ⟨S2048x3584, .f32⟩
  | 7 => ⟨S32, .f32⟩
  | 8 => ⟨S32x64, .f32⟩
  | 9 => ⟨S2048, .f32⟩
  | 10 => ⟨S64, .f32⟩
  | 11 => ⟨S1x64, .f32⟩
  | 12 => ⟨S32x64, .f32⟩
  | 13 => ⟨S2048, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x1, .f32⟩
  | 34 => ⟨S1x32, .f32⟩
  | 35 => ⟨S2048x32, .f32⟩
  | 36 => ⟨S2048x32, .f32⟩
  | 37 => ⟨S2048x32, .f32⟩
  | 38 => ⟨S2048x128, .f32⟩
  | 39 => ⟨S2048x128, .f32⟩
  | 40 => ⟨S2048x128, .f32⟩
  | 41 => ⟨S2048x1280, .f32⟩
  | 42 => ⟨S4x2304x1280, .f32⟩
  | 43 => ⟨S4x2304x1024, .f32⟩
  | 44 => ⟨S1x128, .f32⟩
  | 45 => ⟨S128, .f32⟩
  | 46 => ⟨S4x256x1024, .f32⟩
  | 47 => ⟨S4x256x8x128, .f32⟩
  | 48 => ⟨S4x256x8x128, .f32⟩
  | 49 => ⟨S_, .f32⟩
  | 50 => ⟨S4x256x8, .f32⟩
  | 51 => ⟨S4x256x8x1, .f32⟩
  | 52 => ⟨S_, .f32⟩
  | 53 => ⟨S4x256x8x1, .f32⟩
  | 54 => ⟨S4x256x8x1, .f32⟩
  | 55 => ⟨S_, .f32⟩
  | 56 => ⟨S4x256x8x1, .f32⟩
  | 57 => ⟨S4x256x8x1, .f32⟩
  | 58 => ⟨S4x256x8x1, .f32⟩
  | 59 => ⟨S4x256x8x128, .f32⟩
  | 60 => ⟨S4x256x8x128, .f32⟩
  | 61 => ⟨S1x1x1x128, .f32⟩
  | 62 => ⟨S4x256x8x128, .f32⟩
  | 63 => ⟨S4x256x8x128, .f32⟩
  | 64 => ⟨S4x2048x1024, .f32⟩
  | 65 => ⟨S4x2048x8x128, .f32⟩
  | 66 => ⟨S4x2048x8x128, .f32⟩
  | 67 => ⟨S_, .f32⟩
  | 68 => ⟨S4x2048x8, .f32⟩
  | 69 => ⟨S4x2048x8x1, .f32⟩
  | 70 => ⟨S_, .f32⟩
  | 71 => ⟨S4x2048x8x1, .f32⟩
  | 72 => ⟨S4x2048x8x1, .f32⟩
  | 73 => ⟨S_, .f32⟩
  | 74 => ⟨S4x2048x8x1, .f32⟩
  | 75 => ⟨S4x2048x8x1, .f32⟩
  | 76 => ⟨S4x2048x8x1, .f32⟩
  | 77 => ⟨S4x2048x8x128, .f32⟩
  | 78 => ⟨S4x2048x8x128, .f32⟩
  | 79 => ⟨S1x1x1x128, .f32⟩
  | 80 => ⟨S4x2048x8x128, .f32⟩
  | 81 => ⟨S4x2048x8x128, .f32⟩
  | 82 => ⟨S4x2048x8x32, .f32⟩
  | 83 => ⟨S4x2048x8x32, .f32⟩
  | 84 => ⟨S4x2048x8x32, .f32⟩
  | 85 => ⟨S4x2048x8x32, .f32⟩
  | 86 => ⟨S4x2048x8x32, .f32⟩
  | 87 => ⟨S4x2048x8x32, .f32⟩
  | 88 => ⟨S4x2048x8x128, .f32⟩
  | 89 => ⟨S2048x1x128, .f32⟩
  | 90 => ⟨S1x2048x1x128, .f32⟩
  | 91 => ⟨S4x2048x8x128, .f32⟩
  | 92 => ⟨S4x2048x8x128, .f32⟩
  | 93 => ⟨S2048x1x128, .f32⟩
  | 94 => ⟨S1x2048x1x128, .f32⟩
  | 95 => ⟨S4x2048x8x128, .f32⟩
  | 96 => ⟨S4x2048x8x128, .f32⟩
  | 97 => ⟨S4x2048x8x128, .f32⟩
  | 98 => ⟨S4x256x1024, .f32⟩
  | 99 => ⟨S4x2048x1024, .f32⟩
  | 100 => ⟨S4x2304x1024, .f32⟩
  | 101 => ⟨S4x2304x256, .f32⟩
  | 102 => ⟨S1x128, .f32⟩
  | 103 => ⟨S128, .f32⟩
  | 104 => ⟨S4x256x256, .f32⟩
  | 105 => ⟨S4x256x2x128, .f32⟩
  | 106 => ⟨S4x256x2x128, .f32⟩
  | 107 => ⟨S_, .f32⟩
  | 108 => ⟨S4x256x2, .f32⟩
  | 109 => ⟨S4x256x2x1, .f32⟩
  | 110 => ⟨S_, .f32⟩
  | 111 => ⟨S4x256x2x1, .f32⟩
  | 112 => ⟨S4x256x2x1, .f32⟩
  | 113 => ⟨S_, .f32⟩
  | 114 => ⟨S4x256x2x1, .f32⟩
  | 115 => ⟨S4x256x2x1, .f32⟩
  | 116 => ⟨S4x256x2x1, .f32⟩
  | 117 => ⟨S4x256x2x128, .f32⟩
  | 118 => ⟨S4x256x2x128, .f32⟩
  | 119 => ⟨S1x1x1x128, .f32⟩
  | 120 => ⟨S4x256x2x128, .f32⟩
  | 121 => ⟨S4x256x2x128, .f32⟩
  | 122 => ⟨S4x2048x256, .f32⟩
  | 123 => ⟨S4x2048x2x128, .f32⟩
  | 124 => ⟨S4x2048x2x128, .f32⟩
  | 125 => ⟨S_, .f32⟩
  | 126 => ⟨S4x2048x2, .f32⟩
  | 127 => ⟨S4x2048x2x1, .f32⟩
  | _ => ⟨S4x2304x2048, .bf16⟩

abbrev hbmTy0_1 (i : Nat) : BufTy := match i % 128 with
  | 0 => ⟨S_, .f32⟩
  | 1 => ⟨S4x2048x2x1, .f32⟩
  | 2 => ⟨S4x2048x2x1, .f32⟩
  | 3 => ⟨S_, .f32⟩
  | 4 => ⟨S4x2048x2x1, .f32⟩
  | 5 => ⟨S4x2048x2x1, .f32⟩
  | 6 => ⟨S4x2048x2x1, .f32⟩
  | 7 => ⟨S4x2048x2x128, .f32⟩
  | 8 => ⟨S4x2048x2x128, .f32⟩
  | 9 => ⟨S1x1x1x128, .f32⟩
  | 10 => ⟨S4x2048x2x128, .f32⟩
  | 11 => ⟨S4x2048x2x128, .f32⟩
  | 12 => ⟨S4x2048x2x32, .f32⟩
  | 13 => ⟨S4x2048x2x32, .f32⟩
  | 14 => ⟨S4x2048x2x32, .f32⟩
  | 15 => ⟨S4x2048x2x32, .f32⟩
  | 16 => ⟨S4x2048x2x32, .f32⟩
  | 17 => ⟨S4x2048x2x32, .f32⟩
  | 18 => ⟨S4x2048x2x128, .f32⟩
  | 19 => ⟨S2048x1x128, .f32⟩
  | 20 => ⟨S1x2048x1x128, .f32⟩
  | 21 => ⟨S4x2048x2x128, .f32⟩
  | 22 => ⟨S4x2048x2x128, .f32⟩
  | 23 => ⟨S2048x1x128, .f32⟩
  | 24 => ⟨S1x2048x1x128, .f32⟩
  | 25 => ⟨S4x2048x2x128, .f32⟩
  | 26 => ⟨S4x2048x2x128, .f32⟩
  | 27 => ⟨S4x2048x2x128, .f32⟩
  | 28 => ⟨S4x256x256, .f32⟩
  | 29 => ⟨S4x2048x256, .f32⟩
  | 30 => ⟨S4x2304x256, .f32⟩
  | 31 => ⟨S4x2304x1280, .f32⟩
  | 32 => ⟨S4x2304x1280, .bf16⟩
  | _ => ⟨S4x2304x2048, .bf16⟩

abbrev hbmTy (i : Nat) : BufTy := match i / 128 with
  | 0 => hbmTy0_0 i
  | 1 => hbmTy0_1 i
  | _ => ⟨S4x2304x2048, .bf16⟩

abbrev bufTy : (tb : Table) → Fin (tcTables nBuf tb) → BufTy
  | .hbm, ⟨i, _⟩ => hbmTy i
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_9 : Ref sig .tc := ⟨.hbm, 107, rfl⟩
abbrev main_v93 : Ref sig .tc := ⟨.hbm, 108, rfl⟩
abbrev main_v94 : Ref sig .tc := ⟨.hbm, 109, rfl⟩
abbrev main_cst_10 : Ref sig .tc := ⟨.hbm, 110, rfl⟩
abbrev main_v95 : Ref sig .tc := ⟨.hbm, 111, rfl⟩
abbrev main_v96 : Ref sig .tc := ⟨.hbm, 112, rfl⟩
abbrev main_cst_11 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_12 : Ref sig .tc := ⟨.hbm, 125, rfl⟩
abbrev main_v108 : Ref sig .tc := ⟨.hbm, 126, rfl⟩
abbrev main_v109 : Ref sig .tc := ⟨.hbm, 127, rfl⟩
abbrev main_cst_13 : Ref sig .tc := ⟨.hbm, 128, rfl⟩
abbrev main_v110 : Ref sig .tc := ⟨.hbm, 129, rfl⟩
abbrev main_v111 : Ref sig .tc := ⟨.hbm, 130, rfl⟩
abbrev main_cst_14 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩

abbrev nD : Nat := 1
abbrev τ : Topo := Topo.v7x

variable {F : FTy → Type} [FloatOps F]
-- ==== Kernel12.lean ====
abbrev S4x2304x1280 : Shape := ⟨3, ![4, 2304, 1280]⟩
abbrev S4x2304x256 : Shape := ⟨3, ![4, 2304, 256]⟩
abbrev S2x8 : Shape := ⟨2, ![2, 8]⟩
abbrev S4x256x1024 : Shape := ⟨3, ![4, 256, 1024]⟩
abbrev S1x256x512 : Shape := ⟨3, ![1, 256, 512]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S1024x1 : Shape := ⟨2, ![1024, 1]⟩
abbrev S1x1 : Shape := ⟨2, ![1, 1]⟩
abbrev S1024 : Shape := ⟨1, ![1024]⟩

abbrev nBuf : Space → Nat
  | .hbm => 4
  | .vmem => 8
  | .smem => 1
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S2x8, .f32⟩
  | .hbm, ⟨3, _⟩ => ⟨S4x256x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x512, .bf16⟩
  | .local _ .vmem, ⟨7, _⟩ => ⟨S1x256x512, .bf16⟩
  | .local _ .smem, ⟨0, _⟩ => ⟨S2x8, .f32⟩
  | _, _ => ⟨S4x2304x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_off1 (i : grid0.Coords) (c0_i32_21 : BitVec 32) : Fin 2 → Nat :=
  let c0_22 : Index := 0#32
  let arg1 : BitVec 32 := BitVec.ofNat 32 (i 1).val
  let c4_i32 : BitVec 32 := 4#32
  let v44 : BitVec 32 := Scalar.muli arg1 c4_i32
  let v45 : BitVec 32 := Scalar.addi v44 c0_i32_21
  let v46 : Index := Scalar.indexCast v45
  ![0, v46.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S4x2304x1280 : Shape := ⟨3, ![4, 2304, 1280]⟩
abbrev S4x2304x256 : Shape := ⟨3, ![4, 2304, 256]⟩
abbrev S2x8 : Shape := ⟨2, ![2, 8]⟩
abbrev S1x8 : Shape := ⟨2, ![1, 8]⟩
abbrev S8 : Shape := ⟨1, ![8]⟩
abbrev S4x256x256 : Shape := ⟨3, ![4, 256, 256]⟩
abbrev S4x256x2x128 : Shape := ⟨4, ![4, 256, 2, 128]⟩
abbrev S4x256x1024 : Shape := ⟨3, ![4, 256, 1024]⟩
abbrev S4x256x2x4x128 : Shape := ⟨5, ![4, 256, 2, 4, 128]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S2x4 : Shape := ⟨2, ![2, 4]⟩
abbrev S2x4x1x1 : Shape := ⟨4, ![2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x128x4x256 : Shape := ⟨5, ![4, 2, 128, 4, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S2x8, .f32⟩
  | .hbm, ⟨3, _⟩ => ⟨S4x2304x1280, .f32⟩
  | .hbm, ⟨4, _⟩ => ⟨S4x2304x256, .f32⟩
  | .hbm, ⟨5, _⟩ => ⟨S1x8, .f32⟩
  | .hbm, ⟨6, _⟩ => ⟨S8, .f32⟩
  | .hbm, ⟨7, _⟩ => ⟨S4x256x256, .f32⟩
  | .hbm, ⟨8, _⟩ => ⟨S4x256x2x128, .f32⟩
  | .hbm, ⟨9, _⟩ => ⟨S4x256x256, .f32⟩
  | .hbm, ⟨10, _⟩ => ⟨S4x256x2x128, .f32⟩
  | .hbm, ⟨11, _⟩ => ⟨S4x256x1024, .f32⟩
  | .hbm, ⟨12, _⟩ => ⟨S4x256x2x4x128, .f32⟩
  | .hbm, ⟨13, _⟩ => ⟨S4x2x256x256x4, .f32⟩
  | .hbm, ⟨14, _⟩ => ⟨S4x2x4x256x256, .f32⟩
  | .hbm, ⟨15, _⟩ => ⟨S_, .f32⟩
  | .hbm, ⟨16, _⟩ => ⟨S4x2x4x256x256, .f32⟩
  | .hbm, ⟨17, _⟩ => ⟨S4x2x4x256x256, .f32⟩
  | .hbm, ⟨18, _⟩ => ⟨S2x4, .f32⟩
  | .hbm, ⟨19, _⟩ => ⟨S2x4x1x1, .f32⟩
  | .hbm, ⟨20, _⟩ => ⟨S4x2x4x256x1, .f32⟩
  | .hbm, ⟨21, _⟩ => ⟨S4x2x4x256x257, .f32⟩
  | .hbm, ⟨22, _⟩ => ⟨S_, .f32⟩
  | .hbm, ⟨23, _⟩ => ⟨S4x2x4x256, .f32⟩
  | .hbm, ⟨24, _⟩ => ⟨S_, .f32⟩
  | .hbm, ⟨25, _⟩ => ⟨S4x2x4x256, .f32⟩
  | .hbm, ⟨26, _⟩ => ⟨S4x2x4x256, .f32⟩
  | .hbm, ⟨27, _⟩ => ⟨S4x2x4x256x1, .f32⟩
  | .hbm, ⟨28, _⟩ => ⟨S4x2x4x256x257, .f32⟩
  | .hbm, ⟨29, _⟩ => ⟨S4x2x4x256x257, .f32⟩
  | .hbm, ⟨30, _⟩ => ⟨S4x2x4x256x257, .f32⟩
  | .hbm, ⟨31, _⟩ => ⟨S_, .f32⟩
  | .hbm, ⟨32, _⟩ => ⟨S4x2x4x256, .f32⟩
  | .hbm, ⟨33, _⟩ => ⟨S4x2x4x256x1, .f32⟩
  | .hbm, ⟨34, _⟩ => ⟨S4x2x4x256x257, .f32⟩
  | .hbm, ⟨35, _⟩ => ⟨S4x2x4x256x257, .f32⟩
  | .hbm, ⟨36, _⟩ => ⟨S4x2x4x256x256, .f32⟩
  | .hbm, ⟨37, _⟩ => ⟨S4x2x128x4x256, .f32⟩
  | .hbm, ⟨38, _⟩ => ⟨S4x256x2x4x128, .f32⟩
  | .hbm, ⟨39, _⟩ => ⟨S4x256x1024, .f32⟩
  | .hbm, ⟨40, _⟩ => ⟨S4x256x1024, .bf16⟩
  | _, _ => ⟨S4x2304x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.Softmax.lean ====
module

public import Idealize.ShloMosaic.PureOps.Ideal
public import Mathlib.Data.EReal.Inv
public import Mathlib.Algebra.BigOperators.Fin
public import Mathlib.Data.Finset.Fold

@[expose] public section

noncomputable section

open Idealize.ShloMosaic

/-! # The softmax with a sink

An attention's logits with one more logit, the sink, that takes weight and carries no value. The kernel divides the weighted
sum of the values by the sum of the weights; the reference divides each weight first. -/

namespace Cert.Softmax

variable {n : ℕ}

/-- The largest of the logits and the sink. -/
def top (s : Fin n → EReal) (z : EReal) : EReal := max (Finset.univ.fold max ⊥ s) z

/-- The sum of the weights, the sink's included. -/
def total (s : Fin n → EReal) (z : EReal) : EReal :=
  (∑ k, Ideal.exp (s k - top s z)) + Ideal.exp (z - top s z)

/-- The values averaged by the weights: the sum divided by the total. -/
def attend (s : Fin n → EReal) (z : EReal) (v : Fin n → EReal) : EReal :=
  Ideal.div (∑ k, Ideal.exp (s k - top s z) * v k) (total s z)

theorem exp_nonneg (x : EReal) : 0 ≤ Ideal.exp x := by
  induction x with
  | bot => exact le_refl _
  | top => exact le_top
  | coe r => exact EReal.coe_nonneg.2 (Real.exp_pos r).le

theorem exp_pos {x : EReal} (h : x ≠ ⊥) : 0 < Ideal.exp x := by
  induction x with
  | bot => exact absurd rfl h
  | top => exact EReal.zero_lt_top
  | coe r => exact EReal.coe_pos.2 (Real.exp_pos r)

theorem top_ne_top {s : Fin n → EReal} {z : EReal} (hs : ∀ k, s k ≠ ⊤) (hz : z ≠ ⊤) : top s z ≠ ⊤ := by
  refine (max_lt ?_ (lt_top_iff_ne_top.2 hz)).ne
  rw [Finset.fold_max_lt]
  exact ⟨bot_lt_top, fun k _ => lt_top_iff_ne_top.2 (hs k)⟩

theorem total_pos {s : Fin n → EReal} {z : EReal} (hs : ∀ k, s k ≠ ⊤) (hz : z ≠ ⊤) (hb : z ≠ ⊥) : 0 < total s z := by
  refine lt_of_lt_of_le (exp_pos (x := z - top s z) ?_) (le_add_of_nonneg_left (Finset.sum_nonneg fun k _ => exp_nonneg _))
  have ht := top_ne_top hs hz
  have hl : z ≤ top s z := le_max_right _ _
  generalize top s z = t at ht hl
  induction t with
  | bot => exact absurd (le_bot_iff.1 hl) hb
  | top => exact absurd rfl ht
  | coe r =>
    induction z with
    | bot => exact absurd rfl hb
    | top => exact absurd rfl hz
    | coe q => rw [← EReal.coe_sub]; exact EReal.coe_ne_bot _

theorem inv_ne_top {d : EReal} (h : 0 < d) : d⁻¹ ≠ ⊤ := by
  induction d with
  | bot => exact absurd h (not_lt_of_ge bot_le)
  | top => rw [EReal.inv_top]; exact EReal.zero_ne_top
  | coe r => rw [← EReal.coe_inv]; exact EReal.coe_ne_top _

theorem div_pos_eq {d : EReal} (h : 0 < d) (x : EReal) : Ideal.div x d = x * d⁻¹ := if_neg h.ne'

/-- A factor that is neither negative nor infinite goes into a sum. -/
theorem sum_mul {c : EReal} (h0 : 0 ≤ c) (ht : c ≠ ⊤) (f : Fin n → EReal) : (∑ k, f k) * c = ∑ k, f k * c := by
  refine (Finset.sum_hom_rel (r := fun a b => a * c = b) (zero_mul c) fun k a b e => ?_)
  rw [EReal.right_distrib_of_nonneg_of_ne_top h0 ht, e]

/-- The weights may be divided one by one. -/
theorem attend_eq {s : Fin n → EReal} {z : EReal} (hs : ∀ k, s k ≠ ⊤) (hz : z ≠ ⊤) (hb : z ≠ ⊥) (v : Fin n → EReal) :
    ∑ k, v k * Ideal.div (Ideal.exp (s k - top s z)) (total s z) = attend s z v := by
  have hp := total_pos hs hz hb
  unfold attend
  rw [div_pos_eq hp, sum_mul (EReal.inv_nonneg_of_nonneg hp.le) (inv_ne_top hp)]
  refine Finset.sum_congr rfl fun k _ => ?_
  rw [div_pos_eq hp, mul_comm (v k), mul_right_comm]

/-- Only the logits, the sink and the values of the keys that weigh something matter. -/
theorem attend_congr {s s' : Fin n → EReal} {z z' : EReal} {v v' : Fin n → EReal} (hs : ∀ k, s k = s' k) (hz : z = z')
    (hv : ∀ k, s' k = ⊥ ∨ v k = v' k) : attend s z v = attend s' z' v' := by
  subst hz
  obtain rfl : s = s' := funext hs
  unfold attend
  refine congrArg (Ideal.div · _) (Finset.sum_congr rfl fun k _ => ?_)
  rcases hv k with h | h
  · have e : s k - top s z = ⊥ := by rw [h, sub_eq_add_neg, EReal.bot_add]
    rw [e]
    exact (zero_mul _).trans (zero_mul _).symm
  · rw [h]

/-- The logits with the sink put first. -/
def withSink (s : Fin n → EReal) (z : EReal) : Fin (n + 1) → EReal := Fin.cons z s

theorem top_withSink (s : Fin n → EReal) (z : EReal) : max ⊥ (Finset.univ.fold max ⊥ (withSink s z)) = top s z := by
  rw [max_eq_right bot_le]
  refine le_antisymm ?_ (max_le ?_ ?_)
  · rw [Finset.fold_max_le]
    refine ⟨bot_le, fun k _ => ?_⟩
    refine Fin.cases (le_max_right _ _) (fun j => ?_) k
    exact (Finset.le_fold_max _).2 (Or.inr ⟨j, Finset.mem_univ _, le_refl _⟩) |>.trans (le_max_left _ _)
  · rw [Finset.fold_max_le]
    exact ⟨bot_le, fun k _ => (Finset.le_fold_max _).2 (Or.inr ⟨k.succ, Finset.mem_univ _, le_refl _⟩)⟩
  · exact (Finset.le_fold_max _).2 (Or.inr ⟨0, Finset.mem_univ _, le_refl _⟩)

/-- The reference's weight of a logit: the exponentials of all the logits, the sink first, divided by their sum. -/
def soft (l : Fin (n + 1) → EReal) (k : Fin (n + 1)) : EReal :=
  Ideal.div (Ideal.exp (l k - max ⊥ (Finset.univ.fold max ⊥ l)))
    (∑ j, Ideal.exp (l j - max ⊥ (Finset.univ.fold max ⊥ l)))

theorem soft_succ (s : Fin n → EReal) (z : EReal) (k : Fin n) :
    soft (withSink s z) k.succ = Ideal.div (Ideal.exp (s k - top s z)) (total s z) := by
  unfold soft total
  rw [top_withSink, Fin.sum_univ_succ, add_comm]
  rfl

/-- The reference's average is the kernel's. -/
theorem soft_attend {l : Fin (n + 1) → EReal} (hs : ∀ k, l k ≠ ⊤) (hb : l 0 ≠ ⊥) (v : Fin n → EReal) :
    ∑ k, v k * soft l k.succ = attend (fun k => l k.succ) (l 0) v := by
  have e : l = withSink (fun k => l k.succ) (l 0) := (Fin.cons_self_tail l).symm
  rw [← attend_eq (fun k => hs k.succ) (hs 0) hb]
  exact Finset.sum_congr rfl fun k _ => congrArg (v k * ·) ((congrArg (soft · k.succ) e).trans (soft_succ _ _ k))

/-- The place after the sink, as an index computed by addition. -/
theorem succ_eq {k : Fin n} (h : 1 + (k : ℕ) < n + 1) : (⟨1 + k, h⟩ : Fin (n + 1)) = k.succ := Fin.ext (Nat.add_comm _ _)

/-- A number that is not infinite. -/
def Fine (x : EReal) : Prop := x ≠ ⊤ ∧ x ≠ ⊥

theorem Fine.mul {x y : EReal} (hx : Fine x) (hy : Fine y) : Fine (x * y) := by
  induction x with
  | bot => exact absurd rfl hx.2
  | top => exact absurd rfl hx.1
  | coe r =>
    induction y with
    | bot => exact absurd rfl hy.2
    | top => exact absurd rfl hy.1
    | coe q => rw [← EReal.coe_mul]; exact ⟨EReal.coe_ne_top _, EReal.coe_ne_bot _⟩

theorem Fine.sum {m : ℕ} {f : Fin m → EReal} (h : ∀ k, Fine (f k)) : Fine (∑ k, f k) := by
  refine Finset.sum_induction f Fine (fun a b ha hb => ?_) ⟨EReal.zero_ne_top, EReal.zero_ne_bot⟩ fun k _ => h k
  induction a with
  | bot => exact absurd rfl ha.2
  | top => exact absurd rfl ha.1
  | coe r =>
    induction b with
    | bot => exact absurd rfl hb.2
    | top => exact absurd rfl hb.1
    | coe q => rw [← EReal.coe_add]; exact ⟨EReal.coe_ne_top _, EReal.coe_ne_bot _⟩

/-- The bit pattern of minus infinity. -/
theorem neg_inf : Ideal.ofBits .f32 0xFF800000#32 = (⊥ : EReal) := by
  show Ideal.ieee 8 23 0xFF800000#32 = ⊥
  unfold Ideal.ieee
  rw [if_pos (by decide), if_pos (by decide), if_pos (by decide)]

/-- The bit pattern of plus infinity. -/
theorem pos_inf : Ideal.ofBits .f32 0x7F800000#32 = (⊤ : EReal) := by
  show Ideal.ieee 8 23 0x7F800000#32 = ⊤
  unfold Ideal.ieee
  rw [if_pos (by decide), if_pos (by decide), if_neg (by decide)]

/-- The scale of the logits, `128 ** -0.5` in float32. -/
theorem fine_scale : Fine (Ideal.ofBits .f32 0x3DB504F3#32) := by
  show Fine (Ideal.ieee 8 23 0x3DB504F3#32)
  unfold Ideal.ieee
  rw [if_neg (by decide), if_neg (by decide)]
  exact ⟨EReal.coe_ne_top _, EReal.coe_ne_bot _⟩

/-- A number whose absolute value is below the infinity is not infinite. -/
theorem fine_of_abs {x : EReal} (h : max x (-x) < ⊤) : Fine x :=
  ⟨fun e => absurd h (by rw [e]; simp), fun e => absurd h (by rw [e]; simp)⟩

end Cert.Softmax

end
-- ==== Proof.AttnMask.lean ====
module

public import proofs.«01_k».proof.Proof.Gen.KernelIdeal.Value
public import Idealize.ShloMosaic.Lib.Pipeline.ValueKit
public import Idealize.ShloMosaic.Lib.Pointwise
public import Idealize.ShloMosaic.Lib.StableHlo.RunRead
public import proofs.«01_k».proof.Proof.Softmax

@[expose] public section

set_option maxRecDepth 16384

noncomputable section

open Idealize.ShloMosaic Idealize.ShloMosaic.TcCoe Idealize.SL.Sem
open Idealize.ShloMosaic.Pipeline (Dat)

/-! # The masks the host prepares for Kernel

Three masks, for the first block of rows, an inner one and the last: zero where a key may be seen, minus infinity elsewhere. -/

namespace Cert.KernelIdeal.Attn
open Cert.KernelIdeal Cert.KernelIdeal.Gen Cert.Softmax

/-- Three pieces put together, piece by piece. -/
theorem conc3 {α : Type} {s s1 : Shape} {d : Fin s.rank} {a a' b b' e e' : s1.Idx → α}
    {h : Shape.Concatenates [s1, s1, s1] s d} (ha : a = a') (hb : b = b') (he : e = e') :
    concatenate s d [⟨s1, a⟩, ⟨s1, b⟩, ⟨s1, e⟩] h = concatenate s d [⟨s1, a'⟩, ⟨s1, b'⟩, ⟨s1, e'⟩] h := by
  subst ha hb he; rfl

variable (m : (ℓ : Loc nD τ sig) → Buf (Elt Ideal) ℓ)

/-- The masks from the words that say what may be seen. -/
theorem masks (c : Dev nD) : V m c main_v44 = select (concatenate S3x512x640 0
    [⟨S1x512x640, V m c main_v39⟩, ⟨S1x512x640, V m c main_v40⟩, ⟨S1x512x640, V m c main_v41⟩] concatenates_S1x512x640_S1x512x640_S1x512x640_S3x512x640_d0)
    (broadcastInDim S3x512x640 ![] bcast_S_S3x512x640 (constant (F := Ideal) S_ .f32 0x00000000#32))
    (broadcastInDim S3x512x640 ![] bcast_S_S3x512x640 (constant (F := Ideal) S_ .f32 0xFF800000#32)) := by
  after_reads_simp
  simp only [StableHlo.TRef.toBuf, StableHlo.TRef.ofBuf, cast_eq, id_eq]
  refine congrArg (select · _ _) (conc3 ?_ ?_ ?_) <;> dsimp only [Matrix.cons_val] <;> after_reads_simp

/-- The remainder as the host computes it. -/
def remWord (w : BitVec 32) : BitVec 32 :=
  Scalar.select
    (IntOp.andi
      (IntOp.cmpi CmpIPredicate.ne
        (IntOp.cmpi CmpIPredicate.slt
          (IntOp.remsi ArithUnit.host w (Scalar.select (IntOp.cmpi CmpIPredicate.eq 128#32 0#32) 1#32 128#32)) 0#32)
        (IntOp.cmpi CmpIPredicate.slt (Scalar.select (IntOp.cmpi CmpIPredicate.eq 128#32 0#32) 1#32 128#32) 0#32))
      (IntOp.cmpi CmpIPredicate.ne
        (IntOp.remsi ArithUnit.host w (Scalar.select (IntOp.cmpi CmpIPredicate.eq 128#32 0#32) 1#32 128#32)) 0#32))
    (IntOp.addi (IntOp.remsi ArithUnit.host w (Scalar.select (IntOp.cmpi CmpIPredicate.eq 128#32 0#32) 1#32 128#32))
      (Scalar.select (IntOp.cmpi CmpIPredicate.eq 128#32 0#32) 1#32 128#32))
    (IntOp.remsi ArithUnit.host w (Scalar.select (IntOp.cmpi CmpIPredicate.eq 128#32 0#32) 1#32 128#32))

theorem remWord_at : ∀ r : Fin 512, remWord (BitVec.ofNat 32 r) = BitVec.ofNat 32 (r % 128) := by decide +kernel

/-- A row's place in its block. -/
theorem row_at (c : Dev nD) (r : Fin 512) : V m c main_v2 (ix2 r 0) = BitVec.ofNat 32 (r % 128) := by
  refine Eq.trans ?_ (remWord_at r)
  after_reads_simp
  simp only [StableHlo.TRef.toBuf, StableHlo.TRef.ofBuf, cast_eq, id_eq]
  unfold remWord
  pointwise

/-- Whether a key is near enough. -/
def near (r k : BitVec 32) : BitVec 1 := IntOp.cmpi .sle (IntOp.absi (IntOp.subi (IntOp.subi (IntOp.subi k 256#32) 128#32) r)) 128#32

/-- Which keys exist, in the first block, an inner one and the last. -/
def keep (i : Fin 3) (k : BitVec 32) : BitVec 1 :=
  ![IntOp.cmpi .sge (IntOp.subi k 256#32) 128#32, IntOp.cmpi .sge (IntOp.subi k 256#32) 0#32, IntOp.cmpi .slt (IntOp.subi k 256#32) 256#32] i

/-- The host's word for nearness. -/
theorem near_at (c : Dev nD) (r : Fin 512) (k : Fin 640) : V m c main_v14 (ix2 r k) = near (BitVec.ofNat 32 (r % 128)) (BitVec.ofNat 32 k) := by
  have e : V m c main_v14 = cmpi .sle (absi (subi (broadcastInDim S512x640 ![0, 1] bcast_S1x640_S512x640_0_1
      (subi (subi (broadcastInDim S1x640 ![1] bcast_S640_S1x640_1 (iotaInDim S640 32 0)) (broadcastInDim S1x640 ![] bcast_S_S1x640 (constantI S_ 32 256#32)))
        (broadcastInDim S1x640 ![] bcast_S_S1x640 (constantI S_ 32 128#32))))
      (broadcastInDim S512x640 ![0, 1] bcast_S512x1_S512x640_0_1 (V m c main_v2))))
      (broadcastInDim S512x640 ![] bcast_S_S512x640 (constantI S_ 32 128#32)) := by
    after_reads_simp
  rw [e, ← row_at m c]
  unfold near
  generalize V m c main_v2 = T
  pointwise

/-- The host's word for a mask, from the word that says which keys exist. -/
theorem seen_at (N : IVec S512x640 1) (B K : IVec S1x640 1) (r : Fin 512) (k : Fin 640) :
    broadcastInDim S1x512x640 ![1, 2] bcast_S512x640_S1x512x640_1_2 (ori (broadcastInDim S512x640 ![0, 1] bcast_S1x640_S512x640_0_1 B)
      (andi N (broadcastInDim S512x640 ![0, 1] bcast_S1x640_S512x640_0_1 K))) (ix3 0 r k)
    = IntOp.ori (B (ix2 0 k)) (IntOp.andi (N (ix2 r k)) (K (ix2 0 k))) := by
  pointwise

theorem first_mask (c : Dev nD) (r : Fin 512) (k : Fin 640) : V m c main_v39 (ix3 0 r k)
    = IntOp.ori (IntOp.cmpi .slt (IntOp.subi (BitVec.ofNat 32 k) 256#32) 0#32)
        (IntOp.andi (near (BitVec.ofNat 32 (r % 128)) (BitVec.ofNat 32 k)) (keep 0 (BitVec.ofNat 32 k))) := by
  rw [← near_at m c]
  have e : V m c main_v39 = broadcastInDim S1x512x640 ![1, 2] bcast_S512x640_S1x512x640_1_2 (ori
      (broadcastInDim S512x640 ![0, 1] bcast_S1x640_S512x640_0_1 (V m c main_v22))
      (andi (V m c main_v14) (broadcastInDim S512x640 ![0, 1] bcast_S1x640_S512x640_0_1 (V m c main_v16)))) := by
    after_reads_simp
  rw [e, seen_at]
  refine congrArg₂ IntOp.ori ?_ (congrArg (IntOp.andi _) ?_) <;> after_reads_simp <;> pointwise [keep]

theorem inner_mask (c : Dev nD) (r : Fin 512) (k : Fin 640) : V m c main_v40 (ix3 0 r k)
    = IntOp.ori (IntOp.cmpi .slt (IntOp.subi (BitVec.ofNat 32 k) 256#32) 0#32)
        (IntOp.andi (near (BitVec.ofNat 32 (r % 128)) (BitVec.ofNat 32 k)) (keep 1 (BitVec.ofNat 32 k))) := by
  rw [← near_at m c]
  have e : V m c main_v40 = broadcastInDim S1x512x640 ![1, 2] bcast_S512x640_S1x512x640_1_2 (ori
      (broadcastInDim S512x640 ![0, 1] bcast_S1x640_S512x640_0_1 (V m c main_v28))
      (andi (V m c main_v14) (broadcastInDim S512x640 ![0, 1] bcast_S1x640_S512x640_0_1 (V m c main_v18)))) := by
    after_reads_simp
  rw [e, seen_at]
  refine congrArg₂ IntOp.ori ?_ (congrArg (IntOp.andi _) ?_) <;> after_reads_simp <;> pointwise [keep]

theorem last_mask (c : Dev nD) (r : Fin 512) (k : Fin 640) : V m c main_v41 (ix3 0 r k)
    = IntOp.ori (IntOp.cmpi .slt (IntOp.subi (BitVec.ofNat 32 k) 256#32) 0#32)
        (IntOp.andi (near (BitVec.ofNat 32 (r % 128)) (BitVec.ofNat 32 k)) (keep 2 (BitVec.ofNat 32 k))) := by
  rw [← near_at m c]
  have e : V m c main_v41 = broadcastInDim S1x512x640 ![1, 2] bcast_S512x640_S1x512x640_1_2 (ori
      (broadcastInDim S512x640 ![0, 1] bcast_S1x640_S512x640_0_1 (V m c main_v34))
      (andi (V m c main_v14) (broadcastInDim S512x640 ![0, 1] bcast_S1x640_S512x640_0_1 (V m c main_v20)))) := by
    after_reads_simp
  rw [e, seen_at]
  refine congrArg₂ IntOp.ori ?_ (congrArg (IntOp.andi _) ?_) <;> after_reads_simp <;> pointwise [keep]

/-- A mask from three masks' words. -/
theorem choose_at (A B C : IVec S1x512x640 1) (i : Fin 3) (r : Fin 512) (k : Fin 640) : select (concatenate S3x512x640 0
    [⟨S1x512x640, A⟩, ⟨S1x512x640, B⟩, ⟨S1x512x640, C⟩] concatenates_S1x512x640_S1x512x640_S1x512x640_S3x512x640_d0)
    (broadcastInDim S3x512x640 ![] bcast_S_S3x512x640 (constant (F := Ideal) S_ .f32 0x00000000#32))
    (broadcastInDim S3x512x640 ![] bcast_S_S3x512x640 (constant (F := Ideal) S_ .f32 0xFF800000#32)) (ix3 i r k)
    = Scalar.select (![A (ix3 0 r k), B (ix3 0 r k), C (ix3 0 r k)] i) (0 : EReal) ⊥ := by
  fin_cases i <;> pointwise [neg_inf]

/-- The context comes first. -/
theorem ctx_word : ∀ k : Fin 640, IntOp.cmpi .slt (IntOp.subi (BitVec.ofNat 32 k) 256#32) 0#32 = if k.val < 256 then 1#1 else 0#1 := by decide +kernel

/-- The mask at a row and a key. -/
theorem mask_at (c : Dev nD) (i : Fin 3) (r : Fin 512) (k : Fin 640) : V m c main_v44 (ix3 i r k)
    = if k.val < 256 then (0 : EReal) else
        Scalar.select (IntOp.andi (near (BitVec.ofNat 32 (r % 128)) (BitVec.ofNat 32 k)) (keep i (BitVec.ofNat 32 k))) (0 : EReal) ⊥ := by
  rw [masks, choose_at, first_mask, inner_mask, last_mask, ctx_word]
  have h : ∀ b : BitVec 1, IntOp.ori 1#1 b = 1#1 ∧ IntOp.ori 0#1 b = b := by decide
  by_cases hk : k.val < 256
  · simp only [if_pos hk, (h _).1]
    fin_cases i <;> rfl
  · simp only [if_neg hk, (h _).2]
    fin_cases i <;> rfl

end Cert.KernelIdeal.Attn

end
-- ==== Proof.AttnRef.lean ====
module

public import proofs.«01_k».proof.Proof.Gen.ReferenceIdeal.Read
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem

/-! # The reference's banded attention over the latent tokens -/

namespace Cert.KernelIdeal.Attn

open Cert.Softmax

section Reference
open Cert.ReferenceIdeal Cert.ReferenceIdeal.Gen Cert.ReferenceIdeal.Read

/-- A band of blocks: the block before, the block itself and the block after. -/
def band (T : FVec Ideal S4x2304x2x128 .f32) : FVec Ideal S4x16x384x2x128 .f32 :=
  concatenate S4x16x384x2x128 2
    [⟨S4x16x128x2x128, extractStridedSlice S4x16x128x2x128 ![0, 0, 0, 0, 0] (shapeCast _ T shapeCasts_S4x2304x2x128_S4x18x128x2x128) slices_S4x18x128x2x128_S4x16x128x2x128_0_0_0_0_0⟩,
      ⟨S4x16x128x2x128, extractStridedSlice S4x16x128x2x128 ![0, 1, 0, 0, 0] (shapeCast _ T shapeCasts_S4x2304x2x128_S4x18x128x2x128) slices_S4x18x128x2x128_S4x16x128x2x128_0_1_0_0_0⟩,
      ⟨S4x16x128x2x128, extractStridedSlice S4x16x128x2x128 ![0, 2, 0, 0, 0] (shapeCast _ T shapeCasts_S4x2304x2x128_S4x18x128x2x128) slices_S4x18x128x2x128_S4x16x128x2x128_0_2_0_0_0⟩]
    concatenates_S4x16x128x2x128_S4x16x128x2x128_S4x16x128x2x128_S4x16x384x2x128_d2

theorem band_at (T : FVec Ideal S4x2304x2x128 .f32) (b : Fin 4) (n : Fin 16) (k : Fin 384) (h : Fin 2) (d : Fin 128) :
    band T (ix5 b n k h d) = T (ix4 b ⟨n * 128 + k, by omega⟩ h d) := by
  pointwise [band]
  by_cases h1 : k.val < 128
  · rw [dif_pos h1]
  · rw [dif_neg h1]
    by_cases h2 : k.val - 128 < 128
    · rw [dif_pos h2]
      exact congrArg (fun p => T (ix4 b p h d)) (Fin.ext (by show (1 + (n : ℕ)) * 128 + ((k : ℕ) - 128) = n * 128 + k; omega))
    · rw [dif_neg h2]
      exact congrArg (fun p => T (ix4 b p h d)) (Fin.ext (by show (2 + (n : ℕ)) * 128 + ((k : ℕ) - 128 - 128) = n * 128 + k; omega))

theorem zero_word : (FloatOps.sitofp FTy.f32 0#32 : Ideal .f32) = (0 : EReal) := by
  show (((0#32 : BitVec 32).toInt : ℝ) : EReal) = 0
  simp

/-- Blocks of zeros before and after. -/
def padded (X : FVec Ideal S4x2048x2x128 .f32) : FVec Ideal S4x2304x2x128 .f32 :=
  pad S4x2304x2x128 ![0, 128, 0, 0] ![0, 128, 0, 0] ![0, 0, 0, 0] X (sitofp .f32 (constantI S_ 32 0#32)) pads_S4x2048x2x128_S4x2304x2x128_000_1281280_000_000 h_S_

theorem padded_at (X : FVec Ideal S4x2048x2x128 .f32) (b : Fin 4) (p : Fin 2304) (h : Fin 2) (d : Fin 128) :
    padded X (ix4 b p h d) = if hp : 128 ≤ p.val ∧ p.val < 2176 then X (ix4 b ⟨p - 128, by omega⟩ h d) else 0 := by
  pointwise [padded]
  by_cases h1 : 128 ≤ p.val ∧ p.val < 2176
  · rw [dif_pos (by omega), dif_pos h1]
  · rw [dif_neg (by omega), dif_neg h1, zero_word]

/-- A neighbour of block `n`: row `n * 128 + k - 128` after the context's rows, zero where there is none. -/
def beside (X : Fin 2304 → EReal) (n : Fin 16) (k : Fin 384) : EReal :=
  if hp : 128 ≤ n.val * 128 + k.val ∧ n.val * 128 + k.val < 2176 then X ⟨256 + (n * 128 + k - 128), by omega⟩ else 0

/-- The keys of a band. -/
theorem key_band (x0 : Vec Ideal S4x2304x1280 .bf16) (b : Fin 4) (n : Fin 16) (k : Fin 384) (h : Fin 2) (d : Fin 128) :
    val_main_v19 (F := Ideal) x0 (ix5 b n k h d) = beside (fun p => x0 (ix3 b p ⟨1024 + (h * 128 + d), by omega⟩)) n k := by
  refine (band_at (val_main_v14 (F := Ideal) x0) b n k h d).trans ((padded_at (val_main_v6 (F := Ideal) x0) b _ h d).trans ?_)
  unfold beside
  refine dite_congr rfl (fun hp => ?_) fun _ => rfl
  pointwise [val_main_v6, val_main_v5, val_main_v0]

/-- The values of a band. -/
theorem value_band (x1 : Vec Ideal S4x2304x256 .bf16) (b : Fin 4) (n : Fin 16) (k : Fin 384) (h : Fin 2) (d : Fin 128) :
    val_main_v25 (F := Ideal) x1 (ix5 b n k h d) = beside (fun p => x1 (ix3 b p ⟨h * 128 + d, by omega⟩)) n k := by
  refine (band_at (val_main_v20 (F := Ideal) x1) b n k h d).trans ((padded_at (val_main_v12 (F := Ideal) x1) b _ h d).trans ?_)
  unfold beside
  refine dite_congr rfl (fun hp => ?_) fun _ => rfl
  pointwise [val_main_v12, val_main_v11, val_main_v1]

/-- The context's values. -/
theorem value_ctx (x1 : Vec Ideal S4x2304x256 .bf16) (b : Fin 4) (k : Fin 256) (h : Fin 2) (d : Fin 128) :
    val_main_v10 (F := Ideal) x1 (ix4 b k h d) = x1 (ix3 b ⟨k, by omega⟩ ⟨h * 128 + d, by omega⟩) := by
  pointwise [val_main_v10, val_main_v9, val_main_v1]

/-- The logits of the context. -/
theorem score_ctx (x0 : Vec Ideal S4x2304x1280 .bf16) (b : Fin 4) (n : Fin 16) (h : Fin 2) (g : Fin 4) (q : Fin 128) (k : Fin 256) :
    val_main_v33 (F := Ideal) x0 (ix6 b n h g q k)
      = (∑ d : Fin 128, x0 (ix3 b ⟨256 + (n * 128 + q), by omega⟩ ⟨h * 512 + g * 128 + d, by omega⟩)
        * x0 (ix3 b ⟨k, by omega⟩ ⟨1024 + (h * 128 + d), by omega⟩)) * Ideal.ofBits .f32 0x3DB504F3#32 := by
  pointwise [val_main_v33, val_main_v32, val_main_v31, val_main_v30, val_main_v13, val_main_v8, val_main_v7, val_main_v4, val_main_v0, val_main_cst_1]
  refine congrArg (· * _) (Finset.sum_congr rfl fun d _ => mul_comm _ _)

/-- The logits of a band, before any is hidden. -/
theorem score_band (x0 : Vec Ideal S4x2304x1280 .bf16) (b : Fin 4) (n : Fin 16) (h : Fin 2) (g : Fin 4) (q : Fin 128) (k : Fin 384) :
    val_main_v29 (F := Ideal) x0 (ix6 b n h g q k)
      = (∑ d : Fin 128, x0 (ix3 b ⟨256 + (n * 128 + q), by omega⟩ ⟨h * 512 + g * 128 + d, by omega⟩)
        * beside (fun p => x0 (ix3 b p ⟨1024 + (h * 128 + d), by omega⟩)) n k) * Ideal.ofBits .f32 0x3DB504F3#32 := by
  simp only [← key_band]
  unfold val_main_v29 val_main_v27 val_main_v26
  generalize val_main_v19 (F := Ideal) x0 = K
  pointwise [val_main_v28, val_main_v13, val_main_v4, val_main_v0, val_main_cst]
  refine congrArg (· * _) (Finset.sum_congr rfl fun d _ => mul_comm _ _)

/-- The reference's word for a key that may be seen. -/
def visible (n q k : BitVec 32) : BitVec 1 :=
  IntOp.andi (IntOp.andi
    (IntOp.cmpi .sle (IntOp.absi (IntOp.subi (IntOp.addi (IntOp.subi (IntOp.muli n 128#32) 128#32) k) (IntOp.addi (IntOp.muli n 128#32) q))) 128#32)
    (IntOp.cmpi .sge (IntOp.addi (IntOp.subi (IntOp.muli n 128#32) 128#32) k) 0#32))
    (IntOp.cmpi .slt (IntOp.addi (IntOp.subi (IntOp.muli n 128#32) 128#32) k) 2048#32)

theorem visible_at (n : Fin 16) (q : Fin 128) (k : Fin 384) :
    val_main_v71 (F := Ideal) (ix3 n q k) = visible (BitVec.ofNat 32 n) (BitVec.ofNat 32 q) (BitVec.ofNat 32 k) := by
  unfold visible
  pointwise [val_main_v71, val_main_v70, val_main_v69, val_main_v68, val_main_c_7, val_main_v67, val_main_v66, val_main_v65, val_main_v64,
    val_main_v63, val_main_c_6, val_main_v62, val_main_v61, val_main_v60, val_main_c_5, val_main_v59, val_main_v58, val_main_v57,
    val_main_v56, val_main_v55, val_main_v54, val_main_v53, val_main_v52, val_main_v51, val_main_v50, val_main_v49, val_main_v48,
    val_main_v47, val_main_c_4, val_main_v46, val_main_v45, val_main_c_3, val_main_v44, val_main_v43, val_main_v42, val_main_v41,
    val_main_v40, val_main_v39, val_main_v38, val_main_v37, val_main_v36, val_main_c_2, val_main_v35, val_main_v34]

/-- The logits of a band. -/
theorem hidden_band (x0 : Vec Ideal S4x2304x1280 .bf16) (b : Fin 4) (n : Fin 16) (h : Fin 2) (g : Fin 4) (q : Fin 128) (k : Fin 384) :
    val_main_v73 (F := Ideal) x0 (ix6 b n h g q k)
      = Scalar.select (visible (BitVec.ofNat 32 n) (BitVec.ofNat 32 q) (BitVec.ofNat 32 k)) (val_main_v29 (F := Ideal) x0 (ix6 b n h g q k)) (⊥ : EReal) := by
  rw [← visible_at]
  unfold val_main_v73 val_main_call2_v1 val_main_v72
  generalize val_main_v29 (F := Ideal) x0 = T
  generalize val_main_v71 (F := Ideal) = W
  pointwise [val_main_call2_v2, val_main_call2_v0, val_main_cst_8]
  exact congrArg (Scalar.select _ _) neg_inf

/-- The sink, put first. -/
theorem logit_sink (x0 : Vec Ideal S4x2304x1280 .bf16) (x2 : Vec Ideal S2x8 .f32) (b : Fin 4) (n : Fin 16) (h : Fin 2) (g : Fin 4) (q : Fin 128) :
    val_main_v77 (F := Ideal) x0 x2 (ix6 b n h g q 0) = x2 (ix2 0 ⟨h * 4 + g, by omega⟩) := by
  unfold val_main_v77
  generalize val_main_v73 (F := Ideal) x0 = B
  generalize val_main_v33 (F := Ideal) x0 = C
  pointwise [val_main_v76, val_main_v75, val_main_v74, val_main_v3, val_main_v2]

/-- The context's logits come next. -/
theorem logit_ctx (x0 : Vec Ideal S4x2304x1280 .bf16) (x2 : Vec Ideal S2x8 .f32) (b : Fin 4) (n : Fin 16) (h : Fin 2) (g : Fin 4) (q : Fin 128)
    (k : Fin 256) : val_main_v77 (F := Ideal) x0 x2 (ix6 b n h g q ⟨1 + k, by omega⟩) = val_main_v33 (F := Ideal) x0 (ix6 b n h g q k) := by
  unfold val_main_v77
  generalize val_main_v73 (F := Ideal) x0 = B
  generalize val_main_v33 (F := Ideal) x0 = C
  generalize val_main_v76 (F := Ideal) x2 = Z
  pointwise []

/-- The band's logits come last. -/
theorem logit_band (x0 : Vec Ideal S4x2304x1280 .bf16) (x2 : Vec Ideal S2x8 .f32) (b : Fin 4) (n : Fin 16) (h : Fin 2) (g : Fin 4) (q : Fin 128)
    (k : Fin 384) : val_main_v77 (F := Ideal) x0 x2 (ix6 b n h g q ⟨257 + k, by omega⟩) = val_main_v73 (F := Ideal) x0 (ix6 b n h g q k) := by
  unfold val_main_v77
  generalize val_main_v73 (F := Ideal) x0 = B
  generalize val_main_v33 (F := Ideal) x0 = C
  generalize val_main_v76 (F := Ideal) x2 = Z
  pointwise []
  rw [dif_neg (by omega), dif_neg (by omega)]
  exact congrArg (fun i => B (ix6 b n h g q i)) (Fin.ext (by show 257 + (k : ℕ) - 1 - 256 = k; omega))

/-- The greatest of a row's entries. -/
theorem fold_at (T : FVec Ideal S4x16x2x4x128x641 .f32) (z : FVec Ideal S_ .f32) (b : Fin 4) (n : Fin 16) (h : Fin 2) (g : Fin 4) (q : Fin 128) :
    Host.reduce FloatOps.maximumf T z reducesTo_S4x16x2x4x128x641_S4x16x2x4x128_d5 h_S_ (ix5 b n h g q)
      = (Finset.univ : Finset (Fin 641)).fold FloatOps.maximumf (z (Shape.Idx.first h_S_)) (fun j => T (ix6 b n h g q j)) := by
  rw [Host.reduce_eq_fold_single FloatOps.maximumf T z reducesTo_S4x16x2x4x128x641_S4x16x2x4x128_d5 (by decide) h_S_]
  refine Finset.fold_congr fun k _ => congrArg T (funext fun a => Fin.ext ?_)
  match a with | ⟨0, _⟩ => rfl | ⟨1, _⟩ => rfl | ⟨2, _⟩ => rfl | ⟨3, _⟩ => rfl | ⟨4, _⟩ => rfl | ⟨5, _⟩ => rfl

theorem fold_max {n : ℕ} (f : Fin n → EReal) (z : EReal) :
    ((Finset.univ : Finset (Fin n)).fold (FloatOps.maximumf (F := Ideal) (φ := .f32)) z f : EReal) = (Finset.univ : Finset (Fin n)).fold max z f := rfl

theorem low_word : val_main_cst_9 (F := Ideal) (Shape.Idx.first h_S_) = (⊥ : EReal) := neg_inf

theorem low_at (R : FVec Ideal S4x16x2x4x128 .f32) (b : Fin 4) (n : Fin 16) (h : Fin 2) (g : Fin 4) (q : Fin 128) :
    maximumf (val_main_v79 (F := Ideal)) R (ix5 b n h g q) = max ⊥ (R (ix5 b n h g q)) := by
  pointwise [val_main_v79, val_main_cst_10, neg_inf]

/-- The fold's first number and its operation, named otherwise. -/
theorem fold_low {n : ℕ} (f : Fin n → EReal) (r z : EReal) (hz : z = ⊥)
    (e : r = (Finset.univ : Finset (Fin n)).fold (FloatOps.maximumf (F := Ideal) (φ := .f32)) z f) :
    max ⊥ r = max ⊥ ((Finset.univ : Finset (Fin n)).fold max ⊥ f) := by
  subst hz
  rw [e, fold_max]

/-- The greatest logit. -/
theorem top_at (T : FVec Ideal S4x16x2x4x128x641 .f32) (b : Fin 4) (n : Fin 16) (h : Fin 2) (g : Fin 4) (q : Fin 128) :
    maximumf (val_main_v79 (F := Ideal)) (Host.reduce FloatOps.maximumf T (val_main_cst_9 (F := Ideal))
        reducesTo_S4x16x2x4x128x641_S4x16x2x4x128_d5 h_S_) (ix5 b n h g q)
      = max ⊥ ((Finset.univ : Finset (Fin 641)).fold max ⊥ (fun j => T (ix6 b n h g q j))) :=
  (low_at _ b n h g q).trans (fold_low _ _ _ low_word (fold_at T (val_main_cst_9 (F := Ideal)) b n h g q))

/-- The exponential of a logit less a row's number. -/
theorem exp_at (T : FVec Ideal S4x16x2x4x128x641 .f32) (M : FVec Ideal S4x16x2x4x128 .f32) (b : Fin 4) (n : Fin 16) (h : Fin 2) (g : Fin 4)
    (q : Fin 128) (k : Fin 641) :
    Host.exp (subf T (broadcastInDim S4x16x2x4x128x641 ![0, 1, 2, 3, 4, 5] bcast_S4x16x2x4x128x1_S4x16x2x4x128x641_0_1_2_3_4_5
        (broadcastInDim S4x16x2x4x128x1 ![0, 1, 2, 3, 4] bcast_S4x16x2x4x128_S4x16x2x4x128x1_0_1_2_3_4 M))) (ix6 b n h g q k)
      = Ideal.exp (T (ix6 b n h g q k) - M (ix5 b n h g q)) := by
  pointwise []

/-- A row's entry over the row's number. -/
theorem quot_at (E : FVec Ideal S4x16x2x4x128x641 .f32) (D : FVec Ideal S4x16x2x4x128 .f32) (b : Fin 4) (n : Fin 16) (h : Fin 2) (g : Fin 4)
    (q : Fin 128) (k : Fin 641) :
    Host.divf E (broadcastInDim S4x16x2x4x128x641 ![0, 1, 2, 3, 4, 5] bcast_S4x16x2x4x128x1_S4x16x2x4x128x641_0_1_2_3_4_5
        (broadcastInDim S4x16x2x4x128x1 ![0, 1, 2, 3, 4] bcast_S4x16x2x4x128_S4x16x2x4x128x1_0_1_2_3_4 D)) (ix6 b n h g q k)
      = Ideal.div (E (ix6 b n h g q k)) (D (ix5 b n h g q)) := by
  pointwise []

/-- A row's sum. -/
theorem sum_at (x0 : Vec Ideal S4x2304x1280 .bf16) (x2 : Vec Ideal S2x8 .f32) (b : Fin 4) (n : Fin 16) (h : Fin 2) (g : Fin 4) (q : Fin 128) :
    val_main_v85 (F := Ideal) x0 x2 (ix5 b n h g q) = ∑ j : Fin 641, val_main_v84 (F := Ideal) x0 x2 (ix6 b n h g q j) := by
  rw [val_main_v85_apply]
  generalize val_main_v84 (F := Ideal) x0 x2 = E
  have z : val_main_cst_11 (F := Ideal) (Shape.Idx.first h_S_) = (0 : EReal) := Ideal.ofBits_zero_f32
  rw [z, zero_add]
  refine Finset.sum_congr rfl fun k _ => congrArg E (funext fun a => Fin.ext ?_)
  match a with | ⟨0, _⟩ => rfl | ⟨1, _⟩ => rfl | ⟨2, _⟩ => rfl | ⟨3, _⟩ => rfl | ⟨4, _⟩ => rfl | ⟨5, _⟩ => rfl

/-- The weights are the softmax of the logits. -/
theorem soft_ref (x0 : Vec Ideal S4x2304x1280 .bf16) (x2 : Vec Ideal S2x8 .f32) (b : Fin 4) (n : Fin 16) (h : Fin 2) (g : Fin 4) (q : Fin 128)
    (k : Fin 641) : val_main_v88 (F := Ideal) x0 x2 (ix6 b n h g q k)
      = soft (fun j => val_main_v77 (F := Ideal) x0 x2 (ix6 b n h g q j)) k := by
  have e : ∀ j : Fin 641, val_main_v84 (F := Ideal) x0 x2 (ix6 b n h g q j)
      = Ideal.exp (val_main_v77 (F := Ideal) x0 x2 (ix6 b n h g q j)
        - max ⊥ ((Finset.univ : Finset (Fin 641)).fold max ⊥ (fun j => val_main_v77 (F := Ideal) x0 x2 (ix6 b n h g q j)))) := fun j => by
    unfold val_main_v84 val_main_v83 val_main_v82 val_main_v81 val_main_v80 val_main_v78
    generalize val_main_v77 (F := Ideal) x0 x2 = T
    rw [exp_at, top_at]
  unfold val_main_v88 val_main_v87 val_main_v86
  rw [quot_at, sum_at]
  generalize val_main_v84 (F := Ideal) x0 x2 = E at e ⊢
  generalize val_main_v77 (F := Ideal) x0 x2 = T at e ⊢
  rw [e, Finset.sum_congr rfl fun j _ => e j]
  rfl

/-- The result: the values weighed by the softmax, the context's and then the band's. -/
theorem out_at (x0 : Vec Ideal S4x2304x1280 .bf16) (x1 : Vec Ideal S4x2304x256 .bf16) (x2 : Vec Ideal S2x8 .f32)
    (b : Fin 4) (n : Fin 16) (q : Fin 128) (h : Fin 2) (g : Fin 4) (d : Fin 128) :
    val_main_v97 (F := Ideal) x0 x1 x2 (ix3 b ⟨n * 128 + q, by omega⟩ ⟨(h * 4 + g) * 128 + d, by omega⟩)
      = (∑ k : Fin 256, val_main_v10 (F := Ideal) x1 (ix4 b k h d) * val_main_v88 (F := Ideal) x0 x2 (ix6 b n h g q ⟨1 + k, by omega⟩))
        + ∑ k : Fin 384, val_main_v25 (F := Ideal) x1 (ix5 b n k h d) * val_main_v88 (F := Ideal) x0 x2 (ix6 b n h g q ⟨257 + k, by omega⟩) := by
  unfold val_main_v97 val_main_v96 val_main_v95 val_main_v94 val_main_v93 val_main_v92 val_main_v91 val_main_v90 val_main_v89
  generalize val_main_v88 (F := Ideal) x0 x2 = P
  generalize val_main_v10 (F := Ideal) x1 = A
  generalize val_main_v25 (F := Ideal) x1 = B
  pointwise []

/-- A column seen by block `n`: the context's rows, then the band's. -/
def keyAt (X : Fin 2304 → EReal) (n : Fin 16) (k : Fin 640) : EReal :=
  if hk : k.val < 256 then X ⟨k, by omega⟩ else beside X n ⟨k - 256, by omega⟩

/-- The product of a query row and a key row, scaled. -/
def score (x0 : Vec Ideal S4x2304x1280 .bf16) (b : Fin 4) (n : Fin 16) (h : Fin 2) (g : Fin 4) (q : Fin 128) (k : Fin 640) : EReal :=
  (∑ d : Fin 128, x0 (ix3 b ⟨256 + (n * 128 + q), by omega⟩ ⟨h * 512 + g * 128 + d, by omega⟩)
    * keyAt (fun p => x0 (ix3 b p ⟨1024 + (h * 128 + d), by omega⟩)) n k) * Ideal.ofBits .f32 0x3DB504F3#32

/-- The logit of a key: minus infinity where it may not be seen. -/
def logit (x0 : Vec Ideal S4x2304x1280 .bf16) (b : Fin 4) (n : Fin 16) (h : Fin 2) (g : Fin 4) (q : Fin 128) (k : Fin 640) : EReal :=
  if k.val < 256 then score x0 b n h g q k
  else Scalar.select (visible (BitVec.ofNat 32 n) (BitVec.ofNat 32 q) (BitVec.ofNat 32 (k - 256))) (score x0 b n h g q k) (⊥ : EReal)

theorem keyAt_ctx (X : Fin 2304 → EReal) (n : Fin 16) {k : Fin 640} (hk : k.val < 256) : keyAt X n k = X ⟨k, by omega⟩ := dif_pos hk

theorem keyAt_band (X : Fin 2304 → EReal) (n : Fin 16) {k : Fin 640} (hk : ¬ k.val < 256) : keyAt X n k = beside X n ⟨k - 256, by omega⟩ := dif_neg hk

/-- The logits after the sink. -/
theorem logit_at (x0 : Vec Ideal S4x2304x1280 .bf16) (x2 : Vec Ideal S2x8 .f32) (b : Fin 4) (n : Fin 16) (h : Fin 2) (g : Fin 4) (q : Fin 128)
    (k : Fin 640) : val_main_v77 (F := Ideal) x0 x2 (ix6 b n h g q k.succ) = logit x0 b n h g q k := by
  unfold logit score
  by_cases hk : k.val < 256
  · have e : k.succ = (⟨1 + (⟨k, hk⟩ : Fin 256), by show 1 + (k : ℕ) < 641; omega⟩ : Fin 641) := Fin.ext (Nat.add_comm _ _)
    rw [e, logit_ctx, score_ctx, if_pos hk]
    exact congrArg (· * _) (Finset.sum_congr rfl fun d _ => congrArg (_ * ·) (keyAt_ctx (fun p => x0 (ix3 b p ⟨1024 + (h * 128 + d), by omega⟩)) n hk).symm)
  · have e : k.succ = (⟨257 + (⟨k - 256, by omega⟩ : Fin 384), by show 257 + ((k : ℕ) - 256) < 641; omega⟩ : Fin 641) :=
      Fin.ext (by show (k : ℕ) + 1 = 257 + (k - 256); omega)
    rw [e, logit_band, hidden_band, score_band, if_neg hk]
    exact congrArg (Scalar.select _ · _) (congrArg (· * _) (Finset.sum_congr rfl fun d _ => congrArg (_ * ·) (keyAt_band (fun p => x0 (ix3 b p ⟨1024 + (h * 128 + d), by omega⟩)) n hk).symm))

theorem fine_keyAt {X : Fin 2304 → EReal} (hX : ∀ p, Fine (X p)) (n : Fin 16) (k : Fin 640) : Fine (keyAt X n k) := by
  unfold keyAt beside
  by_cases hk : k.val < 256
  · rw [dif_pos hk]
    exact hX _
  · rw [dif_neg hk]
    split
    · exact hX _
    · exact ⟨EReal.zero_ne_top, EReal.zero_ne_bot⟩

theorem fine_score {x0 : Vec Ideal S4x2304x1280 .bf16} (hq : ∀ i, Fine (x0 i)) (b : Fin 4) (n : Fin 16) (h : Fin 2) (g : Fin 4) (q : Fin 128)
    (k : Fin 640) : Fine (score x0 b n h g q k) :=
  (Fine.sum fun d => (hq _).mul (fine_keyAt (fun p => hq _) n k)).mul fine_scale

theorem logit_ne_top {x0 : Vec Ideal S4x2304x1280 .bf16} (hq : ∀ i, Fine (x0 i)) (b : Fin 4) (n : Fin 16) (h : Fin 2) (g : Fin 4) (q : Fin 128)
    (k : Fin 640) : logit x0 b n h g q k ≠ ⊤ := by
  unfold logit Scalar.select
  have f := fine_score hq b n h g q k
  split
  · exact f.1
  · split
    · exact f.1
    · exact bot_ne_top

/-- The values weighed, the context's and the band's in one sum. -/
theorem out_sum (x0 : Vec Ideal S4x2304x1280 .bf16) (x1 : Vec Ideal S4x2304x256 .bf16) (x2 : Vec Ideal S2x8 .f32)
    (b : Fin 4) (n : Fin 16) (q : Fin 128) (h : Fin 2) (g : Fin 4) (d : Fin 128) :
    val_main_v97 (F := Ideal) x0 x1 x2 (ix3 b ⟨n * 128 + q, by omega⟩ ⟨(h * 4 + g) * 128 + d, by omega⟩)
      = ∑ k : Fin 640, keyAt (fun p => x1 (ix3 b p ⟨h * 128 + d, by omega⟩)) n k * val_main_v88 (F := Ideal) x0 x2 (ix6 b n h g q k.succ) := by
  rw [out_at]
  generalize val_main_v88 (F := Ideal) x0 x2 = P
  refine Eq.trans ?_ (Fin.sum_univ_add (a := 256) (b := 384) (fun k : Fin 640 =>
    keyAt (fun p => x1 (ix3 b p ⟨h * 128 + d, by omega⟩)) n k * P (ix6 b n h g q k.succ))).symm
  refine congrArg₂ (fun a b : EReal => a + b) (Finset.sum_congr rfl fun k _ => ?_) (Finset.sum_congr rfl fun k _ => ?_)
  · refine congrArg₂ (fun a b : EReal => a * b) ?_ (congrArg (fun i => P (ix6 b n h g q i)) (Fin.ext (Nat.add_comm 1 (k : ℕ))))
    rw [value_ctx]
    exact (keyAt_ctx (fun p => x1 (ix3 b p ⟨h * 128 + d, by omega⟩)) n (k := Fin.castAdd 384 k) k.isLt).symm
  · refine congrArg₂ (fun a b : EReal => a * b) ?_ (congrArg (fun i => P (ix6 b n h g q i)) (Fin.ext (by show 257 + (k : ℕ) = 256 + k + 1; omega)))
    rw [value_band]
    refine Eq.trans ?_ (keyAt_band (fun p => x1 (ix3 b p ⟨h * 128 + d, by omega⟩)) n (k := Fin.natAdd 256 k) (by show ¬ 256 + (k : ℕ) < 256; omega)).symm
    exact congrArg (beside _ n) (Fin.ext (by show (k : ℕ) = 256 + k - 256; omega))

/-- The reference's result, its queries, keys and sinks finite. -/
theorem ref_at (x0 : Vec Ideal S4x2304x1280 .bf16) (x1 : Vec Ideal S4x2304x256 .bf16) (x2 : Vec Ideal S2x8 .f32)
    (hq : ∀ i, Fine (x0 i)) (hz : ∀ i, Fine (x2 i)) (b : Fin 4) (n : Fin 16) (q : Fin 128) (h : Fin 2) (g : Fin 4) (d : Fin 128) :
    val_main_v97 (F := Ideal) x0 x1 x2 (ix3 b ⟨n * 128 + q, by omega⟩ ⟨(h * 4 + g) * 128 + d, by omega⟩)
      = attend (logit x0 b n h g q) (x2 (ix2 0 ⟨h * 4 + g, by omega⟩)) (keyAt (fun p => x1 (ix3 b p ⟨h * 128 + d, by omega⟩)) n) := by
  rw [out_sum]
  have e := soft_ref x0 x2 b n h g q
  have es := logit_at x0 x2 b n h g q
  have e0 := logit_sink x0 x2 b n h g q
  have fs := logit_ne_top hq b n h g q
  generalize val_main_v77 (F := Ideal) x0 x2 = T at e es e0
  generalize val_main_v88 (F := Ideal) x0 x2 = P at e ⊢
  refine (Finset.sum_congr rfl fun (k : Fin 640) _ => congrArg (keyAt _ n k * ·) (e k.succ)).trans ?_
  refine (soft_attend (l := fun j => T (ix6 b n h g q j)) (fun k => ?_) ?_ _).trans ?_
  · refine Fin.cases ?_ (fun j => ?_) k
    · show T (ix6 b n h g q 0) ≠ ⊤
      rw [e0]
      exact (hz _).1
    · show T (ix6 b n h g q j.succ) ≠ ⊤
      rw [es]
      exact fs j
  · show T (ix6 b n h g q 0) ≠ ⊥
    rw [e0]
    exact (hz _).2
  · exact attend_congr es e0 fun k => Or.inr rfl

end Reference

end Cert.KernelIdeal.Attn

end
-- ==== Proof.Heads.lean ====
module

public import Idealize.ShloMosaic.Lib.Pointwise

@[expose] public section

set_option maxRecDepth 16384

noncomputable section

open Idealize.ShloMosaic

/-! # The query head of a row

A block stacks the rows of four query heads; a row's head is its number divided by the rows of a head, rounded down, which
the kernel computes from a division that rounds to zero. -/

namespace Cert.Heads

/-- The head's number as the kernel computes it, from the row's number and the rows of a head. -/
def headWord (w n : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt n 0#32))
          (Scalar.extui (Scalar.cmpi CmpIPredicate.slt n 0#32))))
      (IntOp.cmpi CmpIPredicate.ne (IntOp.remsi ArithUnit.vector w n) 0#32))
    (IntOp.subi (IntOp.divsi ArithUnit.vector w n) 1#32)
    (IntOp.divsi ArithUnit.vector w n)

theorem headWord_256 : ∀ r : Fin 1024, headWord (BitVec.ofNat 32 r) 256#32 = BitVec.ofNat 32 (r / 256) := by decide +kernel

theorem headWord_128 : ∀ r : Fin 512, headWord (BitVec.ofNat 32 r) 128#32 = BitVec.ofNat 32 (r / 128) := by decide +kernel

/-- The choice among four by the head's number. -/
theorem pick (S : Fin 4 → EReal) (z : EReal) : ∀ g : Fin 4,
    Scalar.select (IntOp.cmpi CmpIPredicate.eq (BitVec.ofNat 32 g) 3#32) (S 3)
      (Scalar.select (IntOp.cmpi CmpIPredicate.eq (BitVec.ofNat 32 g) 2#32) (S 2)
        (Scalar.select (IntOp.cmpi CmpIPredicate.eq (BitVec.ofNat 32 g) 1#32) (S 1)
          (Scalar.select (IntOp.cmpi CmpIPredicate.eq (BitVec.ofNat 32 g) 0#32) (S 0) z))) = S g := by
  intro g
  match g with
  | 0 => rfl
  | 1 => rfl
  | 2 => rfl
  | 3 => rfl

end Cert.Heads

end
-- ==== Proof.AttnKer.lean ====
module

public import proofs.«01_k».proof.Proof.Gen.KernelIdeal.Value
public import Idealize.ShloMosaic.Lib.Pipeline.ValueKit
public import Idealize.ShloMosaic.Lib.Pointwise
public import proofs.«01_k».proof.Proof.Softmax
public import proofs.«01_k».proof.Proof.Heads

@[expose] public section

set_option maxRecDepth 16384

noncomputable section

open Idealize.ShloMosaic Idealize.ShloMosaic.TcCoe Idealize.SL.Sem

/-! # What Kernel's body stores, from its loads -/

namespace Cert.KernelIdeal.Attn

open Cert.Softmax Cert.Heads

section Kernel
open Cert.KernelIdeal Cert.KernelIdeal.Gen

/-- The sink of every row, chosen by the row's head. -/
def sinkCol (s0 s1 s2 s3 : EReal) : FVec Ideal S512x1 .f32 :=
  select (cmpi .eq k0_pay12 (broadcast S512x1 3#32)) (broadcast S512x1 s3)
    (select (cmpi .eq k0_pay12 (broadcast S512x1 2#32)) (broadcast S512x1 s2)
      (select (cmpi .eq k0_pay12 (broadcast S512x1 1#32)) (broadcast S512x1 s1)
        (select k0_pay14 (broadcast S512x1 s0) (k0_pay13 (F := Ideal)))))

/-- The greatest number of every row, its sink's included. -/
def topCol (s : FVec Ideal S512x640 .f32) (z : FVec Ideal S512x1 .f32) : FVec Ideal S512x1 .f32 :=
  maximumf (shapeCast S512x1 (multiReduction .maximumf [1] S512 s 0xFF800000#32 reduces_S512x640_S512 (.inl rfl) rfl) shapeCasts_S512_S512x1) z

/-- The attention of every row. -/
def rowsOut (v : FVec Ideal S640x128 .bf16) (s : FVec Ideal S512x640 .f32) (z : FVec Ideal S512x1 .f32) : FVec Ideal S512x128 .f32 :=
  divf (matmul dot_S512x640_S640x128_S512x128_1_0_0_1_n_n none
      (truncf .bf16 (exp (subf s (broadcastTo S512x640 (topCol s z) broadcasts_S512x1_S512x640))) bitsLt_bf16_f32) v (constant S512x128 .f32 0x00000000#32))
    (broadcastTo S512x128 (addf
      (shapeCast S512x1 (multiReduction .add [1] S512 (exp (subf s (broadcastTo S512x640 (topCol s z) broadcasts_S512x1_S512x640))) 0x00000000#32
        reduces_S512x640_S512 (.inl rfl) rfl) shapeCasts_S512_S512x1)
      (exp (subf z (topCol s z)))) broadcasts_S512x1_S512x128)

theorem pay15_rows (v : FVec Ideal S640x128 .bf16) (s : FVec Ideal S512x640 .f32) (s0 s1 s2 s3 : EReal) :
    k0_pay15 (F := Ideal) v s k0_pay12 k0_pay13 k0_pay14 s0 s1 s2 s3 = rowsOut v s (sinkCol s0 s1 s2 s3) := rfl

theorem rowsOut_at (v : FVec Ideal S640x128 .bf16) (s : FVec Ideal S512x640 .f32) (z : FVec Ideal S512x1 .f32) (r : Fin 512) (d : Fin 128) :
    rowsOut v s z (ix2 r d) = attend (fun k : Fin 640 => s (ix2 r k)) (z (ix2 r 0)) (fun k => v (ix2 k d)) := by
  unfold attend total top
  pointwise [rowsOut, topCol, neg_inf]

/-- The sink of a row of a query head. -/
theorem sinkCol_at (S : Fin 4 → EReal) (g : Fin 4) (q : Fin 128) :
    sinkCol (S 0) (S 1) (S 2) (S 3) (ix2 ⟨g * 128 + q, by omega⟩ 0) = S g := by
  have e := headWord_128 ⟨g * 128 + q, by omega⟩
  unfold headWord at e
  have eg : ((⟨g * 128 + q, by omega⟩ : Fin 512) : ℕ) / 128 = g := by show ((g : ℕ) * 128 + q) / 128 = g; omega
  rw [eg] at e
  pointwise [sinkCol, k0_pay12, k0_pay13, k0_pay14]
  simp only [e]
  exact pick S _ g

/-- The query rows of a head. -/
theorem pay5_at (Q : Fin 4 → Vec Ideal S1x128x128 .bf16) (g : Fin 4) (q : Fin 128) (e : Fin 128) :
    k0_pay5 (Q 0) (Q 1) (Q 2) (Q 3) (ix2 ⟨g * 128 + q, by omega⟩ e) = Q g (ix3 0 q e) := by
  fin_cases g <;> pointwise [k0_pay5]
  · rw [dif_neg (by omega), dif_neg (by omega), dif_pos (by omega)]
    exact congrArg (fun i => Q 2 (ix3 0 i e)) (Fin.ext (by show 256 + (q : ℕ) - 128 - 128 = q; omega))
  · rw [dif_neg (by omega), dif_neg (by omega), dif_neg (by omega)]
    exact congrArg (fun i => Q 3 (ix3 0 i e)) (Fin.ext (by show 384 + (q : ℕ) - 128 - 128 - 128 = q; omega))

/-- A column put together: the context's rows, then three blocks. -/
def glue (A : Fin 256 → EReal) (B C D : Fin 128 → EReal) (k : Fin 640) : EReal :=
  if h1 : k.val < 256 then A ⟨k, h1⟩
  else if h2 : k.val - 256 < 128 then B ⟨k - 256, h2⟩
  else if h3 : k.val - 256 - 128 < 128 then C ⟨k - 256 - 128, h3⟩
  else D ⟨k - 256 - 128 - 128, by omega⟩

theorem pay6_at (A : Vec Ideal S1x256x128 .bf16) (B C D : Vec Ideal S1x128x128 .bf16) (k : Fin 640) (d : Fin 128) :
    k0_pay6 A B C D (ix2 k d)
      = glue (fun r => A (ix3 0 r d)) (fun r => B (ix3 0 r d)) (fun r => C (ix3 0 r d)) (fun r => D (ix3 0 r d)) k := by
  unfold glue
  pointwise [k0_pay6]

theorem pay10_at (A : Vec Ideal S1x256x128 .bf16) (B C D : Vec Ideal S1x128x128 .bf16) (k : Fin 640) (d : Fin 128) :
    k0_pay10 (k0_pay7 A) (k0_pay8 B) (k0_pay9 C) D (ix2 k d)
      = glue (fun r => A (ix3 0 r d)) (fun r => B (ix3 0 r d)) (fun r => C (ix3 0 r d)) (fun r => D (ix3 0 r d)) k :=
  (congrFun (rfl : k0_pay10 (k0_pay7 A) (k0_pay8 B) (k0_pay9 C) D = k0_pay6 A B C D) _).trans (pay6_at A B C D k d)

theorem pay11_at (A : FVec Ideal S512x128 .bf16) (B : FVec Ideal S640x128 .bf16) (M : Vec Ideal S1x512x640 .f32) (r : Fin 512) (k : Fin 640) :
    k0_pay11 A B M (ix2 r k) = (∑ e : Fin 128, A (ix2 r e) * B (ix2 k e)) * Ideal.ofBits .f32 0x3DB504F3#32 + M (ix3 0 r k) := by
  pointwise [k0_pay11]

/-- A row of a query head's attention, from the block's loads. -/
theorem head_at (Q : Fin 4 → Vec Ideal S1x128x128 .bf16) (K0 V0 : Vec Ideal S1x256x128 .bf16) (K1 K2 K3 V1 V2 V3 : Vec Ideal S1x128x128 .bf16)
    (M : Vec Ideal S1x512x640 .f32) (S : Fin 4 → EReal) (g : Fin 4) (q : Fin 128) (d : Fin 128) :
    k0_pay15 (F := Ideal) (k0_pay10 (k0_pay7 V0) (k0_pay8 V1) (k0_pay9 V2) V3) (k0_pay11 (k0_pay5 (Q 0) (Q 1) (Q 2) (Q 3)) (k0_pay6 K0 K1 K2 K3) M)
      k0_pay12 k0_pay13 k0_pay14 (S 0) (S 1) (S 2) (S 3) (ix2 ⟨g * 128 + q, by omega⟩ d)
    = attend (fun k : Fin 640 => (∑ e : Fin 128, Q g (ix3 0 q e)
          * glue (fun r => K0 (ix3 0 r e)) (fun r => K1 (ix3 0 r e)) (fun r => K2 (ix3 0 r e)) (fun r => K3 (ix3 0 r e)) k)
          * Ideal.ofBits .f32 0x3DB504F3#32 + M (ix3 0 ⟨g * 128 + q, by omega⟩ k)) (S g)
        (fun k => glue (fun r => V0 (ix3 0 r d)) (fun r => V1 (ix3 0 r d)) (fun r => V2 (ix3 0 r d)) (fun r => V3 (ix3 0 r d)) k) := by
  rw [pay15_rows, rowsOut_at, sinkCol_at]
  refine attend_congr (fun k => ?_) rfl fun k => Or.inr (pay10_at V0 V1 V2 V3 k d)
  rw [pay11_at]
  refine congrArg (fun a : EReal => a * _ + _) (Finset.sum_congr rfl fun e _ => ?_)
  rw [pay5_at, pay6_at]

/-- The first head's store. -/
theorem pay1_at (v : FVec Ideal S640x128 .bf16) (s : FVec Ideal S512x640 .f32) (s0 s1 s2 s3 : EReal) (q : Fin 128) (d : Fin 128) :
    k0_pay1 (k0_pay16 (F := Ideal) v s k0_pay12 k0_pay13 k0_pay14 s0 s1 s2 s3) (ix3 0 q d)
      = k0_pay15 (F := Ideal) v s k0_pay12 k0_pay13 k0_pay14 s0 s1 s2 s3 (ix2 ⟨((0 : Fin 4) : ℕ) * 128 + q, by show 0 * 128 + (q : ℕ) < 512; omega⟩ d) := by
  unfold k0_pay16
  generalize k0_pay15 (F := Ideal) v s k0_pay12 k0_pay13 k0_pay14 s0 s1 s2 s3 = T
  pointwise [k0_pay1]

/-- The second head's store. -/
theorem pay2_at (T : FVec Ideal S512x128 .f32) (q : Fin 128) (d : Fin 128) :
    k0_pay2 T (ix3 0 q d) = T (ix2 ⟨((1 : Fin 4) : ℕ) * 128 + q, by show 1 * 128 + (q : ℕ) < 512; omega⟩ d) := by
  pointwise [k0_pay2]

/-- The third head's store. -/
theorem pay3_at (T : FVec Ideal S512x128 .f32) (q : Fin 128) (d : Fin 128) :
    k0_pay3 T (ix3 0 q d) = T (ix2 ⟨((2 : Fin 4) : ℕ) * 128 + q, by show 2 * 128 + (q : ℕ) < 512; omega⟩ d) := by
  pointwise [k0_pay3]

/-- The fourth head's store. -/
theorem pay4_at (T : FVec Ideal S512x128 .f32) (q : Fin 128) (d : Fin 128) :
    k0_pay4 T (ix3 0 q d) = T (ix2 ⟨((3 : Fin 4) : ℕ) * 128 + q, by show 3 * 128 + (q : ℕ) < 512; omega⟩ d) := by
  pointwise [k0_pay4]

end Kernel

end Cert.KernelIdeal.Attn

end
-- ==== Proof.AttnBlocks.lean ====
module

public import proofs.«01_k».proof.Proof.AttnMask
public import proofs.«01_k».proof.Proof.AttnRef
public import proofs.«01_k».proof.Proof.AttnKer

@[expose] public section

set_option maxRecDepth 16384

noncomputable section

open Idealize.ShloMosaic Idealize.ShloMosaic.TcCoe Idealize.SL.Sem
open Idealize.ShloMosaic.Pipeline (Dat)

namespace Cert.KernelIdeal.Attn

open Cert.Softmax Cert.Heads

section Words

/-- Which of the three masks a block of rows takes. -/
def place (n : ℕ) : Fin 3 := if n = 0 then 0 else if n = 15 then 2 else 1

/-- Two distances: from the row's place in the sequence, and from its place in its block. -/
theorem near_word (n q k : BitVec 32) : IntOp.subi (IntOp.addi (IntOp.subi (IntOp.muli n 128#32) 128#32) k) (IntOp.addi (IntOp.muli n 128#32) q)
    = IntOp.subi (IntOp.subi (IntOp.subi (256#32 + k) 256#32) 128#32) q := by
  show n * 128#32 - 128#32 + k - (n * 128#32 + q) = 256#32 + k - 256#32 - 128#32 - q
  have e1 : ∀ x w : BitVec 32, x + w - (x + q) = w - q := fun x w => by bv_omega
  have e2 : ∀ x : BitVec 32, x - 128#32 + k = x + (k - 128#32) := fun x => by bv_omega
  have e3 : 256#32 + k - 256#32 = k := by bv_omega
  rw [e2, e1, e3]

/-- A key exists: its position is not before the sequence and not after it. -/
theorem keep_word : ∀ (n : Fin 16) (k : Fin 384),
    IntOp.andi (IntOp.cmpi .sge (IntOp.addi (IntOp.subi (IntOp.muli (BitVec.ofNat 32 n) 128#32) 128#32) (BitVec.ofNat 32 k)) 0#32)
      (IntOp.cmpi .slt (IntOp.addi (IntOp.subi (IntOp.muli (BitVec.ofNat 32 n) 128#32) 128#32) (BitVec.ofNat 32 k)) 2048#32)
    = keep (place n) (BitVec.ofNat 32 (256 + k)) := by decide +kernel

theorem keep_row : ∀ (n : Fin 16) (k : Fin 384), keep (place n) (BitVec.ofNat 32 (256 + k)) = 1#1 →
    128 ≤ n.val * 128 + k.val ∧ n.val * 128 + k.val < 2176 := by decide +kernel

/-- The reference's word is the mask's. -/
theorem visible_mask (n : Fin 16) (q : Fin 128) (k : Fin 384) : visible (BitVec.ofNat 32 n) (BitVec.ofNat 32 q) (BitVec.ofNat 32 k)
    = IntOp.andi (near (BitVec.ofNat 32 q) (BitVec.ofNat 32 (256 + k))) (keep (place n) (BitVec.ofNat 32 (256 + k))) := by
  unfold visible
  have assoc : ∀ a b c : BitVec 1, IntOp.andi (IntOp.andi a b) c = IntOp.andi a (IntOp.andi b c) := by decide
  rw [assoc, keep_word, near_word]
  unfold near
  rw [← BitVec.ofNat_add]

/-- A visible key exists. -/
theorem visible_row (n : Fin 16) (q : Fin 128) (k : Fin 384) (h : visible (BitVec.ofNat 32 n) (BitVec.ofNat 32 q) (BitVec.ofNat 32 k) = 1#1) :
    128 ≤ n.val * 128 + k.val ∧ n.val * 128 + k.val < 2176 := by
  rw [visible_mask] at h
  have both : ∀ a b : BitVec 1, IntOp.andi a b = 1#1 → b = 1#1 := by decide
  exact keep_row n k (both _ _ h)

end Words

section Logits

/-- A column as the blocks give it: a block outside the sequence is the nearest one inside. -/
theorem glue_keyAt (X : Fin 2304 → EReal) (n : Fin 16) {A : Fin 256 → EReal} {B C D : Fin 128 → EReal}
    (hA : ∀ r : Fin 256, A r = X ⟨r, by omega⟩) (hB : ∀ r : Fin 128, B r = X ⟨(2 + (n.val - 1)) * 128 + r, by omega⟩)
    (hC : ∀ r : Fin 128, C r = X ⟨(2 + n.val) * 128 + r, by omega⟩) (hD : ∀ r : Fin 128, D r = X ⟨(2 + min (n.val + 1) 15) * 128 + r, by omega⟩)
    (k : Fin 640) (hk : k.val < 256 ∨ 128 ≤ n.val * 128 + (k.val - 256) ∧ n.val * 128 + (k.val - 256) < 2176) : glue A B C D k = keyAt X n k := by
  unfold glue keyAt beside
  by_cases h1 : k.val < 256
  · rw [dif_pos h1, dif_pos h1, hA]
  · have hp := hk.resolve_left h1
    rw [dif_neg h1, dif_neg h1, dif_pos hp]
    by_cases h2 : k.val - 256 < 128
    · rw [dif_pos h2, hB]
      refine congrArg X (Fin.ext ?_)
      show (2 + ((n : ℕ) - 1)) * 128 + ((k : ℕ) - 256) = 256 + (n * 128 + (k - 256) - 128)
      omega
    · rw [dif_neg h2]
      by_cases h3 : k.val - 256 - 128 < 128
      · rw [dif_pos h3, hC]
        refine congrArg X (Fin.ext ?_)
        show (2 + (n : ℕ)) * 128 + ((k : ℕ) - 256 - 128) = 256 + (n * 128 + (k - 256) - 128)
        omega
      · rw [dif_neg h3, hD]
        refine congrArg X (Fin.ext ?_)
        show (2 + min ((n : ℕ) + 1) 15) * 128 + ((k : ℕ) - 256 - 128 - 128) = 256 + (n * 128 + (k - 256) - 128)
        omega

/-- Whether a key counts in a row: it is the context's, or it may be seen. -/
def Counts (n : Fin 16) (q : Fin 128) (k : Fin 640) : Prop :=
  k.val < 256 ∨ visible (BitVec.ofNat 32 n) (BitVec.ofNat 32 q) (BitVec.ofNat 32 (k - 256)) = 1#1

theorem Counts.row {n : Fin 16} {q : Fin 128} {k : Fin 640} (h : Counts n q k) :
    k.val < 256 ∨ 128 ≤ n.val * 128 + (k.val - 256) ∧ n.val * 128 + (k.val - 256) < 2176 := by
  by_cases hk : k.val < 256
  · exact Or.inl hk
  · exact Or.inr (visible_row n q ⟨k - 256, by omega⟩ (h.resolve_left hk))

/-- A mask's number. -/
def maskNum (n : Fin 16) (q : Fin 128) (k : Fin 640) : EReal :=
  if k.val < 256 then (0 : EReal) else
    Scalar.select (IntOp.andi (near (BitVec.ofNat 32 q) (BitVec.ofNat 32 k)) (keep (place n) (BitVec.ofNat 32 k))) (0 : EReal) ⊥

theorem maskNum_eq (n : Fin 16) (q : Fin 128) (k : Fin 640) : (Counts n q k ∧ maskNum n q k = 0) ∨ (¬ Counts n q k ∧ maskNum n q k = ⊥) := by
  unfold maskNum Counts
  by_cases hk : k.val < 256
  · exact Or.inl ⟨Or.inl hk, if_pos hk⟩
  · rw [if_neg hk]
    have e := visible_mask n q ⟨k - 256, by omega⟩
    have ek : 256 + ((⟨k - 256, by omega⟩ : Fin 384) : ℕ) = k := by show 256 + ((k : ℕ) - 256) = k; omega
    rw [ek] at e
    rw [← e]
    unfold Scalar.select
    by_cases hv : visible (BitVec.ofNat 32 n) (BitVec.ofNat 32 q) (BitVec.ofNat 32 (k - 256)) = 1#1
    · exact Or.inl ⟨Or.inr hv, if_pos hv⟩
    · exact Or.inr ⟨fun h => h.elim hk hv, if_neg hv⟩

theorem logit_counts (x0 : Vec Ideal Cert.ReferenceIdeal.S4x2304x1280 .bf16) (b : Fin 4) (n : Fin 16) (h : Fin 2) (g : Fin 4) (q : Fin 128) (k : Fin 640)
    (hc : Counts n q k) : logit x0 b n h g q k = score x0 b n h g q k := by
  unfold logit Scalar.select
  by_cases hk : k.val < 256
  · exact if_pos hk
  · rw [if_neg hk]
    exact if_pos (hc.resolve_left hk)

theorem logit_hidden (x0 : Vec Ideal Cert.ReferenceIdeal.S4x2304x1280 .bf16) (b : Fin 4) (n : Fin 16) (h : Fin 2) (g : Fin 4) (q : Fin 128) (k : Fin 640)
    (hc : ¬ Counts n q k) : logit x0 b n h g q k = ⊥ := by
  unfold logit Scalar.select
  rw [if_neg fun hk => hc (Or.inl hk)]
  exact if_neg fun hv => hc (Or.inr hv)

end Logits

section Kernel
open Cert.KernelIdeal Cert.KernelIdeal.Gen

variable (m : (ℓ : Loc nD τ sig) → Buf (Elt Ideal) ℓ)

/-- Where each window's block sits at a grid point. -/
theorem idx : ∀ t : Fin cfg0.N, win0_0.index t = ![0, 0] ∧ win0_1.index t = ![t.val / 32, 2 + t.val % 16, t.val / 16 % 2]
    ∧ win0_2.index t = ![t.val / 32, 0, 8 + t.val / 16 % 2] ∧ win0_3.index t = ![t.val / 32, 0, t.val / 16 % 2]
    ∧ win0_4.index t = ![t.val / 32, 2 + (t.val % 16 - 1), 8 + t.val / 16 % 2]
    ∧ win0_5.index t = ![t.val / 32, 2 + t.val % 16, 8 + t.val / 16 % 2]
    ∧ win0_6.index t = ![t.val / 32, 2 + min (t.val % 16 + 1) 15, 8 + t.val / 16 % 2]
    ∧ win0_7.index t = ![t.val / 32, 2 + (t.val % 16 - 1), t.val / 16 % 2]
    ∧ win0_8.index t = ![t.val / 32, 2 + t.val % 16, t.val / 16 % 2]
    ∧ win0_9.index t = ![t.val / 32, 2 + min (t.val % 16 + 1) 15, t.val / 16 % 2]
    ∧ win0_10.index t = ![(place (t.val % 16)).val, 0, 0]
    ∧ win0_11.index t = ![t.val / 32, t.val % 16, t.val / 16 % 2] ∧ t.val < 128 :=
  (by decide +kernel : ∀ t : Fin grid0.N, _)

/-- Where each sink is loaded. -/
theorem sink_off : ∀ t : Fin cfg0.N, k0_off1 (grid0.coords t) 0#32 = ![0, t.val / 16 % 2 * 4]
    ∧ k0_off1 (grid0.coords t) 1#32 = ![0, t.val / 16 % 2 * 4 + 1] ∧ k0_off1 (grid0.coords t) 2#32 = ![0, t.val / 16 % 2 * 4 + 2]
    ∧ k0_off1 (grid0.coords t) 3#32 = ![0, t.val / 16 % 2 * 4 + 3] :=
  (by decide +kernel : ∀ t : Fin grid0.N, _)

section Reads
variable (c : Dev nD) (f : (b : Ref sig .tc) → Buf (Elt Ideal) ((c : Thread nD τ).loc b)) (t : Fin cfg0.N) (ht : t.val < 128)

theorem read0 (a : Fin 2) (b : Fin 8) : ((cfg0.win 0).blk t).view.read (Elt Ideal) (f (Pipeline.arrRef spec0 0)) (ix2 a b) = f main_arg2 (ix2 a b) := by
  have e : ((cfg0.win 0).blk t).view.emb (ix2 a b) = (ix2 a b : S2x8.Idx) := by
    blk_ext [idx t]
  exact congrArg (f main_arg2) e

theorem read1 (r : Fin 128) (k : Fin 512) : (cfg0.win 1).fill (cfg0.grid.coords t) (dflt0_1 (F := Ideal))
      (((cfg0.win 1).blk t).view.read (Elt Ideal) (f (Pipeline.arrRef spec0 1))) (ix3 0 r k)
    = f main_arg0 (ix3 ⟨t.val / 32, by omega⟩ ⟨(2 + t.val % 16) * 128 + r, by omega⟩ ⟨t.val / 16 % 2 * 512 + k, by omega⟩) := by
  unfold Pipeline.Window.fill
  rw [dif_pos (moved0_1 t _)]
  refine congrArg (f main_arg0) ?_
  blk_ext [idx t]

theorem read2 (r : Fin 256) (d : Fin 128) : ((cfg0.win 2).blk t).view.read (Elt Ideal) (f (Pipeline.arrRef spec0 2)) (ix3 0 r d)
    = f main_arg0 (ix3 ⟨t.val / 32, by omega⟩ ⟨r, by omega⟩ ⟨1024 + (t.val / 16 % 2 * 128 + d), by omega⟩) := by
  have e : ((cfg0.win 2).blk t).view.emb (ix3 0 r d)
      = (ix3 ⟨t.val / 32, by omega⟩ ⟨r, by omega⟩ ⟨1024 + (t.val / 16 % 2 * 128 + d), by omega⟩ : S4x2304x1280.Idx) := by
    blk_ext [idx t]
  exact congrArg (f main_arg0) e

theorem read3 (r : Fin 256) (d : Fin 128) : ((cfg0.win 3).blk t).view.read (Elt Ideal) (f (Pipeline.arrRef spec0 3)) (ix3 0 r d)
    = f main_arg1 (ix3 ⟨t.val / 32, by omega⟩ ⟨r, by omega⟩ ⟨t.val / 16 % 2 * 128 + d, by omega⟩) := by
  have e : ((cfg0.win 3).blk t).view.emb (ix3 0 r d)
      = (ix3 ⟨t.val / 32, by omega⟩ ⟨r, by omega⟩ ⟨t.val / 16 % 2 * 128 + d, by omega⟩ : S4x2304x256.Idx) := by
    blk_ext [idx t]
  exact congrArg (f main_arg1) e

theorem read4 (r d : Fin 128) : ((cfg0.win 4).blk t).view.read (Elt Ideal) (f (Pipeline.arrRef spec0 4)) (ix3 0 r d)
    = f main_arg0 (ix3 ⟨t.val / 32, by omega⟩ ⟨(2 + (t.val % 16 - 1)) * 128 + r, by omega⟩ ⟨1024 + (t.val / 16 % 2 * 128 + d), by omega⟩) := by
  have e : ((cfg0.win 4).blk t).view.emb (ix3 0 r d)
      = (ix3 ⟨t.val / 32, by omega⟩ ⟨(2 + (t.val % 16 - 1)) * 128 + r, by omega⟩ ⟨1024 + (t.val / 16 % 2 * 128 + d), by omega⟩ : S4x2304x1280.Idx) := by
    blk_ext [idx t]
  exact congrArg (f main_arg0) e

theorem read5 (r d : Fin 128) : ((cfg0.win 5).blk t).view.read (Elt Ideal) (f (Pipeline.arrRef spec0 5)) (ix3 0 r d)
    = f main_arg0 (ix3 ⟨t.val / 32, by omega⟩ ⟨(2 + t.val % 16) * 128 + r, by omega⟩ ⟨1024 + (t.val / 16 % 2 * 128 + d), by omega⟩) := by
  have e : ((cfg0.win 5).blk t).view.emb (ix3 0 r d)
      = (ix3 ⟨t.val / 32, by omega⟩ ⟨(2 + t.val % 16) * 128 + r, by omega⟩ ⟨1024 + (t.val / 16 % 2 * 128 + d), by omega⟩ : S4x2304x1280.Idx) := by
    blk_ext [idx t]
  exact congrArg (f main_arg0) e

theorem read6 (r d : Fin 128) : ((cfg0.win 6).blk t).view.read (Elt Ideal) (f (Pipeline.arrRef spec0 6)) (ix3 0 r d)
    = f main_arg0 (ix3 ⟨t.val / 32, by omega⟩ ⟨(2 + min (t.val % 16 + 1) 15) * 128 + r, by omega⟩ ⟨1024 + (t.val / 16 % 2 * 128 + d), by omega⟩) := by
  have e : ((cfg0.win 6).blk t).view.emb (ix3 0 r d)
      = (ix3 ⟨t.val / 32, by omega⟩ ⟨(2 + min (t.val % 16 + 1) 15) * 128 + r, by omega⟩ ⟨1024 + (t.val / 16 % 2 * 128 + d), by omega⟩ : S4x2304x1280.Idx) := by
    blk_ext [idx t]
  exact congrArg (f main_arg0) e

theorem read7 (r d : Fin 128) : ((cfg0.win 7).blk t).view.read (Elt Ideal) (f (Pipeline.arrRef spec0 7)) (ix3 0 r d)
    = f main_arg1 (ix3 ⟨t.val / 32, by omega⟩ ⟨(2 + (t.val % 16 - 1)) * 128 + r, by omega⟩ ⟨t.val / 16 % 2 * 128 + d, by omega⟩) := by
  have e : ((cfg0.win 7).blk t).view.emb (ix3 0 r d)
      = (ix3 ⟨t.val / 32, by omega⟩ ⟨(2 + (t.val % 16 - 1)) * 128 + r, by omega⟩ ⟨t.val / 16 % 2 * 128 + d, by omega⟩ : S4x2304x256.Idx) := by
    blk_ext [idx t]
  exact congrArg (f main_arg1) e

theorem read8 (r d : Fin 128) : ((cfg0.win 8).blk t).view.read (Elt Ideal) (f (Pipeline.arrRef spec0 8)) (ix3 0 r d)
    = f main_arg1 (ix3 ⟨t.val / 32, by omega⟩ ⟨(2 + t.val % 16) * 128 + r, by omega⟩ ⟨t.val / 16 % 2 * 128 + d, by omega⟩) := by
  have e : ((cfg0.win 8).blk t).view.emb (ix3 0 r d)
      = (ix3 ⟨t.val / 32, by omega⟩ ⟨(2 + t.val % 16) * 128 + r, by omega⟩ ⟨t.val / 16 % 2 * 128 + d, by omega⟩ : S4x2304x256.Idx) := by
    blk_ext [idx t]
  exact congrArg (f main_arg1) e

theorem read9 (r d : Fin 128) : ((cfg0.win 9).blk t).view.read (Elt Ideal) (f (Pipeline.arrRef spec0 9)) (ix3 0 r d)
    = f main_arg1 (ix3 ⟨t.val / 32, by omega⟩ ⟨(2 + min (t.val % 16 + 1) 15) * 128 + r, by omega⟩ ⟨t.val / 16 % 2 * 128 + d, by omega⟩) := by
  have e : ((cfg0.win 9).blk t).view.emb (ix3 0 r d)
      = (ix3 ⟨t.val / 32, by omega⟩ ⟨(2 + min (t.val % 16 + 1) 15) * 128 + r, by omega⟩ ⟨t.val / 16 % 2 * 128 + d, by omega⟩ : S4x2304x256.Idx) := by
    blk_ext [idx t]
  exact congrArg (f main_arg1) e

theorem read10 (r : Fin 512) (k : Fin 640) : ((cfg0.win 10).blk t).view.read (Elt Ideal) (f (Pipeline.arrRef spec0 10)) (ix3 0 r k)
    = f main_v44 (ix3 (place (t.val % 16)) r k) := by
  have e : ((cfg0.win 10).blk t).view.emb (ix3 0 r k) = (ix3 (place (t.val % 16)) r k : S3x512x640.Idx) := by
    blk_ext [idx t]
  exact congrArg (f main_v44) e

end Reads

/-- The queries' block at a grid point, read at an index. -/
theorem q_at (c : Dev nD) (t : Fin cfg0.N) (ht : t.val < 128) (q : Fin 128) (k : Fin 512) :
    X0_1 m c t (ix3 0 q k) = m ((c : Thread nD τ).loc main_arg0)
      (ix3 ⟨t.val / 32, by omega⟩ ⟨(2 + t.val % 16) * 128 + q, by omega⟩ ⟨t.val / 16 % 2 * 512 + k, by omega⟩) := by
  unfold X0_1 iblk
  exact (read1 c (V m c) t ht q k).trans (congrFun (V_main_arg0 m c) _)

/-- The query block of each head, from the block of queries. -/
def queries (X : Vec Ideal S1x128x512 .bf16) : Fin 4 → Vec Ideal S1x128x128 .bf16 :=
  ![View.ld X (Rect.unit ![0, 0, 0] ![1, 128, 128] inb_S1x128x512_S1x128x128_0_0_0),
    View.ld X (Rect.unit ![0, 0, 128] ![1, 128, 128] inb_S1x128x512_S1x128x128_0_0_128),
    View.ld X (Rect.unit ![0, 0, 256] ![1, 128, 128] inb_S1x128x512_S1x128x128_0_0_256),
    View.ld X (Rect.unit ![0, 0, 384] ![1, 128, 128] inb_S1x128x512_S1x128x128_0_0_384)]

theorem queries_at (X : Vec Ideal S1x128x512 .bf16) (g : Fin 4) (q : Fin 128) (e : Fin 128) :
    queries X g (ix3 0 q e) = X (ix3 0 q ⟨g * 128 + e, by omega⟩) := by
  fin_cases g <;> (unfold queries; pointwise)

/-- One cell has one index. -/
theorem one_cell : 0 < S1x1.numel := by rw [numel1_S1x1]; exact Nat.one_pos

/-- A load of one cell. -/
theorem one_at (X : Vec Ideal S2x8 .f32) (off : Fin 2 → ℕ) (h) (p : Fin 8) (e : off = ![0, p.val]) :
    View.ld X (Rect.unit (s := S2x8) off S1x1.size h) (Shape.Idx.first one_cell) = X (ix2 0 p) := by
  subst e
  have z : ∀ a : Fin 2, ((Shape.Idx.first one_cell : S1x1.Idx) a).val = 0 := fun a => by
    match a with
    | ⟨0, _⟩ => exact Nat.lt_one_iff.mp ((Shape.Idx.first one_cell : S1x1.Idx) 0).isLt
    | ⟨1, _⟩ => exact Nat.lt_one_iff.mp ((Shape.Idx.first one_cell : S1x1.Idx) 1).isLt
  refine congrArg X (funext fun a => Fin.ext ?_)
  refine (Rect.idx_unit_val _ _ _ _ a).trans ?_
  match a with
  | ⟨0, _⟩ => exact congrArg (0 + ·) (z 0)
  | ⟨1, _⟩ => exact congrArg (p.val + ·) (z 1)

/-- The sink of each head, from the block of sinks. -/
def sinks (X : Vec Ideal S2x8 .f32) (t : Fin cfg0.N) : Fin 4 → EReal :=
  ![View.ld X (Rect.unit (s := S2x8) (k0_off1 (grid0.coords t) 0#32) S1x1.size (k0_off1_inb (grid0.coords t) 0)) (Shape.Idx.first one_cell),
    View.ld X (Rect.unit (s := S2x8) (k0_off1 (grid0.coords t) 1#32) S1x1.size (k0_off1_inb (grid0.coords t) 1)) (Shape.Idx.first one_cell),
    View.ld X (Rect.unit (s := S2x8) (k0_off1 (grid0.coords t) 2#32) S1x1.size (k0_off1_inb (grid0.coords t) 2)) (Shape.Idx.first one_cell),
    View.ld X (Rect.unit (s := S2x8) (k0_off1 (grid0.coords t) 3#32) S1x1.size (k0_off1_inb (grid0.coords t) 3)) (Shape.Idx.first one_cell)]

theorem sinks_at (X : Vec Ideal S2x8 .f32) (t : Fin cfg0.N) (ht : t.val < 128) (g : Fin 4) :
    sinks X t g = X (ix2 0 ⟨t.val / 16 % 2 * 4 + g, by omega⟩) := by
  fin_cases g
  · exact one_at X _ _ ⟨t.val / 16 % 2 * 4 + 0, by omega⟩ (sink_off t).1
  · exact one_at X _ _ ⟨t.val / 16 % 2 * 4 + 1, by omega⟩ (sink_off t).2.1
  · exact one_at X _ _ ⟨t.val / 16 % 2 * 4 + 2, by omega⟩ (sink_off t).2.2.1
  · exact one_at X _ _ ⟨t.val / 16 % 2 * 4 + 3, by omega⟩ (sink_off t).2.2.2

end Kernel

end Cert.KernelIdeal.Attn

end
-- ==== Proof.Attn.lean ====
module

public import proofs.«01_k».proof.Proof.AttnBlocks

@[expose] public section

set_option maxRecDepth 16384

noncomputable section

open Idealize.ShloMosaic Idealize.ShloMosaic.TcCoe Idealize.SL.Sem
open Idealize.ShloMosaic.Pipeline (Dat)

/-! # Kernel's result is the reference's -/

namespace Cert.KernelIdeal.Attn

open Cert.Softmax Cert.Heads
open Cert.KernelIdeal Cert.KernelIdeal.Gen

variable (m : (ℓ : Loc nD τ sig) → Buf (Elt Ideal) ℓ)

/-- The mask's block at a grid point. -/
theorem mask_block (c : Dev nD) (t : Fin cfg0.N) (ht : t.val < 128) (g : Fin 4) (q : Fin 128) (k : Fin 640) :
    iblk m c 10 t (ix3 0 ⟨g * 128 + q, by omega⟩ k) = maskNum ⟨t.val % 16, by omega⟩ q k := by
  unfold iblk
  refine (read10 c (V m c) t ⟨g * 128 + q, by omega⟩ k).trans ((mask_at m c _ _ k).trans ?_)
  have e : ((⟨g * 128 + q, by omega⟩ : Fin 512) : ℕ) % 128 = q := by show ((g : ℕ) * 128 + q) % 128 = q; omega
  rw [e]
  rfl

/-- The keys at a grid point. -/
theorem keys_block (c : Dev nD) (t : Fin cfg0.N) (ht : t.val < 128) (e : Fin 128) (q : Fin 128) (k : Fin 640) (hc : Counts ⟨t.val % 16, by omega⟩ q k) :
    glue (fun r => iblk m c 2 t (ix3 0 r e)) (fun r => iblk m c 4 t (ix3 0 r e)) (fun r => iblk m c 5 t (ix3 0 r e)) (fun r => iblk m c 6 t (ix3 0 r e)) k
      = keyAt (fun p => m ((c : Thread nD τ).loc main_arg0) (ix3 ⟨t.val / 32, by omega⟩ p ⟨1024 + (t.val / 16 % 2 * 128 + e), by omega⟩))
        ⟨t.val % 16, by omega⟩ k := by
  unfold iblk
  exact glue_keyAt _ _ (fun r => (read2 c (V m c) t ht r e).trans (congrFun (V_main_arg0 m c) _))
    (fun r => (read4 c (V m c) t ht r e).trans (congrFun (V_main_arg0 m c) _)) (fun r => (read5 c (V m c) t ht r e).trans (congrFun (V_main_arg0 m c) _))
    (fun r => (read6 c (V m c) t ht r e).trans (congrFun (V_main_arg0 m c) _)) k hc.row

/-- The values at a grid point. -/
theorem values_block (c : Dev nD) (t : Fin cfg0.N) (ht : t.val < 128) (d : Fin 128) (q : Fin 128) (k : Fin 640) (hc : Counts ⟨t.val % 16, by omega⟩ q k) :
    glue (fun r => iblk m c 3 t (ix3 0 r d)) (fun r => iblk m c 7 t (ix3 0 r d)) (fun r => iblk m c 8 t (ix3 0 r d)) (fun r => iblk m c 9 t (ix3 0 r d)) k
      = keyAt (fun p => m ((c : Thread nD τ).loc main_arg1) (ix3 ⟨t.val / 32, by omega⟩ p ⟨t.val / 16 % 2 * 128 + d, by omega⟩))
        ⟨t.val % 16, by omega⟩ k := by
  unfold iblk
  exact glue_keyAt _ _ (fun r => (read3 c (V m c) t ht r d).trans (congrFun (V_main_arg1 m c) _))
    (fun r => (read7 c (V m c) t ht r d).trans (congrFun (V_main_arg1 m c) _)) (fun r => (read8 c (V m c) t ht r d).trans (congrFun (V_main_arg1 m c) _))
    (fun r => (read9 c (V m c) t ht r d).trans (congrFun (V_main_arg1 m c) _)) k hc.row

/-- The queries at a grid point. -/
theorem queries_block (c : Dev nD) (t : Fin cfg0.N) (ht : t.val < 128) (g : Fin 4) (q e : Fin 128) : queries (X0_1 m c t) g (ix3 0 q e)
    = m ((c : Thread nD τ).loc main_arg0) (ix3 ⟨t.val / 32, by omega⟩ ⟨256 + (t.val % 16 * 128 + q), by omega⟩ ⟨t.val / 16 % 2 * 512 + g * 128 + e, by omega⟩) := by
  rw [queries_at, q_at m c t ht]
  refine congrArg (m ((c : Thread nD τ).loc main_arg0)) (congrArg₂ (ix3 _) (Fin.ext ?_) (Fin.ext ?_))
  · show (2 + t.val % 16) * 128 + (q : ℕ) = 256 + (t.val % 16 * 128 + q)
    omega
  · show t.val / 16 % 2 * 512 + ((g : ℕ) * 128 + e) = t.val / 16 % 2 * 512 + g * 128 + e
    omega

/-- The sinks at a grid point. -/
theorem sinks_block (c : Dev nD) (t : Fin cfg0.N) (ht : t.val < 128) (g : Fin 4) :
    sinks (iblk m c 0 t) t g = m ((c : Thread nD τ).loc main_arg2) (ix2 0 ⟨t.val / 16 % 2 * 4 + g, by omega⟩) := by
  refine (sinks_at _ t ht g).trans ?_
  unfold iblk
  exact (read0 c (V m c) t 0 _).trans (congrFun (V_main_arg2 m c) _)

/-- A logit at a grid point. -/
theorem logit_block (c : Dev nD) (t : Fin cfg0.N) (ht : t.val < 128) (g : Fin 4) (q : Fin 128) (k : Fin 640) :
    (∑ e : Fin 128, queries (X0_1 m c t) g (ix3 0 q e)
        * glue (fun r => iblk m c 2 t (ix3 0 r e)) (fun r => iblk m c 4 t (ix3 0 r e)) (fun r => iblk m c 5 t (ix3 0 r e)) (fun r => iblk m c 6 t (ix3 0 r e)) k)
        * Ideal.ofBits .f32 0x3DB504F3#32 + iblk m c 10 t (ix3 0 ⟨g * 128 + q, by omega⟩ k)
      = logit (m ((c : Thread nD τ).loc main_arg0)) ⟨t.val / 32, by omega⟩ ⟨t.val % 16, by omega⟩ ⟨t.val / 16 % 2, by omega⟩ g q k := by
  rw [mask_block m c t ht]
  rcases maskNum_eq ⟨t.val % 16, by omega⟩ q k with ⟨hc, hm⟩ | ⟨hc, hm⟩
  · rw [hm, add_zero, logit_counts _ _ _ _ _ _ _ hc]
    unfold score
    exact congrArg (fun a : EReal => a * _) (Finset.sum_congr rfl fun e _ =>
      congrArg₂ (fun a b : EReal => a * b) (queries_block m c t ht g q e) (keys_block m c t ht e q k hc))
  · rw [hm, EReal.add_bot, logit_hidden _ _ _ _ _ _ _ hc]

/-- A head's attention at a grid point is the reference's result. -/
theorem head_point (hq : ∀ c : Dev nD, ∀ i, Fine (m ((c : Thread nD τ).loc main_arg0) i)) (hz : ∀ c : Dev nD, ∀ i, Fine (m ((c : Thread nD τ).loc main_arg2) i))
    (c : Dev nD) (t : Fin cfg0.N) (ht : t.val < 128) (g : Fin 4) (q : Fin 128) (d : Fin 128) :
    k0_pay15 (F := Ideal) (k0_pay10 (k0_pay7 (iblk m c 3 t)) (k0_pay8 (iblk m c 7 t)) (k0_pay9 (iblk m c 8 t)) (iblk m c 9 t))
      (k0_pay11 (k0_pay5 (queries (X0_1 m c t) 0) (queries (X0_1 m c t) 1) (queries (X0_1 m c t) 2) (queries (X0_1 m c t) 3))
        (k0_pay6 (iblk m c 2 t) (iblk m c 4 t) (iblk m c 5 t) (iblk m c 6 t)) (iblk m c 10 t))
      k0_pay12 k0_pay13 k0_pay14 (sinks (iblk m c 0 t) t 0) (sinks (iblk m c 0 t) t 1) (sinks (iblk m c 0 t) t 2) (sinks (iblk m c 0 t) t 3)
      (ix2 ⟨g * 128 + q, by omega⟩ d)
    = Cert.ReferenceIdeal.Read.val_main_v97 (F := Ideal) (m ((c : Thread nD τ).loc main_arg0)) (m ((c : Thread nD τ).loc main_arg1)) (m ((c : Thread nD τ).loc main_arg2))
        (ix3 ⟨t.val / 32, by omega⟩ ⟨t.val % 16 * 128 + q, by omega⟩ ⟨(t.val / 16 % 2 * 4 + g) * 128 + d, by omega⟩) := by
  refine (head_at (queries (X0_1 m c t)) (iblk m c 2 t) (iblk m c 3 t) (iblk m c 4 t) (iblk m c 5 t) (iblk m c 6 t) (iblk m c 7 t) (iblk m c 8 t)
    (iblk m c 9 t) (iblk m c 10 t) (sinks (iblk m c 0 t) t) g q d).trans ?_
  refine Eq.trans ?_ (ref_at _ _ _ (hq c) (hz c) ⟨t.val / 32, by omega⟩ ⟨t.val % 16, by omega⟩ q ⟨t.val / 16 % 2, by omega⟩ g d).symm
  refine attend_congr (fun k => logit_block m c t ht g q k) (sinks_block m c t ht g) fun k => ?_
  by_cases hc : Counts ⟨t.val % 16, by omega⟩ q k
  · exact Or.inr (values_block m c t ht d q k hc)
  · exact Or.inl (logit_hidden _ _ _ _ _ _ _ hc)

/-- What the body stores, whatever its blocks hold. -/
theorem stored (c : Dev nD) (t : Fin cfg0.N) (X0 : Vec Ideal S2x8 .f32) (X1 : Vec Ideal S1x128x512 .bf16) (K0 V0 : Vec Ideal S1x256x128 .bf16)
    (K1 K2 K3 V1 V2 V3 : Vec Ideal S1x128x128 .bf16) (M : Vec Ideal S1x512x640 .f32) (y : S1x128x512.Idx) (g : Fin 4) (q d : Fin 128)
    (hg : (y 1).val = q) (hd : (y 2).val = g * 128 + d) :
    out0_A_11 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      X0 X1 K0 V0 K1 K2 K3 V1 V2 V3 M y
    = k0_pay15 (F := Ideal) (k0_pay10 (k0_pay7 V0) (k0_pay8 V1) (k0_pay9 V2) V3)
      (k0_pay11 (k0_pay5 (queries X1 0) (queries X1 1) (queries X1 2) (queries X1 3)) (k0_pay6 K0 K1 K2 K3) M)
      k0_pay12 k0_pay13 k0_pay14 (sinks X0 t 0) (sinks X0 t 1) (sinks X0 t 2) (sinks X0 t 3) (ix2 ⟨g * 128 + q, by omega⟩ d) := by
  frame_out
  idx_vars y
  have hg : (y1 : ℕ) = q := hg
  have hd : (y2 : ℕ) = g * 128 + d := hd
  canon_tiles x h
  case piece0 =>
    idx_vars x
    obtain rfl : x0 = 0 := Fin.fin_one_eq_zero x0
    obtain rfl : g = 3 := Fin.ext (by show (g : ℕ) = 3; omega)
    obtain rfl : x2 = d := Fin.ext (by show (x2 : ℕ) = d; omega)
    obtain rfl : x1 = q := Fin.ext (by show (x1 : ℕ) = q; omega)
    exact pay4_at _ _ _
  case piece1 =>
    idx_vars x
    obtain rfl : x0 = 0 := Fin.fin_one_eq_zero x0
    obtain rfl : g = 2 := Fin.ext (by show (g : ℕ) = 2; omega)
    obtain rfl : x2 = d := Fin.ext (by show (x2 : ℕ) = d; omega)
    obtain rfl : x1 = q := Fin.ext (by show (x1 : ℕ) = q; omega)
    exact pay3_at _ _ _
  case piece2 =>
    idx_vars x
    obtain rfl : x0 = 0 := Fin.fin_one_eq_zero x0
    obtain rfl : g = 1 := Fin.ext (by show (g : ℕ) = 1; omega)
    obtain rfl : x2 = d := Fin.ext (by show (x2 : ℕ) = d; omega)
    obtain rfl : x1 = q := Fin.ext (by show (x1 : ℕ) = q; omega)
    exact pay2_at _ _ _
  case piece3 =>
    idx_vars x
    obtain rfl : x0 = 0 := Fin.fin_one_eq_zero x0
    obtain rfl : g = 0 := Fin.ext (by show (g : ℕ) = 0; omega)
    obtain rfl : x2 = d := Fin.ext (by show (x2 : ℕ) = d; omega)
    obtain rfl : x1 = q := Fin.ext (by show (x1 : ℕ) = q; omega)
    exact pay1_at _ _ _ _ _ _ _ _

/-- What the body stores at a block index of a grid point is the reference's result where that index sits. -/
theorem point (hq : ∀ c : Dev nD, ∀ i, Fine (m ((c : Thread nD τ).loc main_arg0) i)) (hz : ∀ c : Dev nD, ∀ i, Fine (m ((c : Thread nD τ).loc main_arg2) i))
    (c : Dev nD) (t : Fin cfg0.N) (y) : outsAt0 m c t y
    = Cert.ReferenceIdeal.Read.val_main_v97 (F := Ideal) (m ((c : Thread nD τ).loc main_arg0)) (m ((c : Thread nD τ).loc main_arg1)) (m ((c : Thread nD τ).loc main_arg2)) (((cfg0.win 11).blk t).view.emb y) := by
  have ht : t.val < 128 := (idx t).2.2.2.2.2.2.2.2.2.2.2.2
  unfold outsAt0
  idx_vars y
  have e : ((cfg0.win 11).blk t).view.emb (ix3 y0 y1 y2)
      = (ix3 ⟨t.val / 32, by omega⟩ ⟨t.val % 16 * 128 + y1, by omega⟩ ⟨(t.val / 16 % 2 * 4 + y2 / 128) * 128 + y2 % 128, by omega⟩ : S4x2048x1024.Idx) := by
    blk_ext [idx t]
  refine Eq.trans ?_ (congrArg _ e).symm
  refine (stored c t _ _ _ _ _ _ _ _ _ _ _ (ix3 y0 y1 y2) ⟨y2 / 128, by omega⟩ y1 ⟨y2 % 128, by omega⟩ rfl ?_).trans
    (head_point m hq hz c t ht ⟨y2 / 128, by omega⟩ y1 ⟨y2 % 128, by omega⟩)
  show (y2 : ℕ) = y2 / 128 * 128 + y2 % 128
  omega

/-- The kernel's result array is the reference's term of the arguments. -/
theorem final (hq : ∀ c : Dev nD, ∀ i, Fine (m ((c : Thread nD τ).loc main_arg0) i)) (hz : ∀ c : Dev nD, ∀ i, Fine (m ((c : Thread nD τ).loc main_arg2) i))
    (c : Dev nD) : (dats m 0 c).arrAt 11 (cfgs 0).N
    = Cert.ReferenceIdeal.Read.val_main_v97 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  exact point m hq hz c t y

end Cert.KernelIdeal.Attn

end
-- ==== Proof.PreFacts.lean ====
module

public import proofs.«01_k».proof.Pre_finite_scores
public import Idealize.ShloMosaic.Lib.Affine
public import Idealize.ShloMosaic.Lib.Decide
public import Idealize.ShloMosaic.Lib.ReduceAll
public import proofs.«01_k».proof.Proof.Softmax

@[expose] public section

noncomputable section

open Idealize.ShloMosaic

/-! # What the precondition says -/

namespace Cert.Pre_finite_scores

open Cert.Softmax

/-- The shapes of the predicate fit each other. -/
instance facts : Facts where
  bitsLt_bf16_f32 := by decide
  bcast_S_S4x2304x1280 := by decide
  reducesTo_S4x2304x1280_S_d0_1_2 := by decide
  h_S_ := by decide
  bcast_S_S2x8 := by decide
  reducesTo_S2x8_S_d0_1 := by decide

instance : Subsingleton S_.Idx := ⟨fun _ _ => funext fun a => a.elim0⟩

/-- A comparison that came out true. -/
theorem lt_of_cmp {x y : EReal} (h : (FloatOps.cmpf (F := Ideal) (φ := .f32) .olt x y) = 1#1) : x < y := by
  by_contra hn
  exact absurd (show (0#1 : BitVec 1) = 1#1 from (by simpa [FloatOps.cmpf, Ideal.cmp, hn] using h)) (by decide)

/-- The queries, the keys and the sinks are not infinite. -/
theorem pre_fine [Facts] {x0 : FVec Ideal S4x2304x1280 .bf16} {x1 : FVec Ideal S4x2304x256 .bf16} {x2 : FVec Ideal S2x8 .f32}
    (h : fn (F := Ideal) x0 x1 x2 = fun _ => 1#1) : (∀ i, Fine (x0 i)) ∧ (∀ i, Fine (x2 i)) := by
  have e := congrFun h (fun a => a.elim0)
  obtain ⟨ha, hb⟩ := IntOp.andi_eq_one.1 e
  refine ⟨fun i => fine_of_abs ?_, fun i => fine_of_abs ?_⟩
  · have := lt_of_cmp (Host.reduce_andi_all _ _ _ _ _ ha i)
    rw [← pos_inf]
    exact this
  · have := lt_of_cmp (Host.reduce_andi_all _ _ _ _ _ hb i)
    rw [← pos_inf]
    exact this

end Cert.Pre_finite_scores

end
-- ==== Proof.Claim1.lean ====
module

public import proofs.«01_k».proof.Defs
public import proofs.«01_k».proof.Proof.Gen.Kernel.Frame
public import proofs.«01_k».proof.Proof.Gen.ReferenceIdeal.Run
public import proofs.«01_k».proof.Proof.Attn
public import proofs.«01_k».proof.Proof.PreFacts
public import Idealize.ShloMosaic.Lib.Claim

@[expose] public section

set_option maxRecDepth 16384
set_option maxHeartbeats 1600000

noncomputable section

open Idealize.ShloMosaic Idealize.ShloMosaic.TcCoe Idealize.SL.Sem

/-! # The claims of Kernel -/

namespace Cert.Proof.Kernel

/-- The kernel runs, and leaves its arguments and the semaphores as they were. -/
theorem frame_kernel : Cert.quiescent_Kernel := fun m ρ _ => Cert.Kernel.Gen.frame m ρ

/-- The idealised kernel runs, and leaves its arguments and the semaphores as they were. -/
theorem frame_ideal : Cert.quiescent_KernelIdeal := fun m ρ _ => Cert.KernelIdeal.Gen.frame m ρ

/-- The reference runs, and leaves its arguments and the semaphores as they were. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The idealised kernel runs on finite scores. -/
theorem frame_ideal_pre : Cert.quiescent_KernelIdeal_pre_finite_scores := fun m ρ _ => Cert.KernelIdeal.Gen.frame m ρ

/-- The reference runs on finite scores. -/
theorem frame_reference_pre : Cert.quiescent_ReferenceIdeal_pre_finite_scores := fun m g _ => frame_reference m g trivial

/-- The idealised kernel's result is the reference's, the queries, keys and sinks being finite. -/
theorem algebraic : Cert.algebraic_KernelIdeal_ReferenceIdeal_pre_finite_scores := by
  pair_intro
  · run_from Cert.KernelIdeal.Gen.run_main m g
  · run_from Cert.ReferenceIdeal.Value.run m' g'
    refine Eq.trans ?_ (Cert.KernelIdeal.Attn.final m (fun c => (Cert.Pre_finite_scores.pre_fine (hpre c)).1) (fun c => (Cert.Pre_finite_scores.pre_fine (hpre c)).2) c).symm
    obtain ⟨h0, h1, h2⟩ := hagree c
    rw [← h0, ← h1, ← h2]
    exact Cert.ReferenceIdeal.Read.val_main_v97_eq (F := Ideal) m' c

end Cert.Proof.Kernel

end
-- ==== Proof.Shift.lean ====
module

public import Idealize.ShloMosaic.Lib.Pipeline.ValueKit
public import Idealize.ShloMosaic.Lib.Pointwise
public import Idealize.ShloMosaic.Lib.WordCmp

@[expose] public section

noncomputable section

open Idealize.ShloMosaic Idealize.ShloMosaic.TcCoe Idealize.SL.Sem

/-! # Rows shifted within the two segments of the token stream

A sample's 2304 rows are 256 context rows followed by 2048 latent rows.  A short convolution along the rows reads, for
every row, the rows a few places before and after it in the same segment, and 0 beyond the segment's ends.  The kernel
gets these rows by rotating the eight sublanes of each of the 288 row groups and putting a neighbouring group, or
zeros, under the sublanes that wrapped; the reference pads each segment with zeros and slices it.  Both are `before`
and `after`. -/

namespace Cert.Shift

/-- Row `r - d` of the same segment, and 0 where the segment has no such row. -/
def before (P : ℕ → EReal) (d r : ℕ) : EReal := if r < d ∨ (256 ≤ r ∧ r < 256 + d) then 0 else P (r - d)

/-- Row `r + d` of the same segment, and 0 where the segment has no such row. -/
def after (P : ℕ → EReal) (d r : ℕ) : EReal := if (r < 256 ∧ 256 ≤ r + d) ∨ 2304 ≤ r + d then 0 else P (r + d)

/-- The integer 0, converted to a float, is 0. -/
theorem sitofp_zero : (FloatOps.sitofp (F := Ideal) .f32 (0#32 : BitVec 32) : EReal) = 0 := by
  simp [FloatOps.sitofp]

/-- A choice by "at least", between words of small numbers, is the choice by the numbers. -/
theorem select_sge (a b : ℕ) (ha : a < 2 ^ 31) (hb : b < 2 ^ 31) (x y : EReal) :
    Scalar.select (IntOp.cmpi .sge (BitVec.ofNat 32 a) (BitVec.ofNat 32 b)) x y = if b ≤ a then x else y := by
  unfold Scalar.select
  exact if_congr (WordCmp.cmpi_sge_ofNat_eq_one_iff ha hb) rfl rfl

/-- A choice by "less than", between words of small numbers, is the choice by the numbers. -/
theorem select_slt (a b : ℕ) (ha : a < 2 ^ 31) (hb : b < 2 ^ 31) (x y : EReal) :
    Scalar.select (IntOp.cmpi .slt (BitVec.ofNat 32 a) (BitVec.ofNat 32 b)) x y = if a < b then x else y := by
  unfold Scalar.select
  exact if_congr (WordCmp.cmpi_slt_ofNat_eq_one_iff ha hb) rfl rfl

/-- The kernel's rows `d` places earlier: sublanes rotated by `d`, the wrapped ones taken from the group before. -/
theorem kernel_before (P : ℕ → EReal) (r d : ℕ) (hr : r < 2304) (hd : 1 ≤ d ∧ d ≤ 7) :
    Scalar.select (IntOp.cmpi .sge (BitVec.ofNat 32 (r % 8)) (BitVec.ofNat 32 d))
      (P (r / 8 * 8 + (r % 8 + 8 - d) % 8))
      (if r / 8 < 1 then 0 else if r / 8 - 1 < 31 then P ((r / 8 - 1) * 8 + (r % 8 + 8 - d) % 8)
        else if r / 8 - 1 - 31 < 1 then 0 else P ((32 + (r / 8 - 1 - 31 - 1)) * 8 + (r % 8 + 8 - d) % 8))
      = before P d r := by
  rw [select_sge _ _ (by omega) (by omega)]
  unfold before
  split_ifs <;> first | omega | rfl | exact congrArg P (by omega)

/-- The kernel's rows `8 - e` places later: sublanes rotated by `e`, the wrapped ones taken from the group after. -/
theorem kernel_after (P : ℕ → EReal) (r e : ℕ) (hr : r < 2304) (he : 1 ≤ e ∧ e ≤ 7) :
    Scalar.select (IntOp.cmpi .slt (BitVec.ofNat 32 (r % 8)) (BitVec.ofNat 32 e))
      (P (r / 8 * 8 + (r % 8 + 8 - e) % 8))
      (if r / 8 < 31 then P ((1 + r / 8) * 8 + (r % 8 + 8 - e) % 8) else if r / 8 - 31 < 1 then 0
        else if r / 8 - 31 - 1 < 255 then P ((33 + (r / 8 - 31 - 1)) * 8 + (r % 8 + 8 - e) % 8) else 0)
      = after P (8 - e) r := by
  rw [select_slt _ _ (by omega) (by omega)]
  unfold after
  split_ifs <;> first | omega | rfl | exact congrArg P (by omega)

/-- The padded context segment, read `d` rows earlier. -/
theorem ctx_before (P : ℕ → EReal) (r d : ℕ) (hr : r < 256) :
    (if d ≤ r ∧ r - d < 256 then P (r - d) else 0) = before P d r := by
  unfold before
  split_ifs <;> first | omega | rfl

/-- The context segment, read in place. -/
theorem ctx_here (P : ℕ → EReal) (r : ℕ) (hr : r < 256) : (if r < 256 then P r else 0) = P r := if_pos hr

/-- The context segment padded by `p` rows, read `e - p` rows later. -/
theorem ctx_after (P : ℕ → EReal) (r p e : ℕ) (hr : r < 256) (he : p ≤ e) :
    (if p ≤ e + r ∧ e + r - p < 256 then P (e + r - p) else 0) = after P (e - p) r := by
  unfold after
  split_ifs <;> first | omega | rfl | exact congrArg P (by omega)

/-- The context segment padded by `p` rows, read `p - e` rows earlier. -/
theorem ctx_before' (P : ℕ → EReal) (r p e : ℕ) (hr : r < 256) (he : e ≤ p) :
    (if p ≤ e + r ∧ e + r - p < 256 then P (e + r - p) else 0) = before P (p - e) r := by
  unfold before
  split_ifs <;> first | omega | rfl | exact congrArg P (by omega)

/-- The padded latent segment, read `d` rows earlier. -/
theorem lat_before (P : ℕ → EReal) (r d : ℕ) (hr : 256 ≤ r) (hr' : r < 2304) :
    (if d ≤ r - 256 ∧ r - 256 - d < 2048 then P (256 + (r - 256 - d)) else 0) = before P d r := by
  unfold before
  split_ifs <;> first | omega | rfl | exact congrArg P (by omega)

/-- The latent segment, read in place. -/
theorem lat_here (P : ℕ → EReal) (r : ℕ) (hr : 256 ≤ r) (hr' : r < 2304) :
    (if r - 256 < 2048 then P (256 + (r - 256)) else 0) = P r := by
  rw [if_pos (by omega)]
  exact congrArg P (by omega)

/-- The latent segment padded by `p` rows, read `e - p` rows later. -/
theorem lat_after (P : ℕ → EReal) (r p e : ℕ) (hr : 256 ≤ r) (hr' : r < 2304) (he : p ≤ e) :
    (if p ≤ e + (r - 256) ∧ e + (r - 256) - p < 2048 then P (256 + (e + (r - 256) - p)) else 0) = after P (e - p) r := by
  unfold after
  split_ifs <;> first | omega | rfl | exact congrArg P (by omega)

/-- The latent segment padded by `p` rows, read `p - e` rows earlier. -/
theorem lat_before' (P : ℕ → EReal) (r p e : ℕ) (hr : 256 ≤ r) (hr' : r < 2304) (he : e ≤ p) :
    (if p ≤ e + (r - 256) ∧ e + (r - 256) - p < 2048 then P (256 + (e + (r - 256) - p)) else 0) = before P (p - e) r := by
  unfold before
  split_ifs <;> first | omega | rfl | exact congrArg P (by omega)

/-- A function of the rows below 2304, as a function of all numbers. -/
def rows (f : Fin 2304 → EReal) (n : ℕ) : EReal := if h : n < 2304 then f ⟨n, h⟩ else 0

/-- A function of the rows, read through its extension. -/
theorem rows_val (f : Fin 2304 → EReal) (a : Fin 2304) : f a = rows f a := by
  unfold rows
  rw [dif_pos a.isLt]

end Cert.Shift

end
-- ==== Proof.Up.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import proofs.«01_k».proof.Proof.Shift

@[expose] public section

set_option maxRecDepth 16384

noncomputable section

open Idealize.ShloMosaic Idealize.ShloMosaic.TcCoe Idealize.SL.Sem
open Idealize.ShloMosaic.Pipeline (Dat)

/-! # Kernel2: the feed-forward layer's gated convolution

`silu(conv(x @ wu) + cb) * (x @ wg)`: the convolution takes each row with the row before and the row after it in the
same segment of the token stream (256 context rows, then 2048 latent rows), 0 beyond the segment's ends. -/

namespace Cert.Kernel2Ideal.Up

open Cert.Shift

/-- The convolved column at a row, with its bias. -/
def pre (P : ℕ → EReal) (w0 w1 w2 b : EReal) (r : ℕ) : EReal :=
  w1 * P r + w0 * before P 1 r + w2 * after P 1 r + b

/-- The gated unit at a row. -/
def glu (P : ℕ → EReal) (g w0 w1 w2 b : EReal) (r : ℕ) : EReal :=
  pre P w0 w1 w2 b r * Ideal.logistic (pre P w0 w1 w2 b r) * g

/-- Equal parts make equal gated units. -/
theorem glu_congr {P Q : Fin 2304 → EReal} (hP : ∀ r, P r = Q r) {g g' w0 w0' w1 w1' w2 w2' b b' : EReal} (hg : g = g')
    (h0 : w0 = w0') (h1 : w1 = w1') (h2 : w2 = w2') (hb : b = b') {r r' : ℕ} (hr : r = r') :
    glu (rows P) g w0 w1 w2 b r = glu (rows Q) g' w0' w1' w2' b' r' := by
  rw [show P = Q from funext hP, hg, h0, h1, h2, hb, hr]

/-- A column of the product of a sample with the weights, by rows. -/
def col (x : FVec Ideal Cert.Reference2Ideal.S4x2304x2048 .bf16) (w : FVec Ideal Cert.Reference2Ideal.S4x2048x11264 .f32) (b : Fin 4) (n : Fin 11264)
    (r : Fin 2304) : EReal := ∑ k : Fin 2048, x (ix3 b r k) * w (ix3 0 k n)

/-- The closed form. -/
def closed (x : FVec Ideal Cert.Reference2Ideal.S4x2304x2048 .bf16) (w : FVec Ideal Cert.Reference2Ideal.S4x2048x11264 .f32)
    (cw : FVec Ideal Cert.Reference2Ideal.S4x3x5632 .f32) (cb : FVec Ideal Cert.Reference2Ideal.S4x5632 .f32)
    (b : Fin 4) (r : Fin 2304) (n : Fin 5632) : EReal :=
  glu (rows (col x w b ⟨n, by omega⟩)) (col x w b ⟨5632 + n, by omega⟩ r) (cw (ix3 0 0 n)) (cw (ix3 0 1 n)) (cw (ix3 0 2 n))
    (cb (ix2 0 n)) r

section Reference
open Cert.Reference2Ideal Cert.Reference2Ideal.Gen Cert.Reference2Ideal.Read

variable (x : FVec Ideal S4x2304x2048 .bf16) (w : FVec Ideal S4x2048x11264 .f32)

/-- The context rows' convolved columns. -/
theorem v9_at (b : Fin 4) (r : Fin 256) (n : Fin 5632) :
    val_main_v9 (F := Ideal) x w (ix3 b r n) = rows (col x w b ⟨n, by omega⟩) r := by
  rw [← rows_val (col x w b ⟨n, by omega⟩) ⟨r, by omega⟩]
  unfold col
  pointwise [val_main_v9, val_main_v8, val_main_v7, val_main_v0, val_main_v1, val_main_v2]

/-- The context rows' gate columns. -/
theorem v10_at (b : Fin 4) (r : Fin 256) (n : Fin 5632) :
    val_main_v10 (F := Ideal) x w (ix3 b r n) = rows (col x w b ⟨5632 + n, by omega⟩) r := by
  rw [← rows_val (col x w b ⟨5632 + n, by omega⟩) ⟨r, by omega⟩]
  unfold col
  pointwise [val_main_v10, val_main_v8, val_main_v7, val_main_v0, val_main_v1, val_main_v2]

/-- The latent rows' convolved columns. -/
theorem v39_at (b : Fin 4) (r : Fin 2048) (n : Fin 5632) :
    val_main_v39 (F := Ideal) x w (ix3 b r n) = rows (col x w b ⟨n, by omega⟩) (256 + r) := by
  rw [← rows_val (col x w b ⟨n, by omega⟩) ⟨256 + r, by omega⟩]
  unfold col
  pointwise [val_main_v39, val_main_v38, val_main_v37, val_main_v0, val_main_v1, val_main_v2]

/-- The latent rows' gate columns. -/
theorem v40_at (b : Fin 4) (r : Fin 2048) (n : Fin 5632) :
    val_main_v40 (F := Ideal) x w (ix3 b r n) = rows (col x w b ⟨5632 + n, by omega⟩) (256 + r) := by
  rw [← rows_val (col x w b ⟨5632 + n, by omega⟩) ⟨256 + r, by omega⟩]
  unfold col
  pointwise [val_main_v40, val_main_v38, val_main_v37, val_main_v0, val_main_v1, val_main_v2]

/-- The taps in the reference's order. -/
theorem pre_eq (P : ℕ → EReal) (w0 w1 w2 b : EReal) (r : ℕ) :
    before P 1 r * w0 + P r * w1 + after P 1 r * w2 + b = pre P w0 w1 w2 b r := by
  unfold pre
  rw [mul_comm w1, mul_comm w0, mul_comm w2, add_comm (P r * w1)]

/-- The reference's result, read at an index, is the closed form. -/
theorem ref_at (cw : FVec Ideal S4x3x5632 .f32) (cb : FVec Ideal S4x5632 .f32)
    (b : Fin 4) (r : Fin 2304) (n : Fin 5632) :
    val_main_v68 (F := Ideal) x w cw cb (ix3 b r n) = closed x w cw cb b r n := by
  unfold closed
  rw [rows_val (col x w b ⟨5632 + n, by omega⟩) r]
  pointwise [val_main_v0, val_main_v1, val_main_v2, val_main_v3, val_main_v4, val_main_v5, val_main_v6, val_main_v7, val_main_c, val_main_call0_v0, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_call1_v0, val_main_call1_v1, val_main_call1_cst, val_main_call1_v2, val_main_call1_v3, val_main_call1_cst_0, val_main_call1_v4, val_main_call1_v5, val_main_v35, val_main_v36, val_main_v37, val_main_c_0, val_main_call2_v0, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_call3_v0, val_main_call3_v1, val_main_call3_cst, val_main_call3_v2, val_main_call3_v3, val_main_call3_cst_0, val_main_call3_v4, val_main_call3_v5, val_main_v65, val_main_v66, val_main_v67, val_main_v68, v9_at, v10_at, v39_at, v40_at]
  by_cases hr : (r : ℕ) < 256
  · simp only [dif_pos hr, if_pos hr, dite_eq_ite, sitofp_zero]
    rw [ctx_before _ _ 1 hr, ctx_after _ _ 1 2 hr (by decide), pre_eq]
    rfl
  · simp only [dif_neg hr, if_neg hr, dite_eq_ite, sitofp_zero]
    rw [lat_before _ _ 1 (by omega) r.isLt, lat_here _ _ (by omega) r.isLt, lat_after _ _ 1 2 (by omega) r.isLt (by decide),
      pre_eq, show 256 + ((r : ℕ) - 256) = r by omega]
    rfl

end Reference

section Kernel
open Cert.Kernel2Ideal Cert.Kernel2Ideal.Gen

/-- A column of a block's product, by rows. -/
def bcol (x : Vec Ideal S1x2304x2048 .bf16) (w : Vec Ideal S1x2048x256 .f32) (n : Fin 256) (r : Fin 2304) : EReal :=
  ∑ k : Fin 2048, x (ix3 0 r k) * w (ix3 0 k n)

/-- The left half's convolved columns, grouped by eight rows. -/
theorem pay7_at (x : Vec Ideal S1x2304x2048 .bf16) (w : Vec Ideal S1x2048x256 .f32) (a : Fin 288) (s : Fin 8) (n : Fin 256) :
    k0_pay7 x w (ix3 a s n) = rows (bcol x w n) (a * 8 + s) := by
  rw [← rows_val (bcol x w n) ⟨a * 8 + s, by omega⟩]
  unfold bcol
  pointwise [k0_pay7, k0_pay2]

/-- The right half's convolved columns, grouped by eight rows. -/
theorem pay15_at (x : Vec Ideal S1x2304x2048 .bf16) (w : Vec Ideal S1x2048x256 .f32) (a : Fin 288) (s : Fin 8) (n : Fin 256) :
    k0_pay15 (k0_pay3 x w) (ix3 a s n) = rows (bcol x w n) (a * 8 + s) := by
  rw [← rows_val (bcol x w n) ⟨a * 8 + s, by omega⟩]
  unfold bcol
  pointwise [k0_pay15, k0_pay3, k0_pay2]

/-- The left half's gate columns. -/
theorem pay4_at (x : Vec Ideal S1x2304x2048 .bf16) (w : Vec Ideal S1x2048x256 .f32) (r : Fin 2304) (n : Fin 256) :
    k0_pay4 x w (ix2 r n) = bcol x w n r := by
  unfold bcol
  pointwise [k0_pay4, k0_pay2]

/-- The right half's gate columns. -/
theorem pay5_at (x : Vec Ideal S1x2304x2048 .bf16) (w : Vec Ideal S1x2048x256 .f32) (r : Fin 2304) (n : Fin 256) :
    k0_pay5 x w (ix2 r n) = bcol x w n r := by
  unfold bcol
  pointwise [k0_pay5, k0_pay2]

/-- The left half's store, read at an index. -/
theorem left_at (x : Vec Ideal S1x2304x2048 .bf16) (w1 w2 : Vec Ideal S1x2048x256 .f32) (cw : Vec Ideal S1x3x256 .f32)
    (cb : Vec Ideal S1x1x256 .f32) (r : Fin 2304) (n : Fin 256) :
    k0_pay13 (k0_pay4 x w2) (k0_pay6 cw) (k0_pay7 x w1) (iota .tc S1x8x256 32 [1] iota_S1x8x256_d1_w32) (k0_pay8 (F := Ideal))
      (k0_pay9 x w1 cw) (k0_pay10 x w1) (k0_pay11 x w1) k0_pay12 cb (ix3 0 r n)
    = glu (rows (bcol x w1 n)) (bcol x w2 n r) (cw (ix3 0 0 n)) (cw (ix3 0 1 n)) (cw (ix3 0 2 n)) (cb (ix3 0 0 n)) r := by
  have h8 : (r : ℕ) / 8 * 8 + r % 8 = r := by omega
  unfold glu pre
  pointwise [k0_pay13, k0_pay6, k0_pay8, k0_pay9, k0_pay10, k0_pay11, k0_pay12, pay7_at, pay4_at]
  simp only [dite_eq_ite, h8]
  rw [kernel_before _ _ 1 r.isLt (by decide), kernel_after _ _ 7 r.isLt (by decide)]

/-- The right half's store, read at an index. -/
theorem right_at (x : Vec Ideal S1x2304x2048 .bf16) (w1 w2 : Vec Ideal S1x2048x256 .f32) (cw : Vec Ideal S1x3x256 .f32)
    (cb : Vec Ideal S1x1x256 .f32) (r : Fin 2304) (n : Fin 256) :
    k0_pay1 (k0_pay5 x w2) (k0_pay14 cw) (k0_pay15 (k0_pay3 x w1)) (iota .tc S1x8x256 32 [1] iota_S1x8x256_d1_w32)
      (k0_pay16 (F := Ideal)) (k0_pay17 (k0_pay3 x w1) cw) (k0_pay18 (k0_pay3 x w1)) (k0_pay19 (k0_pay3 x w1))
      (k0_pay20 (k0_pay3 x w1)) cb (ix3 0 r n)
    = glu (rows (bcol x w1 n)) (bcol x w2 n r) (cw (ix3 0 0 n)) (cw (ix3 0 1 n)) (cw (ix3 0 2 n)) (cb (ix3 0 0 n)) r := by
  have h8 : (r : ℕ) / 8 * 8 + r % 8 = r := by omega
  unfold glu pre
  pointwise [k0_pay1, k0_pay14, k0_pay16, k0_pay17, k0_pay18, k0_pay19, k0_pay20, pay15_at, pay5_at]
  simp only [dite_eq_ite, h8]
  rw [kernel_before _ _ 1 r.isLt (by decide), kernel_after _ _ 7 r.isLt (by decide)]

variable (m : (ℓ : Loc nD τ sig) → Buf (Elt Ideal) ℓ)

/-- Where each window's block sits at a grid point. -/
theorem idx : ∀ t : Fin cfg0.N, win0_0.index t = ![t.val / 11, 0, 0] ∧ win0_1.index t = ![0, 0, t.val % 11]
    ∧ win0_2.index t = ![0, 0, 11 + t.val % 11] ∧ win0_3.index t = ![0, 0, t.val % 11] ∧ win0_4.index t = ![0, 0, t.val % 11]
    ∧ win0_5.index t = ![t.val / 11, 0, t.val % 11] ∧ t.val < 44 :=
  (by decide +kernel : ∀ t : Fin grid0.N, _)

/-- The biases' block at a grid point, read at an index. -/
theorem b_at (c : Dev nD) (t : Fin cfg0.N) (ht : t.val < 44) (n : Fin 512) :
    iblk m c 4 t (ix3 0 0 n) = m ((c : Thread nD τ).loc main_arg3) (ix2 0 ⟨t.val % 11 * 512 + n, by omega⟩) := by
  have e : ((cfg0.win 4).blk t).view.emb (ix3 0 0 n) = (ix3 0 0 ⟨t.val % 11 * 512 + n, by omega⟩ : S4x1x5632.Idx) := by
    blk_ext [idx t]
  refine (congrArg (V m c main_v0) e).trans ?_
  unfold V
  after_results
  pointwise

/-- What the body stores at a block index of a grid point is the reference's result where that index sits. -/
theorem point (c : Dev nD) (t : Fin cfg0.N) (y) :
    out0_5 (iblk m c 0 t) (iblk m c 1 t) (iblk m c 2 t) (iblk m c 3 t) (iblk m c 4 t) y
    = Cert.Reference2Ideal.Read.val_main_v68 (F := Ideal) (m ((c : Thread nD τ).loc main_arg0))
      (m ((c : Thread nD τ).loc main_arg1))
      (m ((c : Thread nD τ).loc main_arg2))
      (m ((c : Thread nD τ).loc main_arg3)) (((cfg0.win 5).blk t).view.emb y) := by
  have ht : t.val < 44 := (idx t).2.2.2.2.2.2
  idx_vars y
  have e : ((cfg0.win 5).blk t).view.emb (ix3 y0 y1 y2)
      = (ix3 ⟨t.val / 11, by omega⟩ y1 ⟨t.val % 11 * 512 + y2, by omega⟩ : S4x2304x5632.Idx) := by
    blk_ext [idx t]
  refine Eq.trans ?_ ((congrArg _ e).trans (ref_at _ _ _ _ _ _ _)).symm
  unfold out0_5 k0_pay21
  canon_tiles x h
  case piece0 =>
    idx_vars x
    obtain rfl : x0 = 0 := Fin.fin_one_eq_zero x0
    rw [right_at]
    unfold closed
    refine glu_congr (fun r => ?_) ?_ ?_ ?_ ?_ ?_ ?_
    · unfold bcol col
      blk_point [iblk, V, idx t]
    · unfold bcol col
      blk_point [iblk, V, idx t]
    · blk_point [iblk, V, idx t]
    · blk_point [iblk, V, idx t]
    · blk_point [iblk, V, idx t]
    · pointwise
      refine (b_at m c t ht _).trans (congrArg _ ?_)
      blk_ext
    · exact h1.symm
  case piece1 =>
    idx_vars x
    obtain rfl : x0 = 0 := Fin.fin_one_eq_zero x0
    rw [left_at]
    unfold closed
    refine glu_congr (fun r => ?_) ?_ ?_ ?_ ?_ ?_ ?_
    · unfold bcol col
      blk_point [iblk, V, idx t]
    · unfold bcol col
      blk_point [iblk, V, idx t]
    · blk_point [iblk, V, idx t]
    · blk_point [iblk, V, idx t]
    · blk_point [iblk, V, idx t]
    · pointwise
      refine (b_at m c t ht _).trans (congrArg _ ?_)
      blk_ext
    · exact h1.symm

/-- The kernel's result array is the reference's term of the arguments. -/
theorem final (c : Dev nD) : (dats m 0 c).arrAt 5 (cfgs 0).N
    = Cert.Reference2Ideal.Read.val_main_v68 (F := Ideal) (m ((c : Thread nD τ).loc main_arg0))
      (m ((c : Thread nD τ).loc main_arg1))
      (m ((c : Thread nD τ).loc main_arg2))
      (m ((c : Thread nD τ).loc main_arg3)) := by
  refine (dats m 0 c).arrAt_eq_of_covers 5 _ (by decide +kernel) fun t _ y => ?_
  blk_simp
  rw [after0_5]
  exact point m c t y

end Kernel

end Cert.Kernel2Ideal.Up

end
-- ==== Proof.Claim2.lean ====
module

public import proofs.«01_k».proof.Defs
public import proofs.«01_k».proof.Proof.Gen.Kernel2.Frame
public import proofs.«01_k».proof.Proof.Gen.Reference2Ideal.Run
public import proofs.«01_k».proof.Proof.Up
public import Idealize.ShloMosaic.Lib.Claim

@[expose] public section

set_option maxRecDepth 16384
set_option maxHeartbeats 1600000

noncomputable section

open Idealize.ShloMosaic Idealize.ShloMosaic.TcCoe Idealize.SL.Sem

/-! # The claims of Kernel2 -/

namespace Cert.Proof.Kernel2

/-- The kernel runs, and leaves its arguments and the semaphores as they were. -/
theorem frame_kernel : Cert.quiescent_Kernel2 := fun m ρ _ => Cert.Kernel2.Gen.frame m ρ

/-- The idealised kernel runs, and leaves its arguments and the semaphores as they were. -/
theorem frame_ideal : Cert.quiescent_Kernel2Ideal := fun m ρ _ => Cert.Kernel2Ideal.Gen.frame m ρ

/-- The reference runs, and leaves its arguments and the semaphores as they were. -/
theorem frame_reference : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- The idealised kernel's result is the reference's. -/
theorem algebraic : Cert.algebraic_Kernel2Ideal_Reference2Ideal := by
  pair_intro
  · run_from Cert.Kernel2Ideal.Gen.run_main m g
  · run_from Cert.Reference2Ideal.Value.run m' g'
    refine Eq.trans ?_ (Cert.Kernel2Ideal.Up.final m c).symm
    obtain ⟨h0, h1, h2, h3⟩ := hagree c
    rw [← h0, ← h1, ← h2, ← h3]
    exact Cert.Reference2Ideal.Read.val_main_v68_eq (F := Ideal) m' c

end Cert.Proof.Kernel2

end
-- ==== Proof.Down3.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel3: a product with a gated residual, against the reference's two products

`out = h + gate * (x @ w)`, the gate's row chosen by the token: row 4 of `gate` for the 256 context tokens of
each sample, the sample's own row for its 2048 latent tokens. -/

namespace Cert.Kernel3Ideal.Down

/-- The closed form: the residual, plus the gate of the row times the row's product with the weights. -/
def closed (x : FVec Ideal Cert.Reference3Ideal.S4x2304x5632 .bf16) (w : FVec Ideal Cert.Reference3Ideal.S4x5632x2048 .f32)
    (h : FVec Ideal Cert.Reference3Ideal.S4x2304x2048 .f32) (g : FVec Ideal Cert.Reference3Ideal.S8x2048 .f32)
    (r : Fin 9216) (c : Fin 2048) : EReal :=
  h (ix3 ⟨r / 2304, by omega⟩ ⟨r % 2304, by omega⟩ c)
    + (if (r : ℕ) % 2304 < 256 then g (ix2 4 c) else g (ix2 ⟨r / 2304, by omega⟩ c))
      * ∑ k : Fin 5632, x (ix3 ⟨r / 2304, by omega⟩ ⟨r % 2304, by omega⟩ k) * w (ix3 0 k c)

section Reference
open Cert.Reference3Ideal Cert.Reference3Ideal.Gen Cert.Reference3Ideal.Read

/-- The reference's result, read at an index, is the closed form. -/
theorem ref_at (x : FVec Ideal S4x2304x5632 .bf16) (w : FVec Ideal S4x5632x2048 .f32) (h : FVec Ideal S4x2304x2048 .f32)
    (g : FVec Ideal S8x2048 .f32) (r : Fin 9216) (c : Fin 2048) :
    val_main_v21 (F := Ideal) x w h g (ix2 r c) = closed x w h g r c := by
  unfold closed
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21]
  by_cases hr : (r : ℕ) % 2304 < 256
  · simp only [dif_pos hr, if_pos hr]
  · have e : 256 + ((r : ℕ) % 2304 - 256) = (r : ℕ) % 2304 := by omega
    simp only [dif_neg hr, if_neg hr, e]

end Reference

section Kernel
open Cert.Kernel3Ideal Cert.Kernel3Ideal.Gen

variable (m : (ℓ : Loc nD τ sig) → Buf (Elt Ideal) ℓ)

/-- Where each window's block sits at a grid point, and the row of the gate that the point loads. -/
theorem idx : ∀ t : Fin cfg0.N, win0_0.index t = ![t.val / 8, 0] ∧ win0_1.index t = ![0, 0, t.val % 8]
    ∧ win0_2.index t = ![t.val / 8, t.val % 8] ∧ win0_3.index t = ![0, t.val % 8]
    ∧ win0_4.index t = ![t.val / 8, t.val % 8] ∧ k0_off1 (grid0.coords t) = ![t.val / 16, 0] ∧ t.val < 64 :=
  (by decide +kernel : ∀ t : Fin grid0.N, _)

/-- The row, within its sample, of each row of the block at a grid point. -/
theorem row_at (t : Fin cfg0.N) (r : Fin 1152) :
    k0_pay3 (grid0.coords t) (ix2 r 0) = BitVec.ofNat 32 (r + t.val / 8 % 2 * 1152) := by
  have h0 : ∀ t : Fin cfg0.N, k0_pay3 (grid0.coords t) (ix2 0 0) = BitVec.ofNat 32 (t.val / 8 % 2 * 1152) :=
    (by decide +kernel : ∀ t : Fin grid0.N, _)
  have h1 : k0_pay3 (grid0.coords t) (ix2 r 0)
      = BitVec.ofNat 32 r + k0_pay3 (grid0.coords t) (ix2 0 0) := by
    pointwise [k0_pay3]
    simp [IntOp.addi]
  rw [h1, h0, ← BitVec.ofNat_add]

/-- The comparison of a row with 256, as words, is the comparison of the numbers. -/
theorem select_row (n : ℕ) (hn : n < 2304) (a b : EReal) :
    Scalar.select (IntOp.cmpi .slt (BitVec.ofNat 32 n) 256#32) a b = if n < 256 then a else b := by
  unfold Scalar.select
  exact if_congr (WordCmp.cmpi_slt_ofNat_eq_one_iff (by omega) (by decide)) rfl rfl

/-- What the body stores at a block index of a grid point is the closed form where that index sits. -/
theorem point (c : Dev nD) (t : Fin cfg0.N) (y) : outsAt0 m c t y
    = Cert.Reference3Ideal.Read.val_main_v21 (F := Ideal) (m ((c : Thread nD τ).loc main_arg0)) (m ((c : Thread nD τ).loc main_arg1))
      (m ((c : Thread nD τ).loc main_arg2)) (m ((c : Thread nD τ).loc main_arg3)) (((cfg0.win 4).blk t).view.emb y) := by
  unfold outsAt0
  frame_out
  have ht : t.val < 64 := (idx t).2.2.2.2.2.2
  idx_vars y
  have e : ((cfg0.win 4).blk t).view.emb (ix2 y0 y1)
      = (ix2 ⟨t.val / 8 * 1152 + y0, by omega⟩ ⟨t.val % 8 * 256 + y1, by omega⟩ : S9216x2048.Idx) := by
    blk_ext [idx t]
  refine Eq.trans ?_ ((congrArg _ e).trans (ref_at _ _ _ _ _ _)).symm
  unfold closed
  pointwise [k0_pay1, k0_pay2, row_at, (idx t).2.2.2.2.2.1]
  have hr : (t.val / 8 * 1152 + y0.val) % 2304 = y0.val + t.val / 8 % 2 * 1152 := by omega
  have hq : (t.val / 8 * 1152 + y0.val) / 2304 = t.val / 16 := by omega
  rw [select_row _ (by omega)]
  simp only [hr, hq]
  blk_point [iblk, V, idx t]

/-- The kernel's result array is the reference's term of the arguments. -/
theorem final (c : Dev nD) : (dats m 0 c).arrAt 4 (cfgs 0).N
    = Cert.Reference3Ideal.Read.val_main_v21 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Kernel

end Cert.Kernel3Ideal.Down

end
-- ==== Proof.Claim3.lean ====
module

public import proofs.«01_k».proof.Defs
public import proofs.«01_k».proof.Proof.Gen.Kernel3.Frame
public import proofs.«01_k».proof.Proof.Gen.Reference3Ideal.Run
public import proofs.«01_k».proof.Proof.Down3
public import Idealize.ShloMosaic.Lib.Claim

@[expose] public section

set_option maxRecDepth 16384
set_option maxHeartbeats 1600000

noncomputable section

open Idealize.ShloMosaic Idealize.ShloMosaic.TcCoe Idealize.SL.Sem

/-! # The claims of Kernel3 -/

namespace Cert.Proof.Kernel3

/-- The kernel runs, and leaves its arguments and the semaphores as they were. -/
theorem frame_kernel : Cert.quiescent_Kernel3 := fun m ρ _ => Cert.Kernel3.Gen.frame m ρ

/-- The idealised kernel runs, and leaves its arguments and the semaphores as they were. -/
theorem frame_ideal : Cert.quiescent_Kernel3Ideal := fun m ρ _ => Cert.Kernel3Ideal.Gen.frame m ρ

/-- The reference runs, and leaves its arguments and the semaphores as they were. -/
theorem frame_reference : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

/-- The idealised kernel's result is the reference's. -/
theorem algebraic : Cert.algebraic_Kernel3Ideal_Reference3Ideal := by
  pair_intro
  · run_from Cert.Kernel3Ideal.Gen.run_main m g
  · run_from Cert.Reference3Ideal.Value.run m' g'
    refine Eq.trans ?_ (Cert.Kernel3Ideal.Down.final m c).symm
    obtain ⟨h0, h1, h2, h3⟩ := hagree c
    rw [← h0, ← h1, ← h2, ← h3]
    exact Cert.Reference3Ideal.Read.val_main_v21_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))

end Cert.Proof.Kernel3

end
-- ==== Proof.Taps.lean ====
module

public import proofs.«01_k».proof.Proof.Shift

@[expose] public section

noncomputable section

open Idealize.ShloMosaic

/-! # The five-tap convolution along the rows, and its silu -/

namespace Cert.Shift

/-- The convolved column at a row: the row, the two before and the two after it. -/
def conv (P : ℕ → EReal) (w0 w1 w2 w3 w4 : EReal) (r : ℕ) : EReal :=
  w2 * P r + w0 * before P 2 r + w1 * before P 1 r + w3 * after P 1 r + w4 * after P 2 r

/-- The taps in the order of the rows. -/
theorem conv_eq (P : ℕ → EReal) (w0 w1 w2 w3 w4 : EReal) (r : ℕ) :
    before P 2 r * w0 + before P 1 r * w1 + P r * w2 + after P 1 r * w3 + after P 2 r * w4 = conv P w0 w1 w2 w3 w4 r := by
  unfold conv
  rw [mul_comm w0, mul_comm w1, mul_comm w2, mul_comm w3, mul_comm w4]
  abel

/-- The silu of the convolved column at a row. -/
def act (P : ℕ → EReal) (w0 w1 w2 w3 w4 : EReal) (r : ℕ) : EReal :=
  conv P w0 w1 w2 w3 w4 r * Ideal.logistic (conv P w0 w1 w2 w3 w4 r)

/-- Equal parts make equal values. -/
theorem act_congr {P Q : Fin 2304 → EReal} (hP : ∀ r, P r = Q r) {w0 w0' w1 w1' w2 w2' w3 w3' w4 w4' : EReal}
    (h0 : w0 = w0') (h1 : w1 = w1') (h2 : w2 = w2') (h3 : w3 = w3') (h4 : w4 = w4') {r r' : ℕ} (hr : r = r') :
    act (rows P) w0 w1 w2 w3 w4 r = act (rows Q) w0' w1' w2' w3' w4' r' := by
  rw [show P = Q from funext hP, h0, h1, h2, h3, h4, hr]

end Cert.Shift

end
-- ==== Proof.DnQKRef.lean ====
module

public import proofs.«01_k».proof.Proof.Gen.Reference4Ideal.Read
public import Idealize.ShloMosaic.Lib.Pipeline.ValueKit
public import Idealize.ShloMosaic.Lib.Pointwise
public import proofs.«01_k».proof.Proof.Taps

@[expose] public section

set_option maxRecDepth 16384

noncomputable section

open Idealize.ShloMosaic Idealize.ShloMosaic.TcCoe Idealize.SL.Sem
open Idealize.ShloMosaic.Pipeline (Dat)

/-! # Kernel4: the query and key projections of the recurrent mixer

`l2_norm(silu(conv(x @ w)))` by heads of 128 columns, the queries (columns 0..2047) scaled by `128 ** -0.5`; the
convolution over five rows of the same segment of the token stream (256 context rows, then 2048 latent rows), 0 beyond
the segment's ends. -/

namespace Cert.Kernel4Ideal.DnQK

open Cert.Shift

/-- A column of the product of a sample with the weights, by rows. -/
def col (x : FVec Ideal Cert.Reference4Ideal.S4x2304x2048 .bf16) (w : FVec Ideal Cert.Reference4Ideal.S2x2048x12416 .f32) (b : Fin 4) (n : Fin 12416)
    (r : Fin 2304) : EReal := ∑ k : Fin 2048, x (ix3 b r k) * w (ix3 0 k n)

/-- The activated column. -/
def actv (x : FVec Ideal Cert.Reference4Ideal.S4x2304x2048 .bf16) (w : FVec Ideal Cert.Reference4Ideal.S2x2048x12416 .f32)
    (cw : FVec Ideal Cert.Reference4Ideal.S2x5x8192 .f32) (b : Fin 4) (r : Fin 2304) (n : Fin 4096) : EReal :=
  act (rows (col x w b ⟨n, by omega⟩)) (cw (ix3 0 0 ⟨n, by omega⟩)) (cw (ix3 0 1 ⟨n, by omega⟩))
    (cw (ix3 0 2 ⟨n, by omega⟩)) (cw (ix3 0 3 ⟨n, by omega⟩)) (cw (ix3 0 4 ⟨n, by omega⟩)) r

/-- A head's entry, normalised by the head's length and scaled. -/
def unit (U : Fin 128 → EReal) (s : EReal) (j : Fin 128) : EReal :=
  U j * (Ideal.rsqrt ((∑ k, U k * U k) + (Ideal.ofBits .f32 0x358637BD#32 : EReal)) * s)

/-- The closed form. -/
def closed (x : FVec Ideal Cert.Reference4Ideal.S4x2304x2048 .bf16) (w : FVec Ideal Cert.Reference4Ideal.S2x2048x12416 .f32)
    (cw : FVec Ideal Cert.Reference4Ideal.S2x5x8192 .f32) (b : Fin 4) (r : Fin 2304) (n : Fin 4096) : EReal :=
  unit (fun j => actv x w cw b r ⟨n / 128 * 128 + j, by omega⟩) (if (n : ℕ) < 2048 then Ideal.ofBits .f32 0x3DB504F3#32 else 1)
    ⟨n % 128, by omega⟩

section Reference
open Cert.Reference4Ideal Cert.Reference4Ideal.Gen Cert.Reference4Ideal.Read

variable (x : FVec Ideal S4x2304x2048 .bf16) (w : FVec Ideal S2x2048x12416 .f32)

/-- The context rows' product. -/
theorem ctx_at (b : Fin 4) (r : Fin 256) (n : Fin 4096) :
    val_main_v8 (F := Ideal) x w (ix3 b r n) = rows (col x w b ⟨n, by omega⟩) r := by
  rw [← rows_val (col x w b ⟨n, by omega⟩) ⟨r, by omega⟩]
  unfold col
  pointwise [val_main_v8, val_main_v3, val_main_v2, val_main_v1, val_main_v7, val_main_v0]

/-- The latent rows' product. -/
theorem lat_at (b : Fin 4) (r : Fin 2048) (n : Fin 4096) :
    val_main_v71 (F := Ideal) x w (ix3 b r n) = rows (col x w b ⟨n, by omega⟩) (256 + r) := by
  rw [← rows_val (col x w b ⟨n, by omega⟩) ⟨256 + r, by omega⟩]
  unfold col
  pointwise [val_main_v71, val_main_v3, val_main_v2, val_main_v1, val_main_v70, val_main_v0]

/-- The context rows' activated columns. -/
theorem ctx_act (cw : FVec Ideal S2x5x8192 .f32) (b : Fin 4) (r : Fin 256) (n : Fin 4096) :
    val_main_v44 (F := Ideal) x w cw (ix3 b r n) = actv x w cw b ⟨r, by omega⟩ n := by
  unfold actv
  pointwise [val_main_v44, val_main_call1_v5, val_main_call1_v3, val_main_call1_v1, val_main_call1_v0, val_main_v43, val_main_v42, val_main_v41, val_main_v40, val_main_v39, val_main_v38, val_main_v6, val_main_v5, val_main_v4, val_main_v37, val_main_v9, val_main_call0_v0, val_main_c, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_call1_v2, val_main_call1_cst, val_main_call1_v4, val_main_call1_cst_0, ctx_at]
  simp only [dite_eq_ite, sitofp_zero]
  rw [ctx_before _ _ 2 r.isLt, ctx_before' _ _ 2 1 r.isLt (by decide), ctx_after _ _ 2 3 r.isLt (by decide),
    ctx_after _ _ 2 4 r.isLt (by decide), conv_eq]
  rfl

/-- The latent rows' activated columns. -/
theorem lat_act (cw : FVec Ideal S2x5x8192 .f32) (b : Fin 4) (r : Fin 2048) (n : Fin 4096) :
    val_main_v107 (F := Ideal) x w cw (ix3 b r n) = actv x w cw b ⟨256 + r, by omega⟩ n := by
  unfold actv
  pointwise [val_main_v107, val_main_call3_v5, val_main_call3_v3, val_main_call3_v1, val_main_call3_v0, val_main_v106, val_main_v105, val_main_v104, val_main_v103, val_main_v102, val_main_v101, val_main_v6, val_main_v5, val_main_v4, val_main_v100, val_main_v72, val_main_call2_v0, val_main_c_4, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_call3_v2, val_main_call3_cst, val_main_call3_v4, val_main_call3_cst_0, lat_at]
  simp only [dite_eq_ite, sitofp_zero]
  have hs : 256 + (r : ℕ) - 256 = r := by omega
  have l0 := lat_before (rows (col x w b ⟨n, by omega⟩)) (256 + r) 2 (by omega) (by omega)
  have l1 := lat_before' (rows (col x w b ⟨n, by omega⟩)) (256 + r) 2 1 (by omega) (by omega) (by decide)
  have l3 := lat_after (rows (col x w b ⟨n, by omega⟩)) (256 + r) 2 3 (by omega) (by omega) (by decide)
  have l4 := lat_after (rows (col x w b ⟨n, by omega⟩)) (256 + r) 2 4 (by omega) (by omega) (by decide)
  simp only [hs] at l0 l1 l3 l4
  rw [l0, l1, l3, l4, conv_eq]
  rfl

/-- Equal places hold equal normalised entries. -/
theorem unit_congr {U V : Fin 128 → EReal} (hU : ∀ k, U k = V k) {s s' : EReal} (hs : s = s') {j j' : Fin 128} (hj : j = j') :
    unit U s j = unit V s' j' := by
  rw [show U = V from funext hU, hs, hj]

/-- A head of an array of 256 rows, normalised. -/
theorem key_ctx (T : FVec Ideal S4x256x16x128 .f32) (b : Fin 4) (r : Fin 256) (h : Fin 16) (j : Fin 128) :
    (mulf T (broadcastInDim S4x256x16x128 ![0, 1, 2, 3] bcast_S4x256x16x1_S4x256x16x128_0_1_2_3
        (Host.rsqrt (addf (broadcastInDim S4x256x16x1 ![0, 1, 2] bcast_S4x256x16_S4x256x16x1_0_1_2
          (Host.reduceAdd (mulf T T) (constant S_ .f32 0x00000000#32) reducesTo_S4x256x16x128_S4x256x16_d3 h_S_))
          (broadcastInDim S4x256x16x1 ![] bcast_S_S4x256x16x1 (constant S_ .f32 0x358637BD#32)))))) (ix4 b r h j) = unit (fun k => T (ix4 b r h k)) 1 j := by
  unfold unit
  rw [mul_one]
  pointwise

/-- A head of an array of 256 rows, normalised and scaled. -/
theorem query_ctx (T : FVec Ideal S4x256x16x128 .f32) (b : Fin 4) (r : Fin 256) (h : Fin 16) (j : Fin 128) :
    (mulf (mulf T (broadcastInDim S4x256x16x128 ![0, 1, 2, 3] bcast_S4x256x16x1_S4x256x16x128_0_1_2_3
        (Host.rsqrt (addf (broadcastInDim S4x256x16x1 ![0, 1, 2] bcast_S4x256x16_S4x256x16x1_0_1_2
          (Host.reduceAdd (mulf T T) (constant S_ .f32 0x00000000#32) reducesTo_S4x256x16x128_S4x256x16_d3 h_S_))
          (broadcastInDim S4x256x16x1 ![] bcast_S_S4x256x16x1 (constant S_ .f32 0x358637BD#32)))))) (broadcastInDim S4x256x16x128 ![] bcast_S_S4x256x16x128 (constant S_ .f32 0x3DB504F3#32))) (ix4 b r h j)
      = unit (fun k => T (ix4 b r h k)) (Ideal.ofBits .f32 0x3DB504F3#32) j := by
  unfold unit
  rw [← mul_assoc]
  pointwise

/-- A head of an array of 2048 rows, normalised. -/
theorem key_lat (T : FVec Ideal S4x2048x16x128 .f32) (b : Fin 4) (r : Fin 2048) (h : Fin 16) (j : Fin 128) :
    (mulf T (broadcastInDim S4x2048x16x128 ![0, 1, 2, 3] bcast_S4x2048x16x1_S4x2048x16x128_0_1_2_3
        (Host.rsqrt (addf (broadcastInDim S4x2048x16x1 ![0, 1, 2] bcast_S4x2048x16_S4x2048x16x1_0_1_2
          (Host.reduceAdd (mulf T T) (constant S_ .f32 0x00000000#32) reducesTo_S4x2048x16x128_S4x2048x16_d3 h_S_))
          (broadcastInDim S4x2048x16x1 ![] bcast_S_S4x2048x16x1 (constant S_ .f32 0x358637BD#32)))))) (ix4 b r h j) = unit (fun k => T (ix4 b r h k)) 1 j := by
  unfold unit
  rw [mul_one]
  pointwise

/-- A head of an array of 2048 rows, normalised and scaled. -/
theorem query_lat (T : FVec Ideal S4x2048x16x128 .f32) (b : Fin 4) (r : Fin 2048) (h : Fin 16) (j : Fin 128) :
    (mulf (mulf T (broadcastInDim S4x2048x16x128 ![0, 1, 2, 3] bcast_S4x2048x16x1_S4x2048x16x128_0_1_2_3
        (Host.rsqrt (addf (broadcastInDim S4x2048x16x1 ![0, 1, 2] bcast_S4x2048x16_S4x2048x16x1_0_1_2
          (Host.reduceAdd (mulf T T) (constant S_ .f32 0x00000000#32) reducesTo_S4x2048x16x128_S4x2048x16_d3 h_S_))
          (broadcastInDim S4x2048x16x1 ![] bcast_S_S4x2048x16x1 (constant S_ .f32 0x358637BD#32)))))) (broadcastInDim S4x2048x16x128 ![] bcast_S_S4x2048x16x128 (constant S_ .f32 0x3DB504F3#32))) (ix4 b r h j)
      = unit (fun k => T (ix4 b r h k)) (Ideal.ofBits .f32 0x3DB504F3#32) j := by
  unfold unit
  rw [← mul_assoc]
  pointwise

/-- The context rows' queries, by heads, before they are normalised. -/
theorem q_ctx_u (cw : FVec Ideal S2x5x8192 .f32) (b : Fin 4) (r : Fin 256) (h : Fin 16) (j : Fin 128) :
    val_main_v46 (F := Ideal) x w cw (ix4 b r h j) = actv x w cw b ⟨r, by omega⟩ ⟨h * 128 + j, by omega⟩ := by
  pointwise [val_main_v46, val_main_v45, ctx_act]

/-- The context rows' queries. -/
theorem q_ctx (cw : FVec Ideal S2x5x8192 .f32) (b : Fin 4) (r : Fin 256) (h : Fin 16) (j : Fin 128) :
    val_main_v56 (F := Ideal) x w cw (ix4 b r h j)
      = unit (fun k => actv x w cw b ⟨r, by omega⟩ ⟨h * 128 + k, by omega⟩) (Ideal.ofBits .f32 0x3DB504F3#32) j :=
  (query_ctx (val_main_v46 (F := Ideal) x w cw) b r h j).trans
    (unit_congr (fun k => q_ctx_u x w cw b r h k) rfl rfl)

/-- The context rows' keys, by heads, before they are normalised. -/
theorem k_ctx_u (cw : FVec Ideal S2x5x8192 .f32) (b : Fin 4) (r : Fin 256) (h : Fin 16) (j : Fin 128) :
    val_main_v58 (F := Ideal) x w cw (ix4 b r h j) = actv x w cw b ⟨r, by omega⟩ ⟨2048 + (h * 128 + j), by omega⟩ := by
  pointwise [val_main_v58, val_main_v57, ctx_act]

/-- The context rows' keys. -/
theorem k_ctx (cw : FVec Ideal S2x5x8192 .f32) (b : Fin 4) (r : Fin 256) (h : Fin 16) (j : Fin 128) :
    val_main_v66 (F := Ideal) x w cw (ix4 b r h j)
      = unit (fun k => actv x w cw b ⟨r, by omega⟩ ⟨2048 + (h * 128 + k), by omega⟩) 1 j :=
  (key_ctx (val_main_v58 (F := Ideal) x w cw) b r h j).trans
    (unit_congr (fun k => k_ctx_u x w cw b r h k) rfl rfl)

/-- The latent rows' queries, by heads, before they are normalised. -/
theorem q_lat_u (cw : FVec Ideal S2x5x8192 .f32) (b : Fin 4) (r : Fin 2048) (h : Fin 16) (j : Fin 128) :
    val_main_v109 (F := Ideal) x w cw (ix4 b r h j) = actv x w cw b ⟨256 + r, by omega⟩ ⟨h * 128 + j, by omega⟩ := by
  pointwise [val_main_v109, val_main_v108, lat_act]

/-- The latent rows' queries. -/
theorem q_lat (cw : FVec Ideal S2x5x8192 .f32) (b : Fin 4) (r : Fin 2048) (h : Fin 16) (j : Fin 128) :
    val_main_v119 (F := Ideal) x w cw (ix4 b r h j)
      = unit (fun k => actv x w cw b ⟨256 + r, by omega⟩ ⟨h * 128 + k, by omega⟩) (Ideal.ofBits .f32 0x3DB504F3#32) j :=
  (query_lat (val_main_v109 (F := Ideal) x w cw) b r h j).trans
    (unit_congr (fun k => q_lat_u x w cw b r h k) rfl rfl)

/-- The latent rows' keys, by heads, before they are normalised. -/
theorem k_lat_u (cw : FVec Ideal S2x5x8192 .f32) (b : Fin 4) (r : Fin 2048) (h : Fin 16) (j : Fin 128) :
    val_main_v121 (F := Ideal) x w cw (ix4 b r h j) = actv x w cw b ⟨256 + r, by omega⟩ ⟨2048 + (h * 128 + j), by omega⟩ := by
  pointwise [val_main_v121, val_main_v120, lat_act]

/-- The latent rows' keys. -/
theorem k_lat (cw : FVec Ideal S2x5x8192 .f32) (b : Fin 4) (r : Fin 2048) (h : Fin 16) (j : Fin 128) :
    val_main_v129 (F := Ideal) x w cw (ix4 b r h j)
      = unit (fun k => actv x w cw b ⟨256 + r, by omega⟩ ⟨2048 + (h * 128 + k), by omega⟩) 1 j :=
  (key_lat (val_main_v121 (F := Ideal) x w cw) b r h j).trans
    (unit_congr (fun k => k_lat_u x w cw b r h k) rfl rfl)

/-- The context rows' heads. -/
theorem top_ctx (cw : FVec Ideal S2x5x8192 .f32) (b : Fin 4) (r : Fin 256) (n : Fin 4096) :
    val_main_v69 (F := Ideal) x w cw (ix3 b r n) = closed x w cw b ⟨r, by omega⟩ n := by
  unfold closed
  pointwise [val_main_v69, val_main_v67, val_main_v68, q_ctx, k_ctx]
  by_cases hn : (n : ℕ) < 2048
  · rw [dif_pos hn, if_pos hn]
  · rw [dif_neg hn, if_neg hn]
    exact unit_congr (fun k => congrArg _ (Fin.ext (by show 2048 + (((n : ℕ) - 2048) / 128 * 128 + (k : ℕ)) = n / 128 * 128 + k; omega))) rfl
      (Fin.ext (by show ((n : ℕ) - 2048) % 128 = n % 128; omega))

/-- The latent rows' heads. -/
theorem top_lat (cw : FVec Ideal S2x5x8192 .f32) (b : Fin 4) (r : Fin 2048) (n : Fin 4096) :
    val_main_v132 (F := Ideal) x w cw (ix3 b r n) = closed x w cw b ⟨256 + r, by omega⟩ n := by
  unfold closed
  pointwise [val_main_v132, val_main_v130, val_main_v131, q_lat, k_lat]
  by_cases hn : (n : ℕ) < 2048
  · rw [dif_pos hn, if_pos hn]
  · rw [dif_neg hn, if_neg hn]
    exact unit_congr (fun k => congrArg _ (Fin.ext (by show 2048 + (((n : ℕ) - 2048) / 128 * 128 + (k : ℕ)) = n / 128 * 128 + k; omega))) rfl
      (Fin.ext (by show ((n : ℕ) - 2048) % 128 = n % 128; omega))

/-- The reference's result, read at an index, is the closed form. -/
theorem ref_at (cw : FVec Ideal S2x5x8192 .f32) (b : Fin 4) (r : Fin 2304) (n : Fin 4096) :
    val_main_v134 (F := Ideal) x w cw (ix3 b r n) = closed x w cw b r n := by
  pointwise [val_main_v134, val_main_v133, top_ctx, top_lat]
  by_cases hr : (r : ℕ) < 256
  · rw [dif_pos hr]
  · rw [dif_neg hr]
    exact congrArg (fun r => closed x w cw b r n) (Fin.ext (by show 256 + ((r : ℕ) - 256) = r; omega))

end Reference

end Cert.Kernel4Ideal.DnQK
-- ==== Proof.DnQK.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import proofs.«01_k».proof.Proof.DnQKRef

@[expose] public section

set_option maxRecDepth 16384

noncomputable section

open Idealize.ShloMosaic Idealize.ShloMosaic.TcCoe Idealize.SL.Sem
open Idealize.ShloMosaic.Pipeline (Dat)

/-! # Kernel4: the query and key projections of the recurrent mixer

`l2_norm(silu(conv(x @ w)))` by heads of 128 columns, the queries (columns 0..2047) scaled by `128 ** -0.5`; the
convolution over five rows of the same segment of the token stream (256 context rows, then 2048 latent rows), 0 beyond
the segment's ends. -/

namespace Cert.Kernel4Ideal.DnQK

open Cert.Shift

section Kernel
open Cert.Kernel4Ideal Cert.Kernel4Ideal.Gen

/-- A column of a block's product, by rows. -/
def bcol (x : Vec Ideal S1x2304x2048 .bf16) (w : Vec Ideal S1x2048x256 .f32) (n : Fin 256) (r : Fin 2304) : EReal :=
  ∑ k : Fin 2048, x (ix3 0 r k) * w (ix3 0 k n)

/-- The left half's product, grouped by eight rows. -/
theorem pay6_at (x : Vec Ideal S1x2304x2048 .bf16) (w : Vec Ideal S1x2048x256 .f32) (a : Fin 288) (s : Fin 8) (n : Fin 256) :
    k0_pay6 x w (ix3 a s n) = rows (bcol x w n) (a * 8 + s) := by
  rw [← rows_val (bcol x w n) ⟨a * 8 + s, by omega⟩]
  unfold bcol
  pointwise [k0_pay6, k0_pay4]

/-- The right half's product, grouped by eight rows. -/
theorem pay15_at (x : Vec Ideal S1x2304x2048 .bf16) (w : Vec Ideal S1x2048x256 .f32) (a : Fin 288) (s : Fin 8) (n : Fin 256) :
    k0_pay15 (k0_pay4 x) w (ix3 a s n) = rows (bcol x w n) (a * 8 + s) := by
  rw [← rows_val (bcol x w n) ⟨a * 8 + s, by omega⟩]
  unfold bcol
  pointwise [k0_pay15, k0_pay4]

/-- The left half's activated columns. -/
theorem left_at (x : Vec Ideal S1x2304x2048 .bf16) (w : Vec Ideal S1x2048x256 .f32) (cw : Vec Ideal S1x5x256 .f32)
    (r : Fin 2304) (n : Fin 256) :
    k0_pay9 (k0_pay5 cw) (k0_pay6 x w) (iota .tc S1x8x256 32 [1] iota_S1x8x256_d1_w32) (k0_pay7 (F := Ideal))
      (k0_pay8 x w cw) (ix2 r n)
    = act (rows (bcol x w n)) (cw (ix3 0 0 n)) (cw (ix3 0 1 n)) (cw (ix3 0 2 n)) (cw (ix3 0 3 n)) (cw (ix3 0 4 n)) r := by
  have h8 : (r : ℕ) / 8 * 8 + r % 8 = r := by omega
  unfold act conv
  pointwise [k0_pay9, k0_pay5, k0_pay7, k0_pay8, pay6_at]
  simp only [dite_eq_ite, h8]
  rw [kernel_before _ _ 2 r.isLt (by decide), kernel_before _ _ 1 r.isLt (by decide),
    kernel_after _ _ 7 r.isLt (by decide), kernel_after _ _ 6 r.isLt (by decide)]

/-- The right half's activated columns. -/
theorem right_at (x : Vec Ideal S1x2304x2048 .bf16) (w : Vec Ideal S1x2048x256 .f32) (cw : Vec Ideal S1x5x256 .f32)
    (r : Fin 2304) (n : Fin 256) :
    k0_pay19 (k0_pay14 cw) (k0_pay15 (k0_pay4 x) w) (iota .tc S1x8x256 32 [1] iota_S1x8x256_d1_w32) (k0_pay16 (F := Ideal))
      (k0_pay17 (k0_pay4 x) w cw) (k0_pay18 (k0_pay4 x) w) (ix2 r n)
    = act (rows (bcol x w n)) (cw (ix3 0 0 n)) (cw (ix3 0 1 n)) (cw (ix3 0 2 n)) (cw (ix3 0 3 n)) (cw (ix3 0 4 n)) r := by
  have h8 : (r : ℕ) / 8 * 8 + r % 8 = r := by omega
  unfold act conv
  pointwise [k0_pay19, k0_pay14, k0_pay16, k0_pay17, k0_pay18, pay15_at]
  simp only [dite_eq_ite, h8]
  rw [kernel_before _ _ 2 r.isLt (by decide), kernel_before _ _ 1 r.isLt (by decide),
    kernel_after _ _ 7 r.isLt (by decide), kernel_after _ _ 6 r.isLt (by decide)]

/-- The first head of the left half. -/
theorem head0_at (a : BitVec 32) (v7 : FVec Ideal S5x256 .f32) (v8 : FVec Ideal S288x8x256 .f32) (v9 : IVec S1x8x256 32)
    (v10 : FVec Ideal S1x8x256 .f32) (v42 : FVec Ideal S288x8x256 .f32) (r : Fin 2304) (j : Fin 128) :
    k0_pay12 (k0_pay11 a v7 v8 v9 v10 v42) (ix3 0 r j)
      = unit (fun k => k0_pay9 v7 v8 v9 v10 v42 (ix2 r ⟨k, by omega⟩)) (k0_pay10 (F := Ideal) a) j := by
  unfold unit
  pointwise [k0_pay12, k0_pay11]

/-- The second head of the left half. -/
theorem head1_at (v : FVec Ideal S2304x256 .f32) (s : EReal) (r : Fin 2304) (j : Fin 128) :
    k0_pay13 (F := Ideal) v s (ix3 0 r j) = unit (fun k => v (ix2 r ⟨128 + k, by omega⟩)) s j := by
  unfold unit
  pointwise [k0_pay13]

/-- The first head of the right half. -/
theorem head2_at (v : FVec Ideal S2304x256 .f32) (a : BitVec 32) (r : Fin 2304) (j : Fin 128) :
    k0_pay2 (F := Ideal) v a (ix3 0 r j) = unit (fun k => v (ix2 r ⟨k, by omega⟩)) (k0_pay1 (F := Ideal) a) j := by
  unfold unit
  pointwise [k0_pay2]

/-- The second head of the right half. -/
theorem head3_at (v : FVec Ideal S2304x256 .f32) (a : BitVec 32) (r : Fin 2304) (j : Fin 128) :
    k0_pay3 (F := Ideal) v a (ix3 0 r j) = unit (fun k => v (ix2 r ⟨128 + k, by omega⟩)) (k0_pay1 (F := Ideal) a) j := by
  unfold unit
  pointwise [k0_pay3]

variable (m : (ℓ : Loc nD τ sig) → Buf (Elt Ideal) ℓ)

/-- Where each window's block sits at a grid point. -/
theorem idx : ∀ t : Fin cfg0.N, win0_0.index t = ![t.val / 8, 0, 0] ∧ win0_1.index t = ![0, 0, t.val % 8]
    ∧ win0_2.index t = ![0, 0, t.val % 8] ∧ win0_3.index t = ![t.val / 8, 0, t.val % 8] ∧ t.val < 32 :=
  (by decide +kernel : ∀ t : Fin grid0.N, _)

/-- The weights' block at a grid point, read at an index. -/
theorem w_at (c : Dev nD) (t : Fin cfg0.N) (ht : t.val < 32) (k : Fin 2048) (n : Fin 512) :
    X0_1 m c t (ix3 0 k n) = m ((c : Thread nD τ).loc main_arg1) (ix3 0 k ⟨t.val % 8 * 512 + n, by omega⟩) := by
  unfold X0_1 Pipeline.Window.fill
  rw [dif_pos (moved0_1 t _)]
  blk_point [iblk, V, idx t]

/-- The words the scales of a grid point are chosen by. -/
theorem scale_word : ∀ t : Fin cfg0.N,
    Scalar.cmpi .slt (Scalar.muli (Scalar.addi (Scalar.muli (BitVec.ofNat 32 (grid0.coords t 1).val) 2#32) 0#32) 256#32) 2048#32
      = (if t.val % 8 < 4 then 1#1 else 0#1)
    ∧ Scalar.cmpi .slt (Scalar.muli (Scalar.addi (Scalar.muli (BitVec.ofNat 32 (grid0.coords t 1).val) 2#32) 1#32) 256#32) 2048#32
      = (if t.val % 8 < 4 then 1#1 else 0#1) :=
  (by decide +kernel : ∀ t : Fin grid0.N, _)

/-- The left half's scale at a grid point. -/
theorem scale_left (t : Fin cfg0.N) : k0_pay10 (F := Ideal) (BitVec.ofNat 32 (grid0.coords t 1).val)
    = (if t.val % 8 < 4 then Ideal.ofBits .f32 0x3DB504F3#32 else 1 : EReal) := by
  unfold k0_pay10
  simp only [(scale_word t).1]
  by_cases h : t.val % 8 < 4
  · simp only [if_pos h]
    pointwise
  · simp only [if_neg h]
    pointwise

/-- The right half's scale at a grid point. -/
theorem scale_right (t : Fin cfg0.N) :
    k0_pay1 (F := Ideal) (Scalar.addi (Scalar.muli (BitVec.ofNat 32 (grid0.coords t 1).val) 2#32) 1#32)
    = (if t.val % 8 < 4 then Ideal.ofBits .f32 0x3DB504F3#32 else 1 : EReal) := by
  unfold k0_pay1
  simp only [(scale_word t).2]
  by_cases h : t.val % 8 < 4
  · simp only [if_pos h]
    pointwise
  · simp only [if_neg h]
    pointwise

/-- What the body stores at a block index of a grid point is the reference's result where that index sits. -/
theorem point (c : Dev nD) (t : Fin cfg0.N) (y) : outsAt0 m c t y
    = Cert.Reference4Ideal.Read.val_main_v134 (F := Ideal) (m ((c : Thread nD τ).loc main_arg0)) (m ((c : Thread nD τ).loc main_arg1)) (m ((c : Thread nD τ).loc main_arg2)) (((cfg0.win 3).blk t).view.emb y) := by
  unfold outsAt0
  frame_out
  have ht : t.val < 32 := (idx t).2.2.2.2
  idx_vars y
  have e : ((cfg0.win 3).blk t).view.emb (ix3 y0 y1 y2)
      = (ix3 ⟨t.val / 8, by omega⟩ y1 ⟨t.val % 8 * 512 + y2, by omega⟩ : S4x2304x4096.Idx) := by
    blk_ext [idx t]
  refine Eq.trans ?_ ((congrArg _ e).trans (ref_at _ _ _ _ _ _)).symm
  canon_tiles x h
  case piece0 =>
    idx_vars x
    obtain rfl : x0 = 0 := Fin.fin_one_eq_zero x0
    rw [head3_at]
    unfold closed actv
    refine unit_congr (fun k => ?_) ?_ (Fin.ext (by show (x2 : ℕ) = (t.val % 8 * 512 + y2) % 128; omega))
    · rw [right_at]
      refine act_congr (fun r => ?_) ?_ ?_ ?_ ?_ ?_ h1.symm
      · unfold bcol col
        pointwise [w_at m c t ht]
        blk_point [iblk, V, idx t]
      all_goals blk_point [iblk, V, idx t]
    · rw [scale_right]
      exact if_congr (by show t.val % 8 < 4 ↔ t.val % 8 * 512 + (y2 : ℕ) < 2048; omega) rfl rfl
  case piece1 =>
    idx_vars x
    obtain rfl : x0 = 0 := Fin.fin_one_eq_zero x0
    rw [head2_at]
    unfold closed actv
    refine unit_congr (fun k => ?_) ?_ (Fin.ext (by show (x2 : ℕ) = (t.val % 8 * 512 + y2) % 128; omega))
    · rw [right_at]
      refine act_congr (fun r => ?_) ?_ ?_ ?_ ?_ ?_ h1.symm
      · unfold bcol col
        pointwise [w_at m c t ht]
        blk_point [iblk, V, idx t]
      all_goals blk_point [iblk, V, idx t]
    · rw [scale_right]
      exact if_congr (by show t.val % 8 < 4 ↔ t.val % 8 * 512 + (y2 : ℕ) < 2048; omega) rfl rfl
  case piece2 =>
    idx_vars x
    obtain rfl : x0 = 0 := Fin.fin_one_eq_zero x0
    rw [head1_at]
    unfold closed actv
    refine unit_congr (fun k => ?_) ?_ (Fin.ext (by show (x2 : ℕ) = (t.val % 8 * 512 + y2) % 128; omega))
    · rw [left_at]
      refine act_congr (fun r => ?_) ?_ ?_ ?_ ?_ ?_ h1.symm
      · unfold bcol col
        pointwise [w_at m c t ht]
        blk_point [iblk, V, idx t]
      all_goals blk_point [iblk, V, idx t]
    · rw [scale_left]
      exact if_congr (by show t.val % 8 < 4 ↔ t.val % 8 * 512 + (y2 : ℕ) < 2048; omega) rfl rfl
  case piece3 =>
    idx_vars x
    obtain rfl : x0 = 0 := Fin.fin_one_eq_zero x0
    rw [head0_at]
    unfold closed actv
    refine unit_congr (fun k => ?_) ?_ (Fin.ext (by show (x2 : ℕ) = (t.val % 8 * 512 + y2) % 128; omega))
    · rw [left_at]
      refine act_congr (fun r => ?_) ?_ ?_ ?_ ?_ ?_ h1.symm
      · unfold bcol col
        pointwise [w_at m c t ht]
        blk_point [iblk, V, idx t]
      all_goals blk_point [iblk, V, idx t]
    · rw [scale_left]
      exact if_congr (by show t.val % 8 < 4 ↔ t.val % 8 * 512 + (y2 : ℕ) < 2048; omega) rfl rfl

/-- The kernel's result array is the reference's term of the arguments. -/
theorem final (c : Dev nD) : (dats m 0 c).arrAt 3 (cfgs 0).N
    = Cert.Reference4Ideal.Read.val_main_v134 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Kernel

end Cert.Kernel4Ideal.DnQK

end
-- ==== Proof.Claim4.lean ====
module

public import proofs.«01_k».proof.Defs
public import proofs.«01_k».proof.Proof.Gen.Kernel4.Frame
public import proofs.«01_k».proof.Proof.Gen.Reference4Ideal.Run
public import proofs.«01_k».proof.Proof.DnQK
public import Idealize.ShloMosaic.Lib.Claim

@[expose] public section

set_option maxRecDepth 16384
set_option maxHeartbeats 1600000

noncomputable section

open Idealize.ShloMosaic Idealize.ShloMosaic.TcCoe Idealize.SL.Sem

/-! # The claims of Kernel4 -/

namespace Cert.Proof.Kernel4

/-- The kernel runs, and leaves its arguments and the semaphores as they were. -/
theorem frame_kernel : Cert.quiescent_Kernel4 := fun m ρ _ => Cert.Kernel4.Gen.frame m ρ

/-- The idealised kernel runs, and leaves its arguments and the semaphores as they were. -/
theorem frame_ideal : Cert.quiescent_Kernel4Ideal := fun m ρ _ => Cert.Kernel4Ideal.Gen.frame m ρ

/-- The reference runs, and leaves its arguments and the semaphores as they were. -/
theorem frame_reference : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

/-- The idealised kernel's result is the reference's. -/
theorem algebraic : Cert.algebraic_Kernel4Ideal_Reference4Ideal := by
  pair_intro
  · run_from Cert.Kernel4Ideal.Gen.run_main m g
  · run_from Cert.Reference4Ideal.Value.run m' g'
    refine Eq.trans ?_ (Cert.Kernel4Ideal.DnQK.final m c).symm
    obtain ⟨h0, h1, h2⟩ := hagree c
    rw [← h0, ← h1, ← h2]
    exact Cert.Reference4Ideal.Read.val_main_v134_eq (F := Ideal) (StableHlo.launchContents m' c)

end Cert.Proof.Kernel4

end
-- ==== Proof.DnV.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import proofs.«01_k».proof.Proof.Taps

@[expose] public section

set_option maxRecDepth 16384

noncomputable section

open Idealize.ShloMosaic Idealize.ShloMosaic.TcCoe Idealize.SL.Sem
open Idealize.ShloMosaic.Pipeline (Dat)

/-! # Kernel5: the value projection of the recurrent mixer

`silu(conv(x @ w))`, with `w` the columns 4096..8191 of the weights and the convolution over five rows of the same
segment of the token stream (256 context rows, then 2048 latent rows), 0 beyond the segment's ends. -/

namespace Cert.Kernel5Ideal.DnV

open Cert.Shift

/-- A column of the product of a sample with the weights, by rows. -/
def col (x : FVec Ideal Cert.Reference5Ideal.S4x2304x2048 .bf16) (w : FVec Ideal Cert.Reference5Ideal.S2x2048x12416 .f32) (b : Fin 4) (n : Fin 12416)
    (r : Fin 2304) : EReal := ∑ k : Fin 2048, x (ix3 b r k) * w (ix3 0 k n)

/-- The closed form. -/
def closed (x : FVec Ideal Cert.Reference5Ideal.S4x2304x2048 .bf16) (w : FVec Ideal Cert.Reference5Ideal.S2x2048x12416 .f32)
    (cw : FVec Ideal Cert.Reference5Ideal.S2x5x8192 .f32) (b : Fin 4) (r : Fin 2304) (n : Fin 4096) : EReal :=
  act (rows (col x w b ⟨4096 + n, by omega⟩)) (cw (ix3 0 0 ⟨4096 + n, by omega⟩)) (cw (ix3 0 1 ⟨4096 + n, by omega⟩))
    (cw (ix3 0 2 ⟨4096 + n, by omega⟩)) (cw (ix3 0 3 ⟨4096 + n, by omega⟩)) (cw (ix3 0 4 ⟨4096 + n, by omega⟩)) r

section Reference
open Cert.Reference5Ideal Cert.Reference5Ideal.Gen Cert.Reference5Ideal.Read

variable (x : FVec Ideal S4x2304x2048 .bf16) (w : FVec Ideal S2x2048x12416 .f32)

/-- The context rows' product. -/
theorem ctx_at (b : Fin 4) (r : Fin 256) (n : Fin 4096) :
    val_main_v8 (F := Ideal) x w (ix3 b r n) = rows (col x w b ⟨4096 + n, by omega⟩) r := by
  rw [← rows_val (col x w b ⟨4096 + n, by omega⟩) ⟨r, by omega⟩]
  unfold col
  pointwise [val_main_v8, val_main_v3, val_main_v2, val_main_v1, val_main_v7, val_main_v0]

/-- The latent rows' product. -/
theorem lat_at (b : Fin 4) (r : Fin 2048) (n : Fin 4096) :
    val_main_v46 (F := Ideal) x w (ix3 b r n) = rows (col x w b ⟨4096 + n, by omega⟩) (256 + r) := by
  rw [← rows_val (col x w b ⟨4096 + n, by omega⟩) ⟨256 + r, by omega⟩]
  unfold col
  pointwise [val_main_v46, val_main_v3, val_main_v2, val_main_v1, val_main_v45, val_main_v0]

/-- The reference's result, read at an index, is the closed form. -/
theorem ref_at (cw : FVec Ideal S2x5x8192 .f32) (b : Fin 4) (r : Fin 2304) (n : Fin 4096) :
    val_main_v84 (F := Ideal) x w cw (ix3 b r n) = closed x w cw b r n := by
  unfold closed
  pointwise [val_main_v0, val_main_v1, val_main_v2, val_main_v3, val_main_v4, val_main_v5, val_main_v6, val_main_v7, val_main_c, val_main_call0_v0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call1_v0, val_main_call1_v1, val_main_call1_cst, val_main_call1_v2, val_main_call1_v3, val_main_call1_cst_0, val_main_call1_v4, val_main_call1_v5, val_main_v44, val_main_v45, val_main_c_0, val_main_call2_v0, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_call3_v0, val_main_call3_v1, val_main_call3_cst, val_main_call3_v2, val_main_call3_v3, val_main_call3_cst_0, val_main_call3_v4, val_main_call3_v5, val_main_v82, val_main_v83, val_main_v84, ctx_at, lat_at]
  by_cases hr : (r : ℕ) < 256
  · simp only [dif_pos hr, if_pos hr, dite_eq_ite, sitofp_zero]
    rw [ctx_before _ _ 2 hr, ctx_before' _ _ 2 1 hr (by decide), ctx_after _ _ 2 3 hr (by decide),
      ctx_after _ _ 2 4 hr (by decide), conv_eq]
    rfl
  · simp only [dif_neg hr, if_neg hr, dite_eq_ite, sitofp_zero]
    rw [lat_before _ _ 2 (by omega) r.isLt, lat_before' _ _ 2 1 (by omega) r.isLt (by decide), lat_here _ _ (by omega) r.isLt,
      lat_after _ _ 2 3 (by omega) r.isLt (by decide), lat_after _ _ 2 4 (by omega) r.isLt (by decide), conv_eq]
    rfl

end Reference

section Kernel
open Cert.Kernel5Ideal Cert.Kernel5Ideal.Gen

/-- A column of a block's product, by rows. -/
def bcol (x : Vec Ideal S1x2304x2048 .bf16) (w : Vec Ideal S1x2048x256 .f32) (n : Fin 256) (r : Fin 2304) : EReal :=
  ∑ k : Fin 2048, x (ix3 0 r k) * w (ix3 0 k n)

/-- The left half's product, grouped by eight rows. -/
theorem pay4_at (x : Vec Ideal S1x2304x2048 .bf16) (w : Vec Ideal S1x2048x256 .f32) (a : Fin 288) (s : Fin 8) (n : Fin 256) :
    k0_pay4 x w (ix3 a s n) = rows (bcol x w n) (a * 8 + s) := by
  rw [← rows_val (bcol x w n) ⟨a * 8 + s, by omega⟩]
  unfold bcol
  pointwise [k0_pay4, k0_pay2]

/-- The right half's product, grouped by eight rows. -/
theorem pay9_at (x : Vec Ideal S1x2304x2048 .bf16) (w : Vec Ideal S1x2048x256 .f32) (a : Fin 288) (s : Fin 8) (n : Fin 256) :
    k0_pay9 (k0_pay2 x) w (ix3 a s n) = rows (bcol x w n) (a * 8 + s) := by
  rw [← rows_val (bcol x w n) ⟨a * 8 + s, by omega⟩]
  unfold bcol
  pointwise [k0_pay9, k0_pay2]

/-- The left half's store, read at an index. -/
theorem left_at (x : Vec Ideal S1x2304x2048 .bf16) (w : Vec Ideal S1x2048x256 .f32) (cw : Vec Ideal S1x5x256 .f32)
    (r : Fin 2304) (n : Fin 256) :
    k0_pay7 (k0_pay3 cw) (k0_pay4 x w) (iota .tc S1x8x256 32 [1] iota_S1x8x256_d1_w32) (k0_pay5 (F := Ideal))
      (k0_pay6 x w cw) (ix3 0 r n)
    = act (rows (bcol x w n)) (cw (ix3 0 0 n)) (cw (ix3 0 1 n)) (cw (ix3 0 2 n)) (cw (ix3 0 3 n)) (cw (ix3 0 4 n)) r := by
  have h8 : (r : ℕ) / 8 * 8 + r % 8 = r := by omega
  unfold act conv
  pointwise [k0_pay7, k0_pay3, k0_pay5, k0_pay6, pay4_at]
  simp only [dite_eq_ite, h8]
  rw [kernel_before _ _ 2 r.isLt (by decide), kernel_before _ _ 1 r.isLt (by decide),
    kernel_after _ _ 7 r.isLt (by decide), kernel_after _ _ 6 r.isLt (by decide)]

/-- The right half's store, read at an index. -/
theorem right_at (x : Vec Ideal S1x2304x2048 .bf16) (w : Vec Ideal S1x2048x256 .f32) (cw : Vec Ideal S1x5x256 .f32)
    (r : Fin 2304) (n : Fin 256) :
    k0_pay1 (k0_pay8 cw)
      (k0_pay11 (k0_pay8 cw) (k0_pay9 (k0_pay2 x) w) (iota .tc S1x8x256 32 [1] iota_S1x8x256_d1_w32) (k0_pay10 (F := Ideal)))
      (k0_pay12 (k0_pay9 (k0_pay2 x) w)) (k0_pay13 (k0_pay9 (k0_pay2 x) w) (k0_pay10 (F := Ideal)))
      (k0_pay14 (iota .tc S1x8x256 32 [1] iota_S1x8x256_d1_w32)) (ix3 0 r n)
    = act (rows (bcol x w n)) (cw (ix3 0 0 n)) (cw (ix3 0 1 n)) (cw (ix3 0 2 n)) (cw (ix3 0 3 n)) (cw (ix3 0 4 n)) r := by
  have h8 : (r : ℕ) / 8 * 8 + r % 8 = r := by omega
  unfold act conv
  pointwise [k0_pay1, k0_pay8, k0_pay10, k0_pay11, k0_pay12, k0_pay13, k0_pay14, pay9_at]
  simp only [dite_eq_ite, h8]
  rw [kernel_before _ _ 2 r.isLt (by decide), kernel_before _ _ 1 r.isLt (by decide),
    kernel_after _ _ 7 r.isLt (by decide), kernel_after _ _ 6 r.isLt (by decide)]

variable (m : (ℓ : Loc nD τ sig) → Buf (Elt Ideal) ℓ)

/-- Where each window's block sits at a grid point. -/
theorem idx : ∀ t : Fin cfg0.N, win0_0.index t = ![t.val / 8, 0, 0] ∧ win0_1.index t = ![0, 0, 8 + t.val % 8]
    ∧ win0_2.index t = ![0, 0, 8 + t.val % 8] ∧ win0_3.index t = ![t.val / 8, 0, t.val % 8] ∧ t.val < 32 :=
  (by decide +kernel : ∀ t : Fin grid0.N, _)

/-- The weights' block at a grid point, read at an index. -/
theorem w_at (c : Dev nD) (t : Fin cfg0.N) (ht : t.val < 32) (k : Fin 2048) (n : Fin 512) :
    X0_1 m c t (ix3 0 k n) = m ((c : Thread nD τ).loc main_arg1) (ix3 0 k ⟨(8 + t.val % 8) * 512 + n, by omega⟩) := by
  unfold X0_1 Pipeline.Window.fill
  rw [dif_pos (moved0_1 t _)]
  blk_point [iblk, V, idx t]

/-- What the body stores at a block index of a grid point is the reference's result where that index sits. -/
theorem point (c : Dev nD) (t : Fin cfg0.N) (y) : outsAt0 m c t y
    = Cert.Reference5Ideal.Read.val_main_v84 (F := Ideal) (m ((c : Thread nD τ).loc main_arg0)) (m ((c : Thread nD τ).loc main_arg1)) (m ((c : Thread nD τ).loc main_arg2)) (((cfg0.win 3).blk t).view.emb y) := by
  unfold outsAt0
  frame_out
  have ht : t.val < 32 := (idx t).2.2.2.2
  idx_vars y
  have e : ((cfg0.win 3).blk t).view.emb (ix3 y0 y1 y2)
      = (ix3 ⟨t.val / 8, by omega⟩ y1 ⟨t.val % 8 * 512 + y2, by omega⟩ : S4x2304x4096.Idx) := by
    blk_ext [idx t]
  refine Eq.trans ?_ ((congrArg _ e).trans (ref_at _ _ _ _ _ _)).symm
  canon_tiles x h
  case piece0 =>
    idx_vars x
    obtain rfl : x0 = 0 := Fin.fin_one_eq_zero x0
    rw [right_at]
    unfold closed
    refine act_congr (fun r => ?_) ?_ ?_ ?_ ?_ ?_ h1.symm
    · unfold bcol col
      pointwise [w_at m c t ht]
      blk_point [iblk, V, idx t]
    all_goals blk_point [iblk, V, idx t]
  case piece1 =>
    idx_vars x
    obtain rfl : x0 = 0 := Fin.fin_one_eq_zero x0
    rw [left_at]
    unfold closed
    refine act_congr (fun r => ?_) ?_ ?_ ?_ ?_ ?_ h1.symm
    · unfold bcol col
      pointwise [w_at m c t ht]
      blk_point [iblk, V, idx t]
    all_goals blk_point [iblk, V, idx t]

/-- The kernel's result array is the reference's term of the arguments. -/
theorem final (c : Dev nD) : (dats m 0 c).arrAt 3 (cfgs 0).N
    = Cert.Reference5Ideal.Read.val_main_v84 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Kernel

end Cert.Kernel5Ideal.DnV

end
-- ==== Proof.Claim5.lean ====
module

public import proofs.«01_k».proof.Defs
public import proofs.«01_k».proof.Proof.Gen.Kernel5.Frame
public import proofs.«01_k».proof.Proof.Gen.Reference5Ideal.Run
public import proofs.«01_k».proof.Proof.DnV
public import Idealize.ShloMosaic.Lib.Claim

@[expose] public section

set_option maxRecDepth 16384
set_option maxHeartbeats 1600000

noncomputable section

open Idealize.ShloMosaic Idealize.ShloMosaic.TcCoe Idealize.SL.Sem

/-! # The claims of Kernel5 -/

namespace Cert.Proof.Kernel5

/-- The kernel runs, and leaves its arguments and the semaphores as they were. -/
theorem frame_kernel : Cert.quiescent_Kernel5 := fun m ρ _ => Cert.Kernel5.Gen.frame m ρ

/-- The idealised kernel runs, and leaves its arguments and the semaphores as they were. -/
theorem frame_ideal : Cert.quiescent_Kernel5Ideal := fun m ρ _ => Cert.Kernel5Ideal.Gen.frame m ρ

/-- The reference runs, and leaves its arguments and the semaphores as they were. -/
theorem frame_reference : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- The idealised kernel's result is the reference's. -/
theorem algebraic : Cert.algebraic_Kernel5Ideal_Reference5Ideal := by
  pair_intro
  · run_from Cert.Kernel5Ideal.Gen.run_main m g
  · run_from Cert.Reference5Ideal.Value.run m' g'
    refine Eq.trans ?_ (Cert.Kernel5Ideal.DnV.final m c).symm
    obtain ⟨h0, h1, h2⟩ := hagree c
    rw [← h0, ← h1, ← h2]
    exact Cert.Reference5Ideal.Read.val_main_v84_eq (F := Ideal) m' c

end Cert.Proof.Kernel5

end
-- ==== Proof.Plain6.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel6: the gate projection of the recurrent mixer

`x @ w`, with `w` the columns 8192..12287 of the weights. -/

namespace Cert.Kernel6Ideal.Plain

/-- The closed form. -/
def closed (x : FVec Ideal Cert.Reference6Ideal.S4x2304x2048 .bf16) (w : FVec Ideal Cert.Reference6Ideal.S2x2048x12416 .f32)
    (b : Fin 4) (r : Fin 2304) (n : Fin 4096) : EReal :=
  ∑ k : Fin 2048, x (ix3 b r k) * w (ix3 0 k ⟨8192 + n, by omega⟩)

section Reference
open Cert.Reference6Ideal Cert.Reference6Ideal.Gen Cert.Reference6Ideal.Read

/-- The reference's result, read at an index, is the closed form. -/
theorem ref_at (x : FVec Ideal S4x2304x2048 .bf16) (w : FVec Ideal S2x2048x12416 .f32)
    (b : Fin 4) (r : Fin 2304) (n : Fin 4096) :
    val_main_v5 (F := Ideal) x w (ix3 b r n) = closed x w b r n := by
  unfold closed
  pointwise [val_main_v0, val_main_v1, val_main_v2, val_main_v3, val_main_v4, val_main_v5]

end Reference

section Kernel
open Cert.Kernel6Ideal Cert.Kernel6Ideal.Gen

variable (m : (ℓ : Loc nD τ sig) → Buf (Elt Ideal) ℓ)

/-- Where each window's block sits at a grid point. -/
theorem idx : ∀ t : Fin cfg0.N, win0_0.index t = ![t.val / 16, 0, 0] ∧ win0_1.index t = ![0, 0, 32 + t.val % 16]
    ∧ win0_2.index t = ![t.val / 16, 0, t.val % 16] ∧ t.val < 64 :=
  (by decide +kernel : ∀ t : Fin grid0.N, _)

/-- The weights' block at a grid point, read at an index. -/
theorem w_at (c : Dev nD) (t : Fin cfg0.N) (ht : t.val < 64) (k : Fin 2048) (n : Fin 256) :
    X0_1 m c t (ix3 0 k n) = m ((c : Thread nD τ).loc main_arg1) (ix3 0 k ⟨(32 + t.val % 16) * 256 + n, by omega⟩) := by
  unfold X0_1 Pipeline.Window.fill
  rw [dif_pos (moved0_1 t _)]
  blk_point [iblk, V, idx t]

/-- What the body stores at a block index of a grid point is the reference's result where that index sits. -/
theorem point (c : Dev nD) (t : Fin cfg0.N) (y) : outsAt0 m c t y
    = Cert.Reference6Ideal.Read.val_main_v5 (F := Ideal) (m ((c : Thread nD τ).loc main_arg0)) (m ((c : Thread nD τ).loc main_arg1)) (((cfg0.win 2).blk t).view.emb y) := by
  unfold outsAt0
  frame_out
  have ht : t.val < 64 := (idx t).2.2.2
  idx_vars y
  have e : ((cfg0.win 2).blk t).view.emb (ix3 y0 y1 y2)
      = (ix3 ⟨t.val / 16, by omega⟩ y1 ⟨t.val % 16 * 256 + y2, by omega⟩ : S4x2304x4096.Idx) := by
    blk_ext [idx t]
  refine Eq.trans ?_ ((congrArg _ e).trans (ref_at _ _ _ _ _)).symm
  unfold closed
  pointwise [k0_pay1, w_at m c t ht]
  blk_point [iblk, V, idx t]

/-- The kernel's result array is the reference's term of the arguments. -/
theorem final (c : Dev nD) : (dats m 0 c).arrAt 2 (cfgs 0).N
    = Cert.Reference6Ideal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Kernel

end Cert.Kernel6Ideal.Plain

end
-- ==== Proof.Claim6.lean ====
module

public import proofs.«01_k».proof.Defs
public import proofs.«01_k».proof.Proof.Gen.Kernel6.Frame
public import proofs.«01_k».proof.Proof.Gen.Reference6Ideal.Run
public import proofs.«01_k».proof.Proof.Plain6
public import Idealize.ShloMosaic.Lib.Claim

@[expose] public section

set_option maxRecDepth 16384
set_option maxHeartbeats 1600000

noncomputable section

open Idealize.ShloMosaic Idealize.ShloMosaic.TcCoe Idealize.SL.Sem

/-! # The claims of Kernel6 -/

namespace Cert.Proof.Kernel6

/-- The kernel runs, and leaves its arguments and the semaphores as they were. -/
theorem frame_kernel : Cert.quiescent_Kernel6 := fun m ρ _ => Cert.Kernel6.Gen.frame m ρ

/-- The idealised kernel runs, and leaves its arguments and the semaphores as they were. -/
theorem frame_ideal : Cert.quiescent_Kernel6Ideal := fun m ρ _ => Cert.Kernel6Ideal.Gen.frame m ρ

/-- The reference runs, and leaves its arguments and the semaphores as they were. -/
theorem frame_reference : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

/-- The idealised kernel's result is the reference's. -/
theorem algebraic : Cert.algebraic_Kernel6Ideal_Reference6Ideal := by
  pair_intro
  · run_from Cert.Kernel6Ideal.Gen.run_main m g
  · run_from Cert.Reference6Ideal.Value.run m' g'
    refine Eq.trans ?_ (Cert.Kernel6Ideal.Plain.final m c).symm
    obtain ⟨h0, h1⟩ := hagree c
    rw [← h0, ← h1]
    exact Cert.Reference6Ideal.Read.val_main_v5_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))

end Cert.Proof.Kernel6

end
-- ==== Proof.Down7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel7: a product with a gated residual, against the reference's two products

`out = h + gate * (x @ w)`, the gate's row chosen by the token: row 4 of `gate` for the 256 context tokens of
each sample, the sample's own row for its 2048 latent tokens. -/

namespace Cert.Kernel7Ideal.Down

/-- The closed form: the residual, plus the gate of the row times the row's product with the weights. -/
def closed (x : FVec Ideal Cert.Reference7Ideal.S4x2304x4096 .bf16) (w : FVec Ideal Cert.Reference7Ideal.S2x4096x2048 .f32)
    (h : FVec Ideal Cert.Reference7Ideal.S4x2304x2048 .f32) (g : FVec Ideal Cert.Reference7Ideal.S8x2048 .f32)
    (r : Fin 9216) (c : Fin 2048) : EReal :=
  h (ix3 ⟨r / 2304, by omega⟩ ⟨r % 2304, by omega⟩ c)
    + (if (r : ℕ) % 2304 < 256 then g (ix2 4 c) else g (ix2 ⟨r / 2304, by omega⟩ c))
      * ∑ k : Fin 4096, x (ix3 ⟨r / 2304, by omega⟩ ⟨r % 2304, by omega⟩ k) * w (ix3 0 k c)

section Reference
open Cert.Reference7Ideal Cert.Reference7Ideal.Gen Cert.Reference7Ideal.Read

/-- The reference's result, read at an index, is the closed form. -/
theorem ref_at (x : FVec Ideal S4x2304x4096 .bf16) (w : FVec Ideal S2x4096x2048 .f32) (h : FVec Ideal S4x2304x2048 .f32)
    (g : FVec Ideal S8x2048 .f32) (r : Fin 9216) (c : Fin 2048) :
    val_main_v21 (F := Ideal) x w h g (ix2 r c) = closed x w h g r c := by
  unfold closed
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21]
  by_cases hr : (r : ℕ) % 2304 < 256
  · simp only [dif_pos hr, if_pos hr]
  · have e : 256 + ((r : ℕ) % 2304 - 256) = (r : ℕ) % 2304 := by omega
    simp only [dif_neg hr, if_neg hr, e]

end Reference

section Kernel
open Cert.Kernel7Ideal Cert.Kernel7Ideal.Gen

variable (m : (ℓ : Loc nD τ sig) → Buf (Elt Ideal) ℓ)

/-- Where each window's block sits at a grid point, and the row of the gate that the point loads. -/
theorem idx : ∀ t : Fin cfg0.N, win0_0.index t = ![t.val / 8, 0] ∧ win0_1.index t = ![0, 0, t.val % 8]
    ∧ win0_2.index t = ![t.val / 8, t.val % 8] ∧ win0_3.index t = ![0, t.val % 8]
    ∧ win0_4.index t = ![t.val / 8, t.val % 8] ∧ k0_off1 (grid0.coords t) = ![t.val / 16, 0] ∧ t.val < 64 :=
  (by decide +kernel : ∀ t : Fin grid0.N, _)

/-- The row, within its sample, of each row of the block at a grid point. -/
theorem row_at (t : Fin cfg0.N) (r : Fin 1152) :
    k0_pay3 (grid0.coords t) (ix2 r 0) = BitVec.ofNat 32 (r + t.val / 8 % 2 * 1152) := by
  have h0 : ∀ t : Fin cfg0.N, k0_pay3 (grid0.coords t) (ix2 0 0) = BitVec.ofNat 32 (t.val / 8 % 2 * 1152) :=
    (by decide +kernel : ∀ t : Fin grid0.N, _)
  have h1 : k0_pay3 (grid0.coords t) (ix2 r 0)
      = BitVec.ofNat 32 r + k0_pay3 (grid0.coords t) (ix2 0 0) := by
    pointwise [k0_pay3]
    simp [IntOp.addi]
  rw [h1, h0, ← BitVec.ofNat_add]

/-- The comparison of a row with 256, as words, is the comparison of the numbers. -/
theorem select_row (n : ℕ) (hn : n < 2304) (a b : EReal) :
    Scalar.select (IntOp.cmpi .slt (BitVec.ofNat 32 n) 256#32) a b = if n < 256 then a else b := by
  unfold Scalar.select
  exact if_congr (WordCmp.cmpi_slt_ofNat_eq_one_iff (by omega) (by decide)) rfl rfl

/-- What the body stores at a block index of a grid point is the closed form where that index sits. -/
theorem point (c : Dev nD) (t : Fin cfg0.N) (y) : outsAt0 m c t y
    = Cert.Reference7Ideal.Read.val_main_v21 (F := Ideal) (m ((c : Thread nD τ).loc main_arg0)) (m ((c : Thread nD τ).loc main_arg1))
      (m ((c : Thread nD τ).loc main_arg2)) (m ((c : Thread nD τ).loc main_arg3)) (((cfg0.win 4).blk t).view.emb y) := by
  unfold outsAt0
  frame_out
  have ht : t.val < 64 := (idx t).2.2.2.2.2.2
  idx_vars y
  have e : ((cfg0.win 4).blk t).view.emb (ix2 y0 y1)
      = (ix2 ⟨t.val / 8 * 1152 + y0, by omega⟩ ⟨t.val % 8 * 256 + y1, by omega⟩ : S9216x2048.Idx) := by
    blk_ext [idx t]
  refine Eq.trans ?_ ((congrArg _ e).trans (ref_at _ _ _ _ _ _)).symm
  unfold closed
  pointwise [k0_pay1, k0_pay2, row_at, (idx t).2.2.2.2.2.1]
  have hr : (t.val / 8 * 1152 + y0.val) % 2304 = y0.val + t.val / 8 % 2 * 1152 := by omega
  have hq : (t.val / 8 * 1152 + y0.val) / 2304 = t.val / 16 := by omega
  rw [select_row _ (by omega)]
  simp only [hr, hq]
  blk_point [iblk, V, idx t]

/-- The kernel's result array is the reference's term of the arguments. -/
theorem final (c : Dev nD) : (dats m 0 c).arrAt 4 (cfgs 0).N
    = Cert.Reference7Ideal.Read.val_main_v21 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Kernel

end Cert.Kernel7Ideal.Down

end
-- ==== Proof.Claim7.lean ====
module

public import proofs.«01_k».proof.Defs
public import proofs.«01_k».proof.Proof.Gen.Kernel7.Frame
public import proofs.«01_k».proof.Proof.Gen.Reference7Ideal.Run
public import proofs.«01_k».proof.Proof.Down7
public import Idealize.ShloMosaic.Lib.Claim

@[expose] public section

set_option maxRecDepth 16384
set_option maxHeartbeats 1600000

noncomputable section

open Idealize.ShloMosaic Idealize.ShloMosaic.TcCoe Idealize.SL.Sem

/-! # The claims of Kernel7 -/

namespace Cert.Proof.Kernel7

/-- The kernel runs, and leaves its arguments and the semaphores as they were. -/
theorem frame_kernel : Cert.quiescent_Kernel7 := fun m ρ _ => Cert.Kernel7.Gen.frame m ρ

/-- The idealised kernel runs, and leaves its arguments and the semaphores as they were. -/
theorem frame_ideal : Cert.quiescent_Kernel7Ideal := fun m ρ _ => Cert.Kernel7Ideal.Gen.frame m ρ

/-- The reference runs, and leaves its arguments and the semaphores as they were. -/
theorem frame_reference : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

/-- The idealised kernel's result is the reference's. -/
theorem algebraic : Cert.algebraic_Kernel7Ideal_Reference7Ideal := by
  pair_intro
  · run_from Cert.Kernel7Ideal.Gen.run_main m g
  · run_from Cert.Reference7Ideal.Value.run m' g'
    refine Eq.trans ?_ (Cert.Kernel7Ideal.Down.final m c).symm
    obtain ⟨h0, h1, h2, h3⟩ := hagree c
    rw [← h0, ← h1, ← h2, ← h3]
    exact Cert.Reference7Ideal.Read.val_main_v21_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))

end Cert.Proof.Kernel7

end
-- ==== Proof.Out8.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel8: the even mixer's output projection with a gated residual

`out = h + gate * (x @ w[:1024] + y @ w[1024:])` against `h + gate * (concatenate([x, y]) @ w)`, the gate's row chosen
by the token: row 4 of `gate` for the 256 context tokens of each sample, the sample's own row for its latent tokens. -/

namespace Cert.Kernel8Ideal.Out

/-- The closed form: the residual, plus the gate of the row times the sum of the row's two products. -/
def closed (x y : FVec Ideal Cert.Reference8Ideal.S4x2304x1024 .bf16) (w : FVec Ideal Cert.Reference8Ideal.S2x2048x2048 .f32)
    (h : FVec Ideal Cert.Reference8Ideal.S4x2304x2048 .f32) (g : FVec Ideal Cert.Reference8Ideal.S8x2048 .f32)
    (r : Fin 9216) (c : Fin 2048) : EReal :=
  h (ix3 ⟨r / 2304, by omega⟩ ⟨r % 2304, by omega⟩ c)
    + (if (r : ℕ) % 2304 < 256 then g (ix2 4 c) else g (ix2 ⟨r / 2304, by omega⟩ c))
      * (∑ k : Fin 1024, x (ix3 ⟨r / 2304, by omega⟩ ⟨r % 2304, by omega⟩ k) * w (ix3 0 ⟨k, by omega⟩ c)
        + ∑ k : Fin 1024, y (ix3 ⟨r / 2304, by omega⟩ ⟨r % 2304, by omega⟩ k) * w (ix3 0 ⟨1024 + k, by omega⟩ c))

section Reference
open Cert.Reference8Ideal Cert.Reference8Ideal.Gen Cert.Reference8Ideal.Read

/-- The reference's result, read at an index, is the closed form. -/
theorem ref_at (x y : FVec Ideal S4x2304x1024 .bf16) (w : FVec Ideal S2x2048x2048 .f32) (h : FVec Ideal S4x2304x2048 .f32)
    (g : FVec Ideal S8x2048 .f32) (r : Fin 9216) (c : Fin 2048) :
    val_main_v23 (F := Ideal) x y w h g (ix2 r c) = closed x y w h g r c := by
  unfold closed
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23]
  by_cases hr : (r : ℕ) % 2304 < 256
  · simp only [dif_pos hr, if_pos hr]
  · have e : 256 + ((r : ℕ) % 2304 - 256) = (r : ℕ) % 2304 := by omega
    simp only [dif_neg hr, if_neg hr, e]

end Reference

section Kernel
open Cert.Kernel8Ideal Cert.Kernel8Ideal.Gen

variable (m : (ℓ : Loc nD τ sig) → Buf (Elt Ideal) ℓ)

/-- Where each window's block sits at a grid point, and the row of the gate that the point loads. -/
theorem idx : ∀ t : Fin cfg0.N, win0_0.index t = ![t.val / 8, 0] ∧ win0_1.index t = ![t.val / 8, 0]
    ∧ win0_2.index t = ![0, 0, t.val % 8] ∧ win0_3.index t = ![t.val / 8, t.val % 8] ∧ win0_4.index t = ![0, t.val % 8]
    ∧ win0_5.index t = ![t.val / 8, t.val % 8] ∧ k0_off1 (grid0.coords t) = ![t.val / 16, 0] ∧ t.val < 64 :=
  (by decide +kernel : ∀ t : Fin grid0.N, _)

/-- The row, within its sample, of the first row of the block at a grid point. -/
theorem word : ∀ t : Fin cfg0.N, Scalar.muli
    (Scalar.select
      (Scalar.andi
        (Scalar.xori
          (Scalar.cmpi CmpIPredicate.slt (Scalar.remsi (BitVec.ofNat 32 (grid0.coords t 0).val) 2#32) 0#32)
          (Scalar.cmpi CmpIPredicate.slt 2#32 0#32))
        (Scalar.cmpi CmpIPredicate.ne (Scalar.remsi (BitVec.ofNat 32 (grid0.coords t 0).val) 2#32) 0#32))
      (Scalar.addi (Scalar.remsi (BitVec.ofNat 32 (grid0.coords t 0).val) 2#32) 2#32)
      (Scalar.remsi (BitVec.ofNat 32 (grid0.coords t 0).val) 2#32))
    1152#32 = BitVec.ofNat 32 (t.val / 8 % 2 * 1152) :=
  (by decide +kernel : ∀ t : Fin grid0.N, _)

/-- The comparison of a row with 256, as words, is the comparison of the numbers. -/
theorem select_row (n : ℕ) (hn : n < 2304) (a b : EReal) :
    Scalar.select (IntOp.cmpi .slt (BitVec.ofNat 32 n) 256#32) a b = if n < 256 then a else b := by
  unfold Scalar.select
  exact if_congr (WordCmp.cmpi_slt_ofNat_eq_one_iff (by omega) (by decide)) rfl rfl

/-- What the body stores at a block index of a grid point is the reference's result where that index sits. -/
theorem point (c : Dev nD) (t : Fin cfg0.N) (y) : outsAt0 m c t y
    = Cert.Reference8Ideal.Read.val_main_v23 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4)) (((cfg0.win 5).blk t).view.emb y) := by
  unfold outsAt0
  frame_out
  have ht : t.val < 64 := (idx t).2.2.2.2.2.2.2
  idx_vars y
  have e : ((cfg0.win 5).blk t).view.emb (ix2 y0 y1)
      = (ix2 ⟨t.val / 8 * 1152 + y0, by omega⟩ ⟨t.val % 8 * 256 + y1, by omega⟩ : S9216x2048.Idx) := by
    blk_ext [idx t]
  refine Eq.trans ?_ ((congrArg _ e).trans (ref_at _ _ _ _ _ _ _)).symm
  unfold closed
  pointwise [k0_pay1, k0_pay2, (idx t).2.2.2.2.2.2.1]
  have hr : (t.val / 8 * 1152 + y0.val) % 2304 = y0.val + t.val / 8 % 2 * 1152 := by omega
  have hq : (t.val / 8 * 1152 + y0.val) / 2304 = t.val / 16 := by omega
  rw [word, show IntOp.addi (BitVec.ofNat 32 (y0 : ℕ)) (BitVec.ofNat 32 (t.val / 8 % 2 * 1152))
      = BitVec.ofNat 32 (y0.val + t.val / 8 % 2 * 1152) from (BitVec.ofNat_add _ _).symm, select_row _ (by omega)]
  simp only [hr, hq]
  blk_point [iblk, V, idx t]

/-- The kernel's result array is the reference's term of the arguments. -/
theorem final (c : Dev nD) : (dats m 0 c).arrAt 5 (cfgs 0).N
    = Cert.Reference8Ideal.Read.val_main_v23 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4)) := by
  refine (dats m 0 c).arrAt_eq_of_covers 5 _ (by decide +kernel) fun t _ y => ?_
  blk_simp
  rw [after0_5]
  exact point m c t y

end Kernel

end Cert.Kernel8Ideal.Out

end
-- ==== Proof.Claim8.lean ====
module

public import proofs.«01_k».proof.Defs
public import proofs.«01_k».proof.Proof.Gen.Kernel8.Frame
public import proofs.«01_k».proof.Proof.Gen.Reference8Ideal.Run
public import proofs.«01_k».proof.Proof.Out8
public import Idealize.ShloMosaic.Lib.Claim

@[expose] public section

set_option maxRecDepth 16384
set_option maxHeartbeats 1600000

noncomputable section

open Idealize.ShloMosaic Idealize.ShloMosaic.TcCoe Idealize.SL.Sem

/-! # The claims of Kernel8 -/

namespace Cert.Proof.Kernel8

/-- The kernel runs, and leaves its arguments and the semaphores as they were. -/
theorem frame_kernel : Cert.quiescent_Kernel8 := fun m ρ _ => Cert.Kernel8.Gen.frame m ρ

/-- The idealised kernel runs, and leaves its arguments and the semaphores as they were. -/
theorem frame_ideal : Cert.quiescent_Kernel8Ideal := fun m ρ _ => Cert.Kernel8Ideal.Gen.frame m ρ

/-- The reference runs, and leaves its arguments and the semaphores as they were. -/
theorem frame_reference : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The idealised kernel's result is the reference's. -/
theorem algebraic : Cert.algebraic_Kernel8Ideal_Reference8Ideal := by
  pair_intro
  · run_from Cert.Kernel8Ideal.Gen.run_main m g
  · run_from Cert.Reference8Ideal.Value.run m' g'
    refine Eq.trans ?_ (Cert.Kernel8Ideal.Out.final m c).symm
    obtain ⟨h0, h1, h2, h3, h4⟩ := hagree c
    rw [← h0, ← h1, ← h2, ← h3, ← h4]
    exact Cert.Reference8Ideal.Read.val_main_v23_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))

end Cert.Proof.Kernel8

end
-- ==== Proof.Plain9.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel9: the gated projection of the attention mixer

`(x @ wa) * sigmoid(x @ wb)`, with `wa` and `wb` the columns 1536..2559 and 2560..3583 of the weights. -/

namespace Cert.Kernel9Ideal.Plain

/-- The closed form. -/
def closed (x : FVec Ideal Cert.Reference9Ideal.S4x2304x2048 .bf16) (w : FVec Ideal Cert.Reference9Ideal.S2x2048x3584 .f32)
    (b : Fin 4) (r : Fin 2304) (n : Fin 1024) : EReal :=
  (∑ k : Fin 2048, x (ix3 b r k) * w (ix3 0 k ⟨1536 + n, by omega⟩))
    * Ideal.logistic (∑ k : Fin 2048, x (ix3 b r k) * w (ix3 0 k ⟨2560 + n, by omega⟩))

section Reference
open Cert.Reference9Ideal Cert.Reference9Ideal.Gen Cert.Reference9Ideal.Read

/-- The reference's result, read at an index, is the closed form. -/
theorem ref_at (x : FVec Ideal S4x2304x2048 .bf16) (w : FVec Ideal S2x2048x3584 .f32)
    (b : Fin 4) (r : Fin 2304) (n : Fin 1024) :
    val_main_v14 (F := Ideal) x w (ix3 b r n) = closed x w b r n := by
  unfold closed
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14]
  have e : 1536 + (1024 + (n : ℕ)) = 2560 + n := by omega
  simp only [e]
  rfl

end Reference

section Kernel
open Cert.Kernel9Ideal Cert.Kernel9Ideal.Gen

variable (m : (ℓ : Loc nD τ sig) → Buf (Elt Ideal) ℓ)

/-- Where each window's block sits at a grid point. -/
theorem idx : ∀ t : Fin cfg0.N, win0_0.index t = ![t.val / 4, 0, 0] ∧ win0_1.index t = ![0, 0, 6 + t.val % 4] ∧ win0_2.index t = ![0, 0, 10 + t.val % 4]
    ∧ win0_3.index t = ![t.val / 4, 0, t.val % 4] ∧ t.val < 16 :=
  (by decide +kernel : ∀ t : Fin grid0.N, _)

/-- What the body stores at a block index of a grid point is the reference's result where that index sits. -/
theorem point (c : Dev nD) (t : Fin cfg0.N) (y) : out0_3 (iblk m c 0 t) (iblk m c 1 t) (iblk m c 2 t) y
    = Cert.Reference9Ideal.Read.val_main_v14 (F := Ideal) (m ((c : Thread nD τ).loc main_arg0)) (m ((c : Thread nD τ).loc main_arg1)) (((cfg0.win 3).blk t).view.emb y) := by
  frame_out
  have ht : t.val < 16 := (idx t).2.2.2.2
  idx_vars y
  have e : ((cfg0.win 3).blk t).view.emb (ix3 y0 y1 y2)
      = (ix3 ⟨t.val / 4, by omega⟩ y1 ⟨t.val % 4 * 256 + y2, by omega⟩ : S4x2304x1024.Idx) := by
    blk_ext [idx t]
  refine Eq.trans ?_ ((congrArg _ e).trans (ref_at _ _ _ _ _)).symm
  unfold closed
  pointwise [k0_pay1]
  blk_point [iblk, V, idx t]

/-- The kernel's result array is the reference's term of the arguments. -/
theorem final (c : Dev nD) : (dats m 0 c).arrAt 3 (cfgs 0).N
    = Cert.Reference9Ideal.Read.val_main_v14 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  exact point m c t y

end Kernel

end Cert.Kernel9Ideal.Plain

end
-- ==== Proof.Claim9.lean ====
module

public import proofs.«01_k».proof.Defs
public import proofs.«01_k».proof.Proof.Gen.Kernel9.Frame
public import proofs.«01_k».proof.Proof.Gen.Reference9Ideal.Run
public import proofs.«01_k».proof.Proof.Plain9
public import Idealize.ShloMosaic.Lib.Claim

@[expose] public section

set_option maxRecDepth 16384
set_option maxHeartbeats 1600000

noncomputable section

open Idealize.ShloMosaic Idealize.ShloMosaic.TcCoe Idealize.SL.Sem

/-! # The claims of Kernel9 -/

namespace Cert.Proof.Kernel9

/-- The kernel runs, and leaves its arguments and the semaphores as they were. -/
theorem frame_kernel : Cert.quiescent_Kernel9 := fun m ρ _ => Cert.Kernel9.Gen.frame m ρ

/-- The idealised kernel runs, and leaves its arguments and the semaphores as they were. -/
theorem frame_ideal : Cert.quiescent_Kernel9Ideal := fun m ρ _ => Cert.Kernel9Ideal.Gen.frame m ρ

/-- The reference runs, and leaves its arguments and the semaphores as they were. -/
theorem frame_reference : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

/-- The idealised kernel's result is the reference's. -/
theorem algebraic : Cert.algebraic_Kernel9Ideal_Reference9Ideal := by
  pair_intro
  · run_from Cert.Kernel9Ideal.Gen.run_main m g
  · run_from Cert.Reference9Ideal.Value.run m' g'
    refine Eq.trans ?_ (Cert.Kernel9Ideal.Plain.final m c).symm
    obtain ⟨h0, h1⟩ := hagree c
    rw [← h0, ← h1]
    exact Cert.Reference9Ideal.Read.val_main_v14_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))

end Cert.Proof.Kernel9

end
-- ==== Proof.Plain10.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # Kernel10: the value projection of the attention mixer

`x @ w`, with `w` the columns 1280..1535 of the weights. -/

namespace Cert.Kernel10Ideal.Plain

/-- The closed form. -/
def closed (x : FVec Ideal Cert.Reference10Ideal.S4x2304x2048 .bf16) (w : FVec Ideal Cert.Reference10Ideal.S2x2048x3584 .f32)
    (b : Fin 4) (r : Fin 2304) (n : Fin 256) : EReal :=
  ∑ k : Fin 2048, x (ix3 b r k) * w (ix3 0 k ⟨1280 + n, by omega⟩)

section Reference
open Cert.Reference10Ideal Cert.Reference10Ideal.Gen Cert.Reference10Ideal.Read

/-- The reference's result, read at an index, is the closed form. -/
theorem ref_at (x : FVec Ideal S4x2304x2048 .bf16) (w : FVec Ideal S2x2048x3584 .f32)
    (b : Fin 4) (r : Fin 2304) (n : Fin 256) :
    val_main_v5 (F := Ideal) x w (ix3 b r n) = closed x w b r n := by
  unfold closed
  pointwise [val_main_v0, val_main_v1, val_main_v2, val_main_v3, val_main_v4, val_main_v5]

end Reference

section Kernel
open Cert.Kernel10Ideal Cert.Kernel10Ideal.Gen

variable (m : (ℓ : Loc nD τ sig) → Buf (Elt Ideal) ℓ)

/-- Where each window's block sits at a grid point. -/
theorem idx : ∀ t : Fin cfg0.N, win0_0.index t = ![t.val / 1, 0, 0] ∧ win0_1.index t = ![0, 0, 5 + t.val % 1]
    ∧ win0_2.index t = ![t.val / 1, 0, t.val % 1] ∧ t.val < 4 :=
  (by decide +kernel : ∀ t : Fin grid0.N, _)

/-- What the body stores at a block index of a grid point is the reference's result where that index sits. -/
theorem point (c : Dev nD) (t : Fin cfg0.N) (y) : out0_2 (iblk m c 0 t) (iblk m c 1 t) y
    = Cert.Reference10Ideal.Read.val_main_v5 (F := Ideal) (m ((c : Thread nD τ).loc main_arg0)) (m ((c : Thread nD τ).loc main_arg1)) (((cfg0.win 2).blk t).view.emb y) := by
  frame_out
  have ht : t.val < 4 := (idx t).2.2.2
  idx_vars y
  have e : ((cfg0.win 2).blk t).view.emb (ix3 y0 y1 y2)
      = (ix3 ⟨t.val / 1, by omega⟩ y1 ⟨t.val % 1 * 256 + y2, by omega⟩ : S4x2304x256.Idx) := by
    blk_ext [idx t]
  refine Eq.trans ?_ ((congrArg _ e).trans (ref_at _ _ _ _ _)).symm
  unfold closed
  pointwise [k0_pay1]
  blk_point [iblk, V, idx t]

/-- The kernel's result array is the reference's term of the arguments. -/
theorem final (c : Dev nD) : (dats m 0 c).arrAt 2 (cfgs 0).N
    = Cert.Reference10Ideal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Kernel

end Cert.Kernel10Ideal.Plain

end
-- ==== Proof.Claim10.lean ====
module

public import proofs.«01_k».proof.Defs
public import proofs.«01_k».proof.Proof.Gen.Kernel10.Frame
public import proofs.«01_k».proof.Proof.Gen.Reference10Ideal.Run
public import proofs.«01_k».proof.Proof.Plain10
public import Idealize.ShloMosaic.Lib.Claim

@[expose] public section

set_option maxRecDepth 16384
set_option maxHeartbeats 1600000

noncomputable section

open Idealize.ShloMosaic Idealize.ShloMosaic.TcCoe Idealize.SL.Sem

/-! # The claims of Kernel10 -/

namespace Cert.Proof.Kernel10

/-- The kernel runs, and leaves its arguments and the semaphores as they were. -/
theorem frame_kernel : Cert.quiescent_Kernel10 := fun m ρ _ => Cert.Kernel10.Gen.frame m ρ

/-- The idealised kernel runs, and leaves its arguments and the semaphores as they were. -/
theorem frame_ideal : Cert.quiescent_Kernel10Ideal := fun m ρ _ => Cert.Kernel10Ideal.Gen.frame m ρ

/-- The reference runs, and leaves its arguments and the semaphores as they were. -/
theorem frame_reference : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

/-- The idealised kernel's result is the reference's. -/
theorem algebraic : Cert.algebraic_Kernel10Ideal_Reference10Ideal := by
  pair_intro
  · run_from Cert.Kernel10Ideal.Gen.run_main m g
  · run_from Cert.Reference10Ideal.Value.run m' g'
    refine Eq.trans ?_ (Cert.Kernel10Ideal.Plain.final m c).symm
    obtain ⟨h0, h1⟩ := hagree c
    rw [← h0, ← h1]
    exact Cert.Reference10Ideal.Read.val_main_v5_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))

end Cert.Proof.Kernel10

end
-- ==== Proof.EvenQKTab.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # The tables the host prepares for Kernel11

Cosines and sines of the angles, which are the reference's, behind 256 rows for the context; the sines' sign and the
places that do not count are put into two tables. -/

namespace Cert.Kernel11Ideal.EvenQK
open Cert.Kernel11Ideal Cert.Kernel11Ideal.Gen

/-- The reference's cosines. -/
abbrev cosines : FVec Ideal S2048x128 .f32 := Cert.Reference11Ideal.Read.val_main_v31 (F := Ideal)

/-- The reference's sines. -/
abbrev sines : FVec Ideal S2048x128 .f32 := Cert.Reference11Ideal.Read.val_main_v32 (F := Ideal)

/-- Two pieces put together, piece by piece. -/
theorem conc2 {α : Type} {s s1 s2 : Shape} {d : Fin s.rank} {a a' : s1.Idx → α} {b b' : s2.Idx → α}
    {h : Shape.Concatenates [s1, s2] s d} (ha : a = a') (hb : b = b') :
    concatenate s d [⟨s1, a⟩, ⟨s2, b⟩] h = concatenate s d [⟨s1, a'⟩, ⟨s2, b'⟩] h := by
  subst ha hb; rfl

/-- Four pieces put together, piece by piece. -/
theorem conc4 {α : Type} {s s1 : Shape} {d : Fin s.rank} {a a' b b' e e' f f' : s1.Idx → α}
    {h : Shape.Concatenates [s1, s1, s1, s1] s d} (ha : a = a') (hb : b = b') (he : e = e') (hf : f = f') :
    concatenate s d [⟨s1, a⟩, ⟨s1, b⟩, ⟨s1, e⟩, ⟨s1, f⟩] h = concatenate s d [⟨s1, a'⟩, ⟨s1, b'⟩, ⟨s1, e'⟩, ⟨s1, f'⟩] h := by
  subst ha hb he hf; rfl

/-- A table with some columns replaced. -/
theorem column_at (M : IVec S128 1) (k : ℕ) (x y : FVec Ideal S2048x128 .f32)
    (hM : ∀ e : Fin 128, M (ix1 e) = if e.val / 32 % 2 = k then 1#1 else 0#1) (p : Fin 2048) (e : Fin 128) :
    select (broadcastInDim S2048x128 ![1] bcast_S128_S2048x128_1 M) x y (ix2 p e) = if e.val / 32 % 2 = k then x (ix2 p e) else y (ix2 p e) := by
  have h := hM e
  pointwise
  rw [h]
  unfold Scalar.select
  split_ifs <;> first | rfl | contradiction

variable (m : (ℓ : Loc nD τ sig) → Buf (Elt Ideal) ℓ)

/-- The angles are the reference's. -/
theorem angle (c : Dev nD) : V m c main_v27 = Cert.Reference11Ideal.Read.val_main_v30 (F := Ideal) := by
  after_reads_simp
  unfold Cert.Reference11Ideal.Read.val_main_v30
  refine conc4 ?_ ?_ ?_ ?_ <;> dsimp only [Matrix.cons_val] <;> after_reads_simp <;> rfl

/-- The cosines' table. -/
theorem tab_cos (c : Dev nD) : V m c main_v42 = concatenate S2304x128 0
    [⟨S256x128, broadcastInDim S256x128 ![] bcast_S_S256x128 (constant (F := Ideal) S_ .f32 0x3F800000#32)⟩,
      ⟨S2048x128, cosines⟩] concatenates_S256x128_S2048x128_S2304x128_d0 := by
  after_reads_simp
  refine conc2 ?_ ?_
  · after_reads_simp
  · show _ = Host.cos (F := Ideal) (Cert.Reference11Ideal.Read.val_main_v30 (F := Ideal))
    rw [← angle m c]
    after_reads_simp

/-- The first table of sines, without the context's rows. -/
theorem first_at (c : Dev nD) (p : Fin 2048) (e : Fin 128) :
    V m c main_v36 (ix2 p e) = if e.val / 32 % 2 = 0 then -sines (ix2 p e) else 0 := by
  after_reads_simp
  simp only [StableHlo.TRef.toBuf, StableHlo.TRef.ofBuf, cast_eq, id_eq]
  refine (column_at _ 0 _ _ (by decide +kernel) p e).trans (if_congr Iff.rfl ?_ ?_)
  · refine Eq.trans ?_ (congrArg (fun t => Host.negf (Host.sin t) (ix2 p e)) (angle m c))
    after_reads_simp
  · pointwise

/-- The second table of sines, without the context's rows. -/
theorem second_at (c : Dev nD) (p : Fin 2048) (e : Fin 128) :
    V m c main_v39 (ix2 p e) = if e.val / 32 % 2 = 1 then sines (ix2 p e) else 0 := by
  after_reads_simp
  simp only [StableHlo.TRef.toBuf, StableHlo.TRef.ofBuf, cast_eq, id_eq]
  refine (column_at _ 1 _ _ (by decide +kernel) p e).trans (if_congr Iff.rfl ?_ ?_)
  · refine Eq.trans ?_ (congrArg (fun t => Host.sin t (ix2 p e)) (angle m c))
    after_reads_simp
  · pointwise

/-- The first table of sines. -/
theorem tab_first (c : Dev nD) : V m c main_v43 = concatenate S2304x128 0
    [⟨S256x128, broadcastInDim S256x128 ![] bcast_S_S256x128 (constant (F := Ideal) S_ .f32 0x00000000#32)⟩,
      ⟨S2048x128, V m c main_v36⟩] concatenates_S256x128_S2048x128_S2304x128_d0 := by
  after_reads_simp
  refine conc2 ?_ ?_ <;> after_reads_simp

/-- The second table of sines. -/
theorem tab_second (c : Dev nD) : V m c main_v44 = concatenate S2304x128 0
    [⟨S256x128, broadcastInDim S256x128 ![] bcast_S_S256x128 (constant (F := Ideal) S_ .f32 0x00000000#32)⟩,
      ⟨S2048x128, V m c main_v39⟩] concatenates_S256x128_S2048x128_S2304x128_d0 := by
  after_reads_simp
  refine conc2 ?_ ?_ <;> after_reads_simp

/-- A table with rows of one number put before it. -/
theorem before_at (w : BitVec 32) (T : FVec Ideal S2048x128 .f32) (r : Fin 2304) (e : Fin 128) :
    concatenate S2304x128 0 [⟨S256x128, broadcastInDim S256x128 ![] bcast_S_S256x128 (constant (F := Ideal) S_ .f32 w)⟩,
      ⟨S2048x128, T⟩] concatenates_S256x128_S2048x128_S2304x128_d0 (ix2 r e)
    = if h : r.val < 256 then Ideal.ofBits .f32 w else T (ix2 ⟨r.val - 256, by omega⟩ e) := by
  pointwise

/-- The two scales, one above the other. -/
theorem scales (c : Dev nD) : V m c main_v52 = shapeCast S2x1x128 (concatenate S2x128 0
    [⟨S1x128, broadcastInDim S1x128 ![1] bcast_S128_S1x128_1 (shapeCast S128 (extractStridedSlice S1x128 ![0, 0] (m ((c : Thread nD τ).loc main_arg2)) slices_S2x128_S1x128_0_0) shapeCasts_S1x128_S128)⟩,
      ⟨S1x128, broadcastInDim S1x128 ![1] bcast_S128_S1x128_1 (shapeCast S128 (extractStridedSlice S1x128 ![0, 0] (m ((c : Thread nD τ).loc main_arg3)) slices_S2x128_S1x128_0_0) shapeCasts_S1x128_S128)⟩]
    concatenates_S1x128_S1x128_S2x128_d0) shapeCasts_S2x128_S2x1x128 := by
  after_reads_simp
  refine congrArg (shapeCast S2x1x128 · shapeCasts_S2x128_S2x1x128) (conc2 ?_ ?_) <;> after_reads_simp <;> rfl

/-- The scale of the queries. -/
theorem scale_q (c : Dev nD) (e : Fin 128) : V m c main_v52 (ix3 0 0 e) = m ((c : Thread nD τ).loc main_arg2) (ix2 0 e) := by
  rw [scales]
  pointwise

/-- The scale of the keys. -/
theorem scale_k (c : Dev nD) (e : Fin 128) : V m c main_v52 (ix3 1 0 e) = m ((c : Thread nD τ).loc main_arg3) (ix2 0 e) := by
  rw [scales]
  pointwise

end Cert.Kernel11Ideal.EvenQK

end
-- ==== Proof.EvenQKRef.lean ====
module

public import proofs.«01_k».proof.Proof.Gen.Reference11Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! # The reference's queries and keys

A row of `x @ w`, cut into heads of 128 columns; each head over its root mean square, times the scale; for the latent
tokens turned by the angles of their place. -/

namespace Cert.Kernel11Ideal.EvenQK

/-- A head over its root mean square, times the scale. -/
def normed (P s : Fin 128 → EReal) (e : Fin 128) : EReal :=
  P e * Ideal.rsqrt (Ideal.div (∑ j, P j * P j) (Ideal.ofBits .f32 0x43000000#32) + Ideal.ofBits .f32 0x358637BD#32) * s e

/-- A head turned: each column goes with the one 32 places later or earlier. -/
def turned (N C S : Fin 128 → EReal) (e : Fin 128) : EReal :=
  N e * C e + (if h : e.val / 32 % 2 = 0 then -N ⟨e.val + 32, by omega⟩ else N ⟨e.val - 32, by omega⟩) * S e

section Reference
open Cert.Reference11Ideal Cert.Reference11Ideal.Gen Cert.Reference11Ideal.Read

/-- The projection. -/
def proj (x : FVec Ideal S4x2304x2048 .bf16) (w : FVec Ideal S2x2048x3584 .f32) (b : Fin 4) (r : Fin 2304) (n : Fin 1280) : EReal :=
  ∑ k : Fin 2048, x (ix3 b r k) * w (ix3 0 k ⟨n, by omega⟩)

variable (x0 : FVec Ideal S4x2304x2048 .bf16) (x1 : FVec Ideal S2x2048x3584 .f32) (x2 x3 : FVec Ideal S2x128 .f32)

theorem proj_at (b : Fin 4) (r : Fin 2304) (n : Fin 1280) : val_main_v34 (F := Ideal) x0 x1 (ix3 b r n) = proj x0 x1 b r n := by
  unfold proj
  pointwise [val_main_v34, val_main_v33, val_main_v2, val_main_v1, val_main_v0]

/-- The projection at a head. -/
def headAt (b : Fin 4) (r : Fin 2304) (h : Fin 10) (e : Fin 128) : EReal := val_main_v34 (F := Ideal) x0 x1 (ix3 b r ⟨h * 128 + e, by omega⟩)

/-- The context's queries. -/
theorem q_ctx (b : Fin 4) (r : Fin 256) (h : Fin 8) (e : Fin 128) :
    val_main_v52 (F := Ideal) x0 x1 x2 (ix4 b r h e)
      = normed (headAt x0 x1 b ⟨r, by omega⟩ ⟨h, by omega⟩) (fun j => x2 (ix2 0 j)) e := by
  unfold normed headAt
  pointwise [val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst_3, val_main_cst_4, val_main_cst_5]

/-- The latent tokens' queries, before they are turned. -/
theorem q_lat (b : Fin 4) (p : Fin 2048) (h : Fin 8) (e : Fin 128) :
    val_main_v67 (F := Ideal) x0 x1 x2 (ix4 b p h e)
      = normed (headAt x0 x1 b ⟨256 + p, by omega⟩ ⟨h, by omega⟩) (fun j => x2 (ix2 0 j)) e := by
  unfold normed headAt
  pointwise [val_main_v35, val_main_v36, val_main_v37, val_main_v53, val_main_v54, val_main_v55, val_main_v56, val_main_v57, val_main_v58, val_main_v59, val_main_v60, val_main_v61, val_main_v62, val_main_v63, val_main_v64, val_main_v65, val_main_v66, val_main_v67, val_main_cst_6, val_main_cst_7, val_main_cst_8]

/-- The context's keys. -/
theorem k_ctx (b : Fin 4) (r : Fin 256) (h : Fin 2) (e : Fin 128) :
    val_main_v104 (F := Ideal) x0 x1 x3 (ix4 b r h e)
      = normed (headAt x0 x1 b ⟨r, by omega⟩ ⟨8 + h, by omega⟩) (fun j => x3 (ix2 0 j)) e := by
  unfold normed headAt
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst_9, val_main_cst_10, val_main_cst_11]
  have hc : ∀ j : Fin 128, (⟨1024 + (h * 128 + j), by omega⟩ : Fin 1280) = ⟨(8 + h) * 128 + j, by omega⟩ :=
    fun j => Fin.ext (by show 1024 + (h.val * 128 + j.val) = (8 + h.val) * 128 + j.val; omega)
  simp only [hc]

/-- The latent tokens' keys, before they are turned. -/
theorem k_lat (b : Fin 4) (p : Fin 2048) (h : Fin 2) (e : Fin 128) :
    val_main_v119 (F := Ideal) x0 x1 x3 (ix4 b p h e)
      = normed (headAt x0 x1 b ⟨256 + p, by omega⟩ ⟨8 + h, by omega⟩) (fun j => x3 (ix2 0 j)) e := by
  unfold normed headAt
  pointwise [val_main_v87, val_main_v88, val_main_v89, val_main_v105, val_main_v106, val_main_v107, val_main_v108, val_main_v109, val_main_v110, val_main_v111, val_main_v112, val_main_v113, val_main_v114, val_main_v115, val_main_v116, val_main_v117, val_main_v118, val_main_v119, val_main_cst_12, val_main_cst_13, val_main_cst_14]
  have hc : ∀ j : Fin 128, (⟨1024 + (h * 128 + j), by omega⟩ : Fin 1280) = ⟨(8 + h) * 128 + j, by omega⟩ :=
    fun j => Fin.ext (by show 1024 + (h.val * 128 + j.val) = (8 + h.val) * 128 + j.val; omega)
  simp only [hc]

/-- The four pieces of a turned head, as one choice. -/
theorem quarters (N : Fin 128 → EReal) (e : Fin 128) :
    (if h1 : e.val < 32 then -N ⟨32 + e.val, by omega⟩
      else if h2 : e.val - 32 < 32 then N ⟨e.val - 32, by omega⟩
      else if h3 : e.val - 32 - 32 < 32 then -N ⟨96 + (e.val - 32 - 32), by omega⟩
      else N ⟨64 + (e.val - 32 - 32 - 32), by omega⟩)
    = if h : e.val / 32 % 2 = 0 then -N ⟨e.val + 32, by omega⟩ else N ⟨e.val - 32, by omega⟩ := by
  by_cases h1 : e.val < 32
  · rw [dif_pos h1, dif_pos (by omega)]
    exact congrArg (fun t => -N t) (Fin.ext (by show 32 + e.val = e.val + 32; omega))
  · rw [dif_neg h1]
    by_cases h2 : e.val - 32 < 32
    · rw [dif_pos h2, dif_neg (by omega)]
    · rw [dif_neg h2]
      by_cases h3 : e.val - 32 - 32 < 32
      · rw [dif_pos h3, dif_pos (by omega)]
        exact congrArg (fun t => -N t) (Fin.ext (by show 96 + (e.val - 32 - 32) = e.val + 32; omega))
      · rw [dif_neg h3, dif_neg (by omega)]
        exact congrArg N (Fin.ext (by show 64 + (e.val - 32 - 32 - 32) = e.val - 32; omega))

/-- The latent tokens' queries. -/
theorem q_turn (b : Fin 4) (p : Fin 2048) (h : Fin 8) (e : Fin 128) :
    val_main_v83 (F := Ideal) x0 x1 x2 (ix4 b p h e)
      = turned (fun j => val_main_v67 (F := Ideal) x0 x1 x2 (ix4 b p h j)) (fun j => val_main_v31 (F := Ideal) (ix2 p j)) (fun j => val_main_v32 (F := Ideal) (ix2 p j)) e := by
  refine Eq.trans ?_ (congrArg (fun t => val_main_v67 (F := Ideal) x0 x1 x2 (ix4 b p h e) * val_main_v31 (F := Ideal) (ix2 p e) + t * val_main_v32 (F := Ideal) (ix2 p e))
    (quarters (fun j => val_main_v67 (F := Ideal) x0 x1 x2 (ix4 b p h j)) e))
  pointwise [val_main_v68, val_main_v69, val_main_v70, val_main_v71, val_main_v72, val_main_v73, val_main_v74, val_main_v75, val_main_v76, val_main_v77, val_main_v78, val_main_v79, val_main_v80, val_main_v81, val_main_v82, val_main_v83]

/-- The latent tokens' keys. -/
theorem k_turn (b : Fin 4) (p : Fin 2048) (h : Fin 2) (e : Fin 128) :
    val_main_v135 (F := Ideal) x0 x1 x3 (ix4 b p h e)
      = turned (fun j => val_main_v119 (F := Ideal) x0 x1 x3 (ix4 b p h j)) (fun j => val_main_v31 (F := Ideal) (ix2 p j)) (fun j => val_main_v32 (F := Ideal) (ix2 p j)) e := by
  refine Eq.trans ?_ (congrArg (fun t => val_main_v119 (F := Ideal) x0 x1 x3 (ix4 b p h e) * val_main_v31 (F := Ideal) (ix2 p e) + t * val_main_v32 (F := Ideal) (ix2 p e))
    (quarters (fun j => val_main_v119 (F := Ideal) x0 x1 x3 (ix4 b p h j)) e))
  pointwise [val_main_v120, val_main_v121, val_main_v122, val_main_v123, val_main_v124, val_main_v125, val_main_v126, val_main_v127, val_main_v128, val_main_v129, val_main_v130, val_main_v131, val_main_v132, val_main_v133, val_main_v134, val_main_v135]

/-- The result at the context's queries. -/
theorem res_q_ctx (b : Fin 4) (r : Fin 256) (h : Fin 8) (e : Fin 128) :
    val_main_v140 (F := Ideal) x0 x1 x2 x3 (ix3 b ⟨r, by omega⟩ ⟨h * 128 + e, by omega⟩) = val_main_v52 (F := Ideal) x0 x1 x2 (ix4 b r h e) := by
  pointwise [val_main_v140, val_main_v139, val_main_v86, val_main_v84]
  rw [dif_pos (by omega)]

/-- The result at the latent tokens' queries. -/
theorem res_q_lat (b : Fin 4) (p : Fin 2048) (h : Fin 8) (e : Fin 128) :
    val_main_v140 (F := Ideal) x0 x1 x2 x3 (ix3 b ⟨256 + p, by omega⟩ ⟨h * 128 + e, by omega⟩) = val_main_v83 (F := Ideal) x0 x1 x2 (ix4 b p h e) := by
  pointwise [val_main_v140, val_main_v139, val_main_v86, val_main_v85]
  rw [dif_pos (by omega)]

/-- The result at the context's keys. -/
theorem res_k_ctx (b : Fin 4) (r : Fin 256) (h : Fin 2) (e : Fin 128) :
    val_main_v140 (F := Ideal) x0 x1 x2 x3 (ix3 b ⟨r, by omega⟩ ⟨1024 + (h * 128 + e), by omega⟩) = val_main_v104 (F := Ideal) x0 x1 x3 (ix4 b r h e) := by
  pointwise [val_main_v140, val_main_v139, val_main_v138, val_main_v136]

/-- The result at the latent tokens' keys. -/
theorem res_k_lat (b : Fin 4) (p : Fin 2048) (h : Fin 2) (e : Fin 128) :
    val_main_v140 (F := Ideal) x0 x1 x2 x3 (ix3 b ⟨256 + p, by omega⟩ ⟨1024 + (h * 128 + e), by omega⟩) = val_main_v135 (F := Ideal) x0 x1 x3 (ix4 b p h e) := by
  pointwise [val_main_v140, val_main_v139, val_main_v138, val_main_v137]

/-- What the layer gives at batch `b`, row `r`, head `h`, column `e`, from the heads `P`. -/
def given (P : Fin 128 → EReal) (s : Fin 128 → EReal) (C S : Fin 2048 → Fin 128 → EReal) (r : Fin 2304) (e : Fin 128) : EReal :=
  if hr : r.val < 256 then normed P s e else turned (normed P s) (C ⟨r.val - 256, by omega⟩) (S ⟨r.val - 256, by omega⟩) e

/-- The result at a query. -/
theorem ref_q (b : Fin 4) (r : Fin 2304) (h : Fin 8) (e : Fin 128) :
    val_main_v140 (F := Ideal) x0 x1 x2 x3 (ix3 b r ⟨h * 128 + e, by omega⟩)
      = given (fun j => proj x0 x1 b r ⟨h * 128 + j, by omega⟩) (fun j => x2 (ix2 0 j)) (fun p j => val_main_v31 (F := Ideal) (ix2 p j)) (fun p j => val_main_v32 (F := Ideal) (ix2 p j)) r e := by
  unfold given
  by_cases hr : r.val < 256
  · rw [dif_pos hr]
    refine (res_q_ctx x0 x1 x2 x3 b ⟨r, hr⟩ h e).trans ((q_ctx x0 x1 x2 b ⟨r, hr⟩ h e).trans ?_)
    exact congrArg (normed · _ e) (funext fun j => proj_at x0 x1 b r _)
  · rw [dif_neg hr]
    have er : r = ⟨256 + (r.val - 256), by omega⟩ := Fin.ext (by show r.val = 256 + (r.val - 256); omega)
    refine (congrArg (fun t => val_main_v140 (F := Ideal) x0 x1 x2 x3 (ix3 b t ⟨h * 128 + e, by omega⟩)) er).trans ?_
    refine (res_q_lat x0 x1 x2 x3 b ⟨r - 256, by omega⟩ h e).trans ((q_turn x0 x1 x2 b ⟨r - 256, by omega⟩ h e).trans ?_)
    refine congrArg (turned · _ _ e) (funext fun j => (q_lat x0 x1 x2 b ⟨r - 256, by omega⟩ h j).trans ?_)
    refine congrArg (normed · _ j) (funext fun i => ?_)
    exact (proj_at x0 x1 b ⟨256 + (r - 256), by omega⟩ _).trans (congrArg (fun t => proj x0 x1 b t _) er.symm)

/-- The result at a key. -/
theorem ref_k (b : Fin 4) (r : Fin 2304) (h : Fin 2) (e : Fin 128) :
    val_main_v140 (F := Ideal) x0 x1 x2 x3 (ix3 b r ⟨1024 + (h * 128 + e), by omega⟩)
      = given (fun j => proj x0 x1 b r ⟨(8 + h) * 128 + j, by omega⟩) (fun j => x3 (ix2 0 j)) (fun p j => val_main_v31 (F := Ideal) (ix2 p j)) (fun p j => val_main_v32 (F := Ideal) (ix2 p j)) r e := by
  unfold given
  by_cases hr : r.val < 256
  · rw [dif_pos hr]
    refine (res_k_ctx x0 x1 x2 x3 b ⟨r, hr⟩ h e).trans ((k_ctx x0 x1 x3 b ⟨r, hr⟩ h e).trans ?_)
    exact congrArg (normed · _ e) (funext fun j => proj_at x0 x1 b r _)
  · rw [dif_neg hr]
    have er : r = ⟨256 + (r.val - 256), by omega⟩ := Fin.ext (by show r.val = 256 + (r.val - 256); omega)
    refine (congrArg (fun t => val_main_v140 (F := Ideal) x0 x1 x2 x3 (ix3 b t ⟨1024 + (h * 128 + e), by omega⟩)) er).trans ?_
    refine (res_k_lat x0 x1 x2 x3 b ⟨r - 256, by omega⟩ h e).trans ((k_turn x0 x1 x3 b ⟨r - 256, by omega⟩ h e).trans ?_)
    refine congrArg (turned · _ _ e) (funext fun j => (k_lat x0 x1 x3 b ⟨r - 256, by omega⟩ h j).trans ?_)
    refine congrArg (normed · _ j) (funext fun i => ?_)
    exact (proj_at x0 x1 b ⟨256 + (r - 256), by omega⟩ _).trans (congrArg (fun t => proj x0 x1 b t _) er.symm)

end Reference

end Cert.Kernel11Ideal.EvenQK

end
-- ==== Proof.EvenQK.lean ====
module

public import proofs.«01_k».proof.Proof.EvenQKTab
public import proofs.«01_k».proof.Proof.EvenQKRef

@[expose] public section

set_option maxRecDepth 16384

noncomputable section

open Idealize.ShloMosaic Idealize.ShloMosaic.TcCoe Idealize.SL.Sem
open Idealize.ShloMosaic.Pipeline (Dat)

/-! # Kernel11: the attention's queries and keys

Two heads of 128 columns per grid point, each over its root mean square, times the scale, turned by the host's tables:
where the tables hold ones and zeros, for the context, the turn does nothing. -/

namespace Cert.Kernel11Ideal.EvenQK

/-- A head turned by three tables, as the kernel does it: the columns 32 places later and earlier, going round. -/
def turnedBy (N C A B : Fin 128 → EReal) (e : Fin 128) : EReal :=
  N e * C e + N ⟨(e.val + 128 - 96) % 128, by omega⟩ * A e + N ⟨(e.val + 128 - 32) % 128, by omega⟩ * B e

/-- Turning by ones and zeros does nothing. -/
theorem turned_still (N C A B : Fin 128 → EReal) (e : Fin 128) (hC : C e = 1) (hA : A e = 0) (hB : B e = 0) :
    turnedBy N C A B e = N e := by
  unfold turnedBy
  rw [hC, hA, hB, mul_one, mul_zero, mul_zero, add_zero, add_zero]

/-- Turning by the tables of the latent tokens. -/
theorem turned_latent (N C A B S : Fin 128 → EReal) (e : Fin 128) (hA : A e = if e.val / 32 % 2 = 0 then -S e else 0)
    (hB : B e = if e.val / 32 % 2 = 1 then S e else 0) : turnedBy N C A B e = turned N C S e := by
  unfold turnedBy turned
  rw [hA, hB]
  by_cases h : e.val / 32 % 2 = 0
  · rw [if_pos h, if_neg (by omega), dif_pos h, mul_zero, add_zero, mul_neg, neg_mul]
    exact congrArg (fun t => N e * C e + -(N t * S e)) (Fin.ext (by show (e.val + 128 - 96) % 128 = e.val + 32; omega))
  · rw [if_neg h, if_pos (by omega), dif_neg h, mul_zero, add_zero]
    exact congrArg (fun t => N e * C e + N t * S e) (Fin.ext (by show (e.val + 128 - 32) % 128 = e.val - 32; omega))

section Kernel
open Cert.Kernel11Ideal Cert.Kernel11Ideal.Gen

/-- A column of a block's product. -/
def bcol (x : Vec Ideal S1x2304x2048 .bf16) (w : Vec Ideal S1x2048x256 .f32) (r : Fin 2304) (n : Fin 256) : EReal :=
  ∑ k : Fin 2048, x (ix3 0 r k) * w (ix3 0 k n)

/-- The block's product. -/
theorem pay3_at (x : Vec Ideal S1x2304x2048 .bf16) (w : Vec Ideal S1x2048x256 .f32) (r : Fin 2304) (n : Fin 256) :
    k0_pay3 x w (ix2 r n) = bcol x w r n := by
  unfold bcol
  pointwise [k0_pay3]

/-- The first head of a block. -/
theorem left_at (x : Vec Ideal S1x2304x2048 .bf16) (w : Vec Ideal S1x2048x256 .f32) (s : Vec Ideal S1x1x128 .f32)
    (C A B : Vec Ideal S2304x128 .f32) (r : Fin 2304) (e : Fin 128) :
    k0_pay1 (k0_pay8 x w s C A B) (ix3 0 r e)
      = turnedBy (normed (fun j => bcol x w r ⟨j, by omega⟩) (fun j => s (ix3 0 0 j))) (fun j => C (ix2 r j)) (fun j => A (ix2 r j)) (fun j => B (ix2 r j)) e := by
  unfold turnedBy normed
  pointwise [k0_pay1, k0_pay8, k0_pay4, k0_pay5, k0_pay6, k0_pay7, pay3_at]

/-- The second head of a block. -/
theorem right_at (x : Vec Ideal S1x2304x2048 .bf16) (w : Vec Ideal S1x2048x256 .f32) (s : Vec Ideal S1x1x128 .f32)
    (C A B : Vec Ideal S2304x128 .f32) (r : Fin 2304) (e : Fin 128) :
    k0_pay2 (k0_pay3 x w) (k0_pay4 s) (k0_pay5 C) (k0_pay6 A) (k0_pay7 B) (ix3 0 r e)
      = turnedBy (normed (fun j => bcol x w r ⟨128 + j, by omega⟩) (fun j => s (ix3 0 0 j))) (fun j => C (ix2 r j)) (fun j => A (ix2 r j)) (fun j => B (ix2 r j)) e := by
  unfold turnedBy normed
  pointwise [k0_pay2, k0_pay4, k0_pay5, k0_pay6, k0_pay7, pay3_at]

variable (m : (ℓ : Loc nD τ sig) → Buf (Elt Ideal) ℓ)

/-- Where each window's block sits at a grid point. -/
theorem idx : ∀ t : Fin cfg0.N, win0_0.index t = ![t.val / 5, 0, 0] ∧ win0_1.index t = ![0, 0, t.val % 5]
    ∧ win0_2.index t = ![if t.val % 5 < 4 then 0 else 1, 0, 0] ∧ win0_3.index t = ![0, 0] ∧ win0_4.index t = ![0, 0] ∧ win0_5.index t = ![0, 0]
    ∧ win0_6.index t = ![t.val / 5, 0, t.val % 5] ∧ t.val < 20 :=
  (by decide +kernel : ∀ t : Fin grid0.N, _)

/-- What the host's tables do to a head is what the layer gives. -/
theorem tables_at (c : Dev nD) (P s : Fin 128 → EReal) (r : Fin 2304) (e : Fin 128) :
    turnedBy (normed P s) (fun j => V m c main_v42 (ix2 r j)) (fun j => V m c main_v43 (ix2 r j)) (fun j => V m c main_v44 (ix2 r j)) e
      = given P s (fun p j => cosines (ix2 p j)) (fun p j => sines (ix2 p j)) r e := by
  unfold given
  by_cases hr : r.val < 256
  · rw [dif_pos hr]
    refine turned_still _ _ _ _ e ?_ ?_ ?_
    · rw [tab_cos, before_at, dif_pos hr, Ideal.ofBits_one_f32]
    · rw [tab_first, before_at, dif_pos hr, Ideal.ofBits_zero_f32]
    · rw [tab_second, before_at, dif_pos hr, Ideal.ofBits_zero_f32]
  · rw [dif_neg hr]
    have hC : (fun j => V m c main_v42 (ix2 r j)) = fun j => cosines (ix2 ⟨r.val - 256, by omega⟩ j) := funext fun j => by
      rw [tab_cos, before_at, dif_neg hr]
    rw [hC]
    refine turned_latent _ _ _ _ _ e ?_ ?_
    · rw [tab_first, before_at, dif_neg hr, first_at]
    · rw [tab_second, before_at, dif_neg hr, second_at]

/-- The layer's result at a head and column. -/
theorem ref_at (x0 : FVec Ideal S4x2304x2048 .bf16) (x1 : FVec Ideal S2x2048x3584 .f32) (x2 x3 : FVec Ideal S2x128 .f32)
    (b : Fin 4) (r : Fin 2304) (h : Fin 10) (e : Fin 128) :
    Cert.Reference11Ideal.Read.val_main_v140 (F := Ideal) x0 x1 x2 x3 (ix3 b r ⟨h * 128 + e, by omega⟩)
      = given (fun j => proj x0 x1 b r ⟨h * 128 + j, by omega⟩) (fun j => if h.val < 8 then x2 (ix2 0 j) else x3 (ix2 0 j))
          (fun p j => cosines (ix2 p j)) (fun p j => sines (ix2 p j)) r e := by
  by_cases hh : h.val < 8
  · simp only [if_pos hh]
    exact ref_q x0 x1 x2 x3 b r ⟨h, hh⟩ e
  · simp only [if_neg hh]
    have eh : h = ⟨8 + (h.val - 8), by omega⟩ := Fin.ext (by show h.val = 8 + (h.val - 8); omega)
    refine Eq.trans (congrArg (fun t => Cert.Reference11Ideal.Read.val_main_v140 (F := Ideal) x0 x1 x2 x3 (ix3 b r t)) (Fin.ext ?_))
      ((ref_k x0 x1 x2 x3 b r ⟨h - 8, by omega⟩ e).trans ?_)
    · show h.val * 128 + e.val = 1024 + ((h.val - 8) * 128 + e.val)
      omega
    · refine congrArg (given · _ _ _ r e) (funext fun j => congrArg (proj x0 x1 b r) (Fin.ext ?_))
      show (8 + (h.val - 8)) * 128 + j.val = h.val * 128 + j.val
      omega

/-- The block of rows, whatever the arrays hold. -/
theorem read_x (c : Dev nD) (f : (b : Ref sig .tc) → Buf (Elt Ideal) ((c : Thread nD τ).loc b)) (t : Fin cfg0.N) (ht : t.val < 20) (r : Fin 2304) (k : Fin 2048) :
    ((cfg0.win 0).blk t).view.read (Elt Ideal) (f (Pipeline.arrRef spec0 0)) (ix3 0 r k)
      = f main_arg0 (ix3 ⟨t.val / 5, by omega⟩ r k) := by
  have e : ((cfg0.win 0).blk t).view.emb (ix3 0 r k) = (ix3 ⟨t.val / 5, by omega⟩ r k : S4x2304x2048.Idx) := by
    blk_ext [idx t]
  exact congrArg (f main_arg0) e

/-- The block of weights, whatever the arrays hold. -/
theorem read_w (c : Dev nD) (f : (b : Ref sig .tc) → Buf (Elt Ideal) ((c : Thread nD τ).loc b)) (t : Fin cfg0.N) (k : Fin 2048) (n : Fin 256) :
    ((cfg0.win 1).blk t).view.read (Elt Ideal) (f (Pipeline.arrRef spec0 1)) (ix3 0 k n)
      = f main_arg1 (ix3 0 k ⟨t.val % 5 * 256 + n, by omega⟩) := by
  have e : ((cfg0.win 1).blk t).view.emb (ix3 0 k n) = (ix3 0 k ⟨t.val % 5 * 256 + n, by omega⟩ : S2x2048x3584.Idx) := by
    blk_ext [idx t]
  exact congrArg (f main_arg1) e

/-- The queries' scale, whatever the arrays hold. -/
theorem read_sq (c : Dev nD) (f : (b : Ref sig .tc) → Buf (Elt Ideal) ((c : Thread nD τ).loc b)) (t : Fin cfg0.N) (h : t.val % 5 < 4) (e : Fin 128) :
    ((cfg0.win 2).blk t).view.read (Elt Ideal) (f (Pipeline.arrRef spec0 2)) (ix3 0 0 e) = f main_v52 (ix3 0 0 e) := by
  have hi : win0_2.index t = ![0, 0, 0] := (idx t).2.2.1.trans (by rw [if_pos h])
  have e2 : ((cfg0.win 2).blk t).view.emb (ix3 0 0 e) = (ix3 0 0 e : S2x1x128.Idx) := by
    blk_ext [hi]
  exact congrArg (f main_v52) e2

/-- The keys' scale, whatever the arrays hold. -/
theorem read_sk (c : Dev nD) (f : (b : Ref sig .tc) → Buf (Elt Ideal) ((c : Thread nD τ).loc b)) (t : Fin cfg0.N) (h : ¬t.val % 5 < 4) (e : Fin 128) :
    ((cfg0.win 2).blk t).view.read (Elt Ideal) (f (Pipeline.arrRef spec0 2)) (ix3 0 0 e) = f main_v52 (ix3 1 0 e) := by
  have hi : win0_2.index t = ![1, 0, 0] := (idx t).2.2.1.trans (by rw [if_neg h])
  have e2 : ((cfg0.win 2).blk t).view.emb (ix3 0 0 e) = (ix3 1 0 e : S2x1x128.Idx) := by
    blk_ext [hi]
  exact congrArg (f main_v52) e2

/-- The cosines' block is the whole table. -/
theorem read_cos (c : Dev nD) (f : (b : Ref sig .tc) → Buf (Elt Ideal) ((c : Thread nD τ).loc b)) (t : Fin cfg0.N) (r : Fin 2304) (e : Fin 128) :
    ((cfg0.win 3).blk t).view.read (Elt Ideal) (f (Pipeline.arrRef spec0 3)) (ix2 r e)
      = f main_v42 (ix2 r e) := by
  have h : ((cfg0.win 3).blk t).view.emb (ix2 r e) = (ix2 r e : S2304x128.Idx) := by
    blk_ext [idx t]
  exact congrArg (f main_v42) h

/-- The first sines' block is the whole table. -/
theorem read_fst (c : Dev nD) (f : (b : Ref sig .tc) → Buf (Elt Ideal) ((c : Thread nD τ).loc b)) (t : Fin cfg0.N) (r : Fin 2304) (e : Fin 128) :
    ((cfg0.win 4).blk t).view.read (Elt Ideal) (f (Pipeline.arrRef spec0 4)) (ix2 r e)
      = f main_v43 (ix2 r e) := by
  have h : ((cfg0.win 4).blk t).view.emb (ix2 r e) = (ix2 r e : S2304x128.Idx) := by
    blk_ext [idx t]
  exact congrArg (f main_v43) h

/-- The second sines' block is the whole table. -/
theorem read_snd (c : Dev nD) (f : (b : Ref sig .tc) → Buf (Elt Ideal) ((c : Thread nD τ).loc b)) (t : Fin cfg0.N) (r : Fin 2304) (e : Fin 128) :
    ((cfg0.win 5).blk t).view.read (Elt Ideal) (f (Pipeline.arrRef spec0 5)) (ix2 r e)
      = f main_v44 (ix2 r e) := by
  have h : ((cfg0.win 5).blk t).view.emb (ix2 r e) = (ix2 r e : S2304x128.Idx) := by
    blk_ext [idx t]
  exact congrArg (f main_v44) h

/-- A block's head is the layer's. -/
theorem head_at (c : Dev nD) (t : Fin cfg0.N) (ht : t.val < 20) (r : Fin 2304) (q : ℕ) (hq : q < 2) (j : Fin 128) :
    bcol (iblk m c 0 t) (iblk m c 1 t) r ⟨q * 128 + j, by omega⟩
      = proj (m ((c : Thread nD τ).loc main_arg0)) (m ((c : Thread nD τ).loc main_arg1)) ⟨t.val / 5, by omega⟩ r ⟨(t.val % 5 * 2 + q) * 128 + j, by omega⟩ := by
  unfold bcol proj iblk
  refine Finset.sum_congr rfl fun k _ => ?_
  rw [read_x c (V m c) t ht r k, read_w c (V m c) t k ⟨q * 128 + j, by omega⟩, V_main_arg0, V_main_arg1]
  refine congrArg₂ (fun a b : EReal => a * b) rfl (congrArg (fun n => m ((c : Thread nD τ).loc main_arg1) (ix3 0 k n)) ?_)
  exact (Fin.ext (by show t.val % 5 * 256 + (q * 128 + j.val) = (t.val % 5 * 2 + q) * 128 + j.val; omega))

/-- The scale of a grid point. -/
theorem scale_at (c : Dev nD) (t : Fin cfg0.N) (e : Fin 128) : iblk m c 2 t (ix3 0 0 e)
    = if t.val % 5 < 4 then m ((c : Thread nD τ).loc main_arg2) (ix2 0 e) else m ((c : Thread nD τ).loc main_arg3) (ix2 0 e) := by
  unfold iblk
  by_cases h : t.val % 5 < 4
  · rw [if_pos h]
    exact (read_sq c (V m c) t h e).trans (scale_q m c e)
  · rw [if_neg h]
    exact (read_sk c (V m c) t h e).trans (scale_k m c e)

/-- A grid point's head, from its blocks. -/
theorem block_at (c : Dev nD) (t : Fin cfg0.N) (ht : t.val < 20) (r : Fin 2304) (q : ℕ) (hq : q < 2) (e : Fin 128) :
    turnedBy (normed (fun j => bcol (iblk m c 0 t) (iblk m c 1 t) r ⟨q * 128 + j, by omega⟩) (fun j => iblk m c 2 t (ix3 0 0 j)))
        (fun j => iblk m c 3 t (ix2 r j)) (fun j => iblk m c 4 t (ix2 r j)) (fun j => iblk m c 5 t (ix2 r j)) e
      = Cert.Reference11Ideal.Read.val_main_v140 (F := Ideal) (m ((c : Thread nD τ).loc main_arg0)) (m ((c : Thread nD τ).loc main_arg1)) (m ((c : Thread nD τ).loc main_arg2)) (m ((c : Thread nD τ).loc main_arg3))
          (ix3 ⟨t.val / 5, by omega⟩ r ⟨(t.val % 5 * 2 + q) * 128 + e, by omega⟩) := by
  refine Eq.trans ?_ (ref_at _ _ _ _ ⟨t.val / 5, by omega⟩ r ⟨t.val % 5 * 2 + q, by omega⟩ e).symm
  rw [← tables_at m c]
  have hP : (fun j : Fin 128 => bcol (iblk m c 0 t) (iblk m c 1 t) r ⟨q * 128 + j, by omega⟩) = _ := funext fun j => head_at m c t ht r q hq j
  have hs : (fun j : Fin 128 => iblk m c 2 t (ix3 0 0 j))
      = fun j => if t.val % 5 * 2 + q < 8 then m ((c : Thread nD τ).loc main_arg2) (ix2 0 j) else m ((c : Thread nD τ).loc main_arg3) (ix2 0 j) :=
    funext fun j => (scale_at m c t j).trans (if_congr (by omega) rfl rfl)
  have h3 : (fun j : Fin 128 => iblk m c 3 t (ix2 r j)) = fun j => V m c main_v42 (ix2 r j) := by
    unfold iblk
    exact funext fun j => read_cos c (V m c) t r j
  have h4 : (fun j : Fin 128 => iblk m c 4 t (ix2 r j)) = fun j => V m c main_v43 (ix2 r j) := by
    unfold iblk
    exact funext fun j => read_fst c (V m c) t r j
  have h5 : (fun j : Fin 128 => iblk m c 5 t (ix2 r j)) = fun j => V m c main_v44 (ix2 r j) := by
    unfold iblk
    exact funext fun j => read_snd c (V m c) t r j
  rw [hP, hs, h3, h4, h5]

/-- What the body stores, from blocks whose heads are known. -/
theorem stores (X : FVec Ideal S4x2304x1280 .bf16) (b : Fin 4) (d : Fin 5) (x : Vec Ideal S1x2304x2048 .bf16) (w : Vec Ideal S1x2048x256 .f32)
    (s : Vec Ideal S1x1x128 .f32) (C A B : Vec Ideal S2304x128 .f32)
    (hX : ∀ (r : Fin 2304) (q : ℕ) (hq : q < 2) (e : Fin 128),
      turnedBy (normed (fun j => bcol x w r ⟨q * 128 + j, by omega⟩) (fun j => s (ix3 0 0 j)))
        (fun j => C (ix2 r j)) (fun j => A (ix2 r j)) (fun j => B (ix2 r j)) e = X (ix3 b r ⟨(d * 2 + q) * 128 + e, by omega⟩))
    (y0 : Fin 1) (y1 : Fin 2304) (y2 : Fin 256) :
    out0_6 x w s C A B (ix3 y0 y1 y2) = X (ix3 b y1 ⟨d * 256 + y2, by omega⟩) := by
  unfold out0_6
  canon_tiles z h
  case piece0 =>
    idx_vars z
    obtain rfl : z0 = 0 := Fin.fin_one_eq_zero z0
    rw [right_at]
    obtain rfl : y1 = z1 := Fin.ext h1
    refine Eq.trans ?_ ((hX y1 1 (by decide) z2).trans (congrArg (fun n => X (ix3 b y1 n)) (Fin.ext ?_)))
    · unfold turnedBy normed bcol
      pointwise
    · show (d.val * 2 + 1) * 128 + z2.val = d.val * 256 + y2.val
      omega
  case piece1 =>
    idx_vars z
    obtain rfl : z0 = 0 := Fin.fin_one_eq_zero z0
    rw [left_at]
    obtain rfl : y1 = z1 := Fin.ext h1
    refine Eq.trans ?_ ((hX y1 0 (by decide) z2).trans (congrArg (fun n => X (ix3 b y1 n)) (Fin.ext ?_)))
    · unfold turnedBy normed bcol
      pointwise
    · show (d.val * 2 + 0) * 128 + z2.val = d.val * 256 + y2.val
      omega

/-- What the body stores at a block index of a grid point is the reference's result where that index sits. -/
theorem point (c : Dev nD) (t : Fin cfg0.N) (y) :
    out0_6 (iblk m c 0 t) (iblk m c 1 t) (iblk m c 2 t) (iblk m c 3 t) (iblk m c 4 t) (iblk m c 5 t) y
    = Cert.Reference11Ideal.Read.val_main_v140 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  have ht : t.val < 20 := (idx t).2.2.2.2.2.2.2
  idx_vars y
  have e : ((cfg0.win 6).blk t).view.emb (ix3 y0 y1 y2)
      = (ix3 ⟨t.val / 5, by omega⟩ y1 ⟨t.val % 5 * 256 + y2, by omega⟩ : S4x2304x1280.Idx) := by
    blk_ext [idx t]
  refine Eq.trans ?_ (congrArg _ e).symm
  exact stores _ ⟨t.val / 5, by omega⟩ ⟨t.val % 5, by omega⟩ _ _ _ _ _ _ (fun r q hq e => block_at m c t ht r q hq e) y0 y1 y2

/-- The kernel's result array is the reference's term of the arguments. -/
theorem final (c : Dev nD) : (dats m 0 c).arrAt 6 (cfgs 0).N
    = Cert.Reference11Ideal.Read.val_main_v140 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point m c t y

end Kernel

end Cert.Kernel11Ideal.EvenQK

end
-- ==== Proof.Claim11.lean ====
module

public import proofs.«01_k».proof.Defs
public import proofs.«01_k».proof.Proof.Gen.Kernel11.Frame
public import proofs.«01_k».proof.Proof.Gen.Reference11Ideal.Run
public import proofs.«01_k».proof.Proof.EvenQK
public import Idealize.ShloMosaic.Lib.Claim

@[expose] public section

set_option maxRecDepth 16384
set_option maxHeartbeats 1600000

noncomputable section

open Idealize.ShloMosaic Idealize.ShloMosaic.TcCoe Idealize.SL.Sem

/-! # The claims of Kernel11 -/

namespace Cert.Proof.Kernel11

/-- The kernel runs, and leaves its arguments and the semaphores as they were. -/
theorem frame_kernel : Cert.quiescent_Kernel11 := fun m ρ _ => Cert.Kernel11.Gen.frame m ρ

/-- The idealised kernel runs, and leaves its arguments and the semaphores as they were. -/
theorem frame_ideal : Cert.quiescent_Kernel11Ideal := fun m ρ _ => Cert.Kernel11Ideal.Gen.frame m ρ

/-- The reference runs, and leaves its arguments and the semaphores as they were. -/
theorem frame_reference : Cert.quiescent_Reference11Ideal := by
  intro m g _
  exact (θ_run Cert.Reference11Ideal.defs _ _).mono (fun r h => ⟨fun c => (h c).2, sem_eq_zero_of_no_sems (by decide) r.2⟩)
    (Cert.Reference11Ideal.Value.run m g)

/-- The idealised kernel's result is the reference's. -/
theorem algebraic : Cert.algebraic_Kernel11Ideal_Reference11Ideal := by
  pair_intro
  · run_from Cert.Kernel11Ideal.Gen.run_main m g
    · exact Cert.Kernel11Ideal.Gen.V_main_arg2 m c
    · exact Cert.Kernel11Ideal.Gen.V_main_arg3 m c
  · run_from Cert.Reference11Ideal.Value.run m' g'
    refine Eq.trans ?_ (Cert.Kernel11Ideal.EvenQK.final m c).symm
    obtain ⟨h0, h1, h2, h3⟩ := hagree c
    rw [← h0, ← h1, ← h2, ← h3]
    exact Cert.Reference11Ideal.Read.val_main_v140_eq (F := Ideal) m' c

end Cert.Proof.Kernel11

end
-- ==== Proof.AttnCtxRef.lean ====
module

public import proofs.«01_k».proof.Proof.Gen.Reference12Ideal.Read
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem

/-! # The reference's attention over the context rows -/

namespace Cert.Kernel12Ideal.AttnCtx

open Cert.Softmax

section Reference
open Cert.Reference12Ideal Cert.Reference12Ideal.Gen Cert.Reference12Ideal.Read

/-- The product of a query row and a key row, scaled: query head `h * 4 + g`, key head `h`. -/
def score (x0 : Vec Ideal S4x2304x1280 .bf16) (b : Fin 4) (h : Fin 2) (g : Fin 4) (q k : Fin 256) : EReal :=
  (∑ d : Fin 128, x0 (ix3 b ⟨q, by omega⟩ ⟨h * 512 + g * 128 + d, by omega⟩)
    * x0 (ix3 b ⟨k, by omega⟩ ⟨1024 + (h * 128 + d), by omega⟩)) * Ideal.ofBits .f32 0x3DB504F3#32

/-- The greatest logit. -/
theorem top_at (T : FVec Ideal S4x2x4x256x257 .f32) (b : Fin 4) (h : Fin 2) (g : Fin 4) (q : Fin 256) :
    maximumf (val_main_v19 (F := Ideal)) (Host.reduce FloatOps.maximumf T (val_main_cst_0 (F := Ideal))
        reducesTo_S4x2x4x256x257_S4x2x4x256_d4 h_S_) (ix4 b h g q)
      = max ⊥ ((Finset.univ : Finset (Fin 257)).fold max ⊥ (fun j => T (ix5 b h g q j))) := by
  pointwise [val_main_v19, val_main_cst_0, val_main_cst_1, neg_inf]

/-- The exponential of a logit less a row's number. -/
theorem exp_at (T : FVec Ideal S4x2x4x256x257 .f32) (M : FVec Ideal S4x2x4x256 .f32) (b : Fin 4) (h : Fin 2) (g : Fin 4) (q : Fin 256)
    (k : Fin 257) :
    Host.exp (subf T (broadcastInDim S4x2x4x256x257 ![0, 1, 2, 3, 4] bcast_S4x2x4x256x1_S4x2x4x256x257_0_1_2_3_4
        (broadcastInDim S4x2x4x256x1 ![0, 1, 2, 3] bcast_S4x2x4x256_S4x2x4x256x1_0_1_2_3 M))) (ix5 b h g q k)
      = Ideal.exp (T (ix5 b h g q k) - M (ix4 b h g q)) := by
  pointwise []

/-- A row's entry over the row's sum. -/
theorem quot_at (E : FVec Ideal S4x2x4x256x257 .f32) (b : Fin 4) (h : Fin 2) (g : Fin 4) (q : Fin 256) (k : Fin 257) :
    Host.divf E (broadcastInDim S4x2x4x256x257 ![0, 1, 2, 3, 4] bcast_S4x2x4x256x1_S4x2x4x256x257_0_1_2_3_4
        (broadcastInDim S4x2x4x256x1 ![0, 1, 2, 3] bcast_S4x2x4x256_S4x2x4x256x1_0_1_2_3
          (Host.reduceAdd E (val_main_cst_2 (F := Ideal)) reducesTo_S4x2x4x256x257_S4x2x4x256_d4 h_S_))) (ix5 b h g q k)
      = Ideal.div (E (ix5 b h g q k)) (∑ j, E (ix5 b h g q j)) := by
  pointwise [val_main_cst_2]

/-- The weights are the softmax of the logits. -/
theorem soft_ref (x0 : Vec Ideal S4x2304x1280 .bf16) (x2 : Vec Ideal S2x8 .f32) (b : Fin 4) (h : Fin 2) (g : Fin 4) (q : Fin 256)
    (k : Fin 257) : val_main_v28 (F := Ideal) x0 x2 (ix5 b h g q k)
      = soft (fun j => val_main_v17 (F := Ideal) x0 x2 (ix5 b h g q j)) k := by
  unfold val_main_v28 val_main_v27 val_main_v26 val_main_v25 val_main_v24 val_main_v23 val_main_v22 val_main_v21 val_main_v20 val_main_v18
  generalize val_main_v17 (F := Ideal) x0 x2 = T
  rw [quot_at, exp_at, top_at, Finset.sum_congr rfl fun j _ => (exp_at T _ b h g q j).trans (by rw [top_at])]
  rfl

/-- The sink, put first. -/
theorem logit_sink (x0 : Vec Ideal S4x2304x1280 .bf16) (x2 : Vec Ideal S2x8 .f32) (b : Fin 4) (h : Fin 2) (g : Fin 4) (q : Fin 256) :
    val_main_v17 (F := Ideal) x0 x2 (ix5 b h g q 0) = x2 (ix2 0 ⟨h * 4 + g, by omega⟩) := by
  pointwise [val_main_v17, val_main_v16, val_main_v15, val_main_v14, val_main_v3, val_main_v2]

/-- The logits after the sink. -/
theorem logit_score (x0 : Vec Ideal S4x2304x1280 .bf16) (x2 : Vec Ideal S2x8 .f32) (b : Fin 4) (h : Fin 2) (g : Fin 4) (q k : Fin 256) :
    val_main_v17 (F := Ideal) x0 x2 (ix5 b h g q ⟨1 + k, by omega⟩) = score x0 b h g q k := by
  unfold score
  pointwise [val_main_v17, val_main_v13, val_main_v12, val_main_v11, val_main_v10, val_main_v9, val_main_v8, val_main_v5, val_main_v4, val_main_v0, val_main_cst]
  refine congrArg (· * _) (Finset.sum_congr rfl fun d _ => ?_)
  exact mul_comm _ _

/-- The result: the values weighed by the softmax. -/
theorem out_at (x0 : Vec Ideal S4x2304x1280 .bf16) (x1 : Vec Ideal S4x2304x256 .bf16) (x2 : Vec Ideal S2x8 .f32)
    (b : Fin 4) (q : Fin 256) (h : Fin 2) (g : Fin 4) (d : Fin 128) :
    val_main_v33 (F := Ideal) x0 x1 x2 (ix3 b q ⟨(h * 4 + g) * 128 + d, by omega⟩)
      = ∑ k : Fin 256, x1 (ix3 b ⟨k, by omega⟩ ⟨h * 128 + d, by omega⟩) * val_main_v28 (F := Ideal) x0 x2 (ix5 b h g q k.succ) := by
  pointwise [val_main_v33, val_main_v32, val_main_v31, val_main_v30, val_main_v29, val_main_v7, val_main_v6, val_main_v1]
  exact Finset.sum_congr rfl fun k _ => by rw [succ_eq]

/-- The reference's result, its logits finite. -/
theorem ref_at (x0 : Vec Ideal S4x2304x1280 .bf16) (x1 : Vec Ideal S4x2304x256 .bf16) (x2 : Vec Ideal S2x8 .f32)
    (hq : ∀ i, Fine (x0 i)) (hz : ∀ i, Fine (x2 i)) (b : Fin 4) (q : Fin 256) (h : Fin 2) (g : Fin 4) (d : Fin 128) :
    val_main_v33 (F := Ideal) x0 x1 x2 (ix3 b q ⟨(h * 4 + g) * 128 + d, by omega⟩)
      = attend (score x0 b h g q) (x2 (ix2 0 ⟨h * 4 + g, by omega⟩)) (fun k => x1 (ix3 b ⟨k, by omega⟩ ⟨h * 128 + d, by omega⟩)) := by
  rw [out_at]
  have e := soft_ref x0 x2 b h g q
  have es : ∀ k : Fin 256, val_main_v17 (F := Ideal) x0 x2 (ix5 b h g q k.succ) = score x0 b h g q k := fun k =>
    (congrArg (fun j => val_main_v17 (F := Ideal) x0 x2 (ix5 b h g q j)) (succ_eq (by omega)).symm).trans
      (logit_score x0 x2 b h g q k)
  have e0 := logit_sink x0 x2 b h g q
  have fs : ∀ k, Fine (score x0 b h g q k) := fun k => (Fine.sum fun d => (hq _).mul (hq _)).mul fine_scale
  generalize val_main_v17 (F := Ideal) x0 x2 = T at e es e0
  generalize val_main_v28 (F := Ideal) x0 x2 = P at e ⊢
  refine (Finset.sum_congr rfl fun (k : Fin 256) _ => congrArg (x1 (ix3 b ⟨k, by omega⟩ ⟨h * 128 + d, by omega⟩) * ·) (e k.succ)).trans ?_
  refine (soft_attend (l := fun j => T (ix5 b h g q j)) (fun k => ?_) ?_ _).trans ?_
  · refine Fin.cases ?_ (fun j => ?_) k
    · show T (ix5 b h g q 0) ≠ ⊤
      rw [e0]
      exact (hz _).1
    · show T (ix5 b h g q j.succ) ≠ ⊤
      rw [es]
      exact (fs j).1
  · show T (ix5 b h g q 0) ≠ ⊥
    rw [e0]
    exact (hz _).2
  · exact attend_congr es e0 fun k => Or.inr rfl

end Reference

end Cert.Kernel12Ideal.AttnCtx

end
-- ==== Proof.AttnCtx.lean ====
module

public import proofs.«01_k».proof.Proof.Gen.Kernel12Ideal.Value
public import Idealize.ShloMosaic.Lib.Pipeline.ValueKit
public import Idealize.ShloMosaic.Lib.Pointwise
public import proofs.«01_k».proof.Proof.Softmax
public import proofs.«01_k».proof.Proof.Heads
public import proofs.«01_k».proof.Proof.AttnCtxRef

@[expose] public section

set_option maxRecDepth 16384

noncomputable section

open Idealize.ShloMosaic Idealize.ShloMosaic.TcCoe Idealize.SL.Sem
open Idealize.ShloMosaic.Pipeline (Dat)

namespace Cert.Kernel12Ideal.AttnCtx

open Cert.Softmax Cert.Heads

section Kernel
open Cert.Kernel12Ideal Cert.Kernel12Ideal.Gen

/-- The attention of a row. -/
theorem pay1_at (v : FVec Ideal S256x128 .bf16) (s : FVec Ideal S1024x256 .f32) (z : FVec Ideal S1024x1 .f32) (r : Fin 1024) (d : Fin 128) :
    k0_pay1 v s z (ix2 r d) = attend (fun k : Fin 256 => s (ix2 r k)) (z (ix2 r 0)) (fun k => v (ix2 k d)) := by
  unfold attend total top
  pointwise [k0_pay1, neg_inf]

/-- The logits of a row of a query head. -/
theorem pay7_at (Q : Fin 4 → Vec Ideal S1x256x128 .bf16) (K : Vec Ideal S1x256x128 .bf16) (g : Fin 4) (q k : Fin 256) :
    k0_pay7 (Q 0) (Q 1) (Q 2) (Q 3) K (ix2 ⟨g * 256 + q, by omega⟩ k)
      = (∑ d : Fin 128, Q g (ix3 0 q d) * K (ix3 0 k d)) * Ideal.ofBits .f32 0x3DB504F3#32 := by
  fin_cases g <;> pointwise [k0_pay7]
  · refine congrArg (· * _) (Finset.sum_congr rfl fun x _ => congrArg (· * _) ?_)
    rw [dif_neg (by omega), dif_neg (by omega), dif_pos (by omega)]
    exact congrArg (fun i => Q 2 (ix3 0 i x)) (Fin.ext (by show 512 + (q : ℕ) - 256 - 256 = q; omega))
  · refine congrArg (· * _) (Finset.sum_congr rfl fun x _ => congrArg (· * _) ?_)
    rw [dif_neg (by omega), dif_neg (by omega), dif_neg (by omega)]
    exact congrArg (fun i => Q 3 (ix3 0 i x)) (Fin.ext (by show 768 + (q : ℕ) - 256 - 256 - 256 = q; omega))

/-- The sink of a row of a query head. -/
theorem sink_at (S : Fin 4 → EReal) (g : Fin 4) (q : Fin 256) :
    k0_pay10 (F := Ideal) (iota .tc S1024x1 32 [0] iota_S1024x1_d0_w32) 256#32 k0_pay8 k0_pay9 (S 0) (S 1) (S 2) (S 3)
      (ix2 ⟨g * 256 + q, by omega⟩ 0) = S g := by
  have e := headWord_256 ⟨g * 256 + q, by omega⟩
  unfold headWord at e
  have eg : ((⟨g * 256 + q, by omega⟩ : Fin 1024) : ℕ) / 256 = g := by show ((g : ℕ) * 256 + q) / 256 = g; omega
  rw [eg] at e
  pointwise [k0_pay10, k0_pay8, k0_pay9]
  simp only [e]
  exact pick S _ g

/-- A row of a query head's attention, from the block's loads. -/
theorem head_at (Q : Fin 4 → Vec Ideal S1x256x128 .bf16) (K v : Vec Ideal S1x256x128 .bf16) (S : Fin 4 → EReal) (g : Fin 4)
    (q : Fin 256) (d : Fin 128) :
    k0_pay1 (k0_pay6 v) (k0_pay7 (Q 0) (Q 1) (Q 2) (Q 3) K) (k0_pay10 (F := Ideal) (iota .tc S1024x1 32 [0] iota_S1024x1_d0_w32)
      256#32 k0_pay8 k0_pay9 (S 0) (S 1) (S 2) (S 3)) (ix2 ⟨g * 256 + q, by omega⟩ d)
    = attend (fun k : Fin 256 => (∑ e : Fin 128, Q g (ix3 0 q e) * K (ix3 0 k e)) * Ideal.ofBits .f32 0x3DB504F3#32) (S g)
        (fun k => v (ix3 0 k d)) := by
  rw [pay1_at]
  refine attend_congr (fun k => pay7_at Q K g q k) (sink_at S g q) fun k => Or.inr ?_
  pointwise [k0_pay6]

/-- The first head's store. -/
theorem pay2_at (v : FVec Ideal S256x128 .bf16) (s : FVec Ideal S1024x256 .f32) (z : FVec Ideal S1024x1 .f32) (q : Fin 256) (d : Fin 128) :
    k0_pay2 v s z (ix3 0 q d) = k0_pay1 v s z (ix2 ⟨((0 : Fin 4) : ℕ) * 256 + q, by show 0 * 256 + (q : ℕ) < 1024; omega⟩ d) := by
  pointwise [k0_pay2]

/-- The second head's store. -/
theorem pay3_at (v : FVec Ideal S256x128 .bf16) (s : FVec Ideal S1024x256 .f32) (z : FVec Ideal S1024x1 .f32) (q : Fin 256) (d : Fin 128) :
    k0_pay3 v s z (ix3 0 q d) = k0_pay1 v s z (ix2 ⟨((1 : Fin 4) : ℕ) * 256 + q, by show 1 * 256 + (q : ℕ) < 1024; omega⟩ d) := by
  pointwise [k0_pay3]

/-- The third head's store. -/
theorem pay4_at (v : FVec Ideal S256x128 .bf16) (s : FVec Ideal S1024x256 .f32) (z : FVec Ideal S1024x1 .f32) (q : Fin 256) (d : Fin 128) :
    k0_pay4 v s z (ix3 0 q d) = k0_pay1 v s z (ix2 ⟨((2 : Fin 4) : ℕ) * 256 + q, by show 2 * 256 + (q : ℕ) < 1024; omega⟩ d) := by
  pointwise [k0_pay4]

/-- The fourth head's store. -/
theorem pay5_at (v : FVec Ideal S256x128 .bf16) (s : FVec Ideal S1024x256 .f32) (z : FVec Ideal S1024x1 .f32) (q : Fin 256) (d : Fin 128) :
    k0_pay5 v s z (ix3 0 q d) = k0_pay1 v s z (ix2 ⟨((3 : Fin 4) : ℕ) * 256 + q, by show 3 * 256 + (q : ℕ) < 1024; omega⟩ d) := by
  pointwise [k0_pay5]

variable (m : (ℓ : Loc nD τ sig) → Buf (Elt Ideal) ℓ)

/-- Where each window's block sits at a grid point. -/
theorem idx : ∀ t : Fin cfg0.N, win0_0.index t = ![0, 0] ∧ win0_1.index t = ![t.val / 2, 0, t.val % 2]
    ∧ win0_2.index t = ![t.val / 2, 0, 8 + t.val % 2] ∧ win0_3.index t = ![t.val / 2, 0, t.val % 2]
    ∧ win0_4.index t = ![t.val / 2, 0, t.val % 2] ∧ t.val < 8 :=
  (by decide +kernel : ∀ t : Fin grid0.N, _)

/-- The queries' block at a grid point, read at an index. -/
theorem q_at (c : Dev nD) (t : Fin cfg0.N) (ht : t.val < 8) (q : Fin 256) (n : Fin 512) :
    X0_1 m c t (ix3 0 q n) = m ((c : Thread nD τ).loc main_arg0) (ix3 ⟨t.val / 2, by omega⟩ ⟨q, by omega⟩ ⟨t.val % 2 * 512 + n, by omega⟩) := by
  unfold X0_1 Pipeline.Window.fill
  rw [dif_pos (moved0_1 t _)]
  blk_point [iblk, V, idx t]

/-- Where each sink is loaded. -/
theorem sink_off : ∀ t : Fin cfg0.N, k0_off1 (grid0.coords t) 0#32 = ![0, t.val % 2 * 4]
    ∧ k0_off1 (grid0.coords t) 1#32 = ![0, t.val % 2 * 4 + 1] ∧ k0_off1 (grid0.coords t) 2#32 = ![0, t.val % 2 * 4 + 2]
    ∧ k0_off1 (grid0.coords t) 3#32 = ![0, t.val % 2 * 4 + 3] :=
  (by decide +kernel : ∀ t : Fin grid0.N, _)

/-- The query block of each head. -/
def queries (c : Dev nD) (t : Fin cfg0.N) : Fin 4 → Vec Ideal S1x256x128 .bf16 :=
  ![View.ld (X0_1 m c t) (Rect.unit ![0, 0, 0] ![1, 256, 128] inb_S1x256x512_S1x256x128_0_0_0),
    View.ld (X0_1 m c t) (Rect.unit ![0, 0, 128] ![1, 256, 128] inb_S1x256x512_S1x256x128_0_0_128),
    View.ld (X0_1 m c t) (Rect.unit ![0, 0, 256] ![1, 256, 128] inb_S1x256x512_S1x256x128_0_0_256),
    View.ld (X0_1 m c t) (Rect.unit ![0, 0, 384] ![1, 256, 128] inb_S1x256x512_S1x256x128_0_0_384)]

/-- One cell has one index. -/
theorem one_cell : 0 < S1x1.numel := by rw [numel1_S1x1]; exact Nat.one_pos

/-- The sink of each head. -/
def sinks (c : Dev nD) (t : Fin cfg0.N) : Fin 4 → EReal :=
  ![View.ld (iblk m c 0 t) (Rect.unit (s := S2x8) (k0_off1 (grid0.coords t) 0#32) S1x1.size (k0_off1_inb (grid0.coords t) 0)) (Shape.Idx.first one_cell),
    View.ld (iblk m c 0 t) (Rect.unit (s := S2x8) (k0_off1 (grid0.coords t) 1#32) S1x1.size (k0_off1_inb (grid0.coords t) 1)) (Shape.Idx.first one_cell),
    View.ld (iblk m c 0 t) (Rect.unit (s := S2x8) (k0_off1 (grid0.coords t) 2#32) S1x1.size (k0_off1_inb (grid0.coords t) 2)) (Shape.Idx.first one_cell),
    View.ld (iblk m c 0 t) (Rect.unit (s := S2x8) (k0_off1 (grid0.coords t) 3#32) S1x1.size (k0_off1_inb (grid0.coords t) 3)) (Shape.Idx.first one_cell)]

theorem queries_at (c : Dev nD) (t : Fin cfg0.N) (g : Fin 4) (q : Fin 256) (e : Fin 128) :
    queries m c t g (ix3 0 q e) = X0_1 m c t (ix3 0 q ⟨g * 128 + e, by omega⟩) := by
  fin_cases g <;> (unfold queries; generalize X0_1 m c t = X; pointwise)

theorem sinks_at (c : Dev nD) (t : Fin cfg0.N) (ht : t.val < 8) (g : Fin 4) :
    sinks m c t g = m ((c : Thread nD τ).loc main_arg2) (ix2 0 ⟨t.val % 2 * 4 + g, by omega⟩) := by
  fin_cases g <;> (unfold sinks; blk_point [iblk, V, idx t, sink_off t])

/-- A head's attention at a grid point is the reference's result. -/
theorem head_point (hq : ∀ c : Dev nD, ∀ i, Fine (m ((c : Thread nD τ).loc main_arg0) i)) (hz : ∀ c : Dev nD, ∀ i, Fine (m ((c : Thread nD τ).loc main_arg2) i))
    (c : Dev nD) (t : Fin cfg0.N) (ht : t.val < 8) (g : Fin 4) (q : Fin 256) (d : Fin 128) :
    k0_pay1 (k0_pay6 (iblk m c 3 t)) (k0_pay7 (queries m c t 0) (queries m c t 1) (queries m c t 2) (queries m c t 3) (iblk m c 2 t))
      (k0_pay10 (F := Ideal) (iota .tc S1024x1 32 [0] iota_S1024x1_d0_w32)
      256#32 k0_pay8 k0_pay9 (sinks m c t 0) (sinks m c t 1) (sinks m c t 2) (sinks m c t 3)) (ix2 ⟨g * 256 + q, by omega⟩ d)
    = Cert.Reference12Ideal.Read.val_main_v33 (F := Ideal) (m ((c : Thread nD τ).loc main_arg0)) (m ((c : Thread nD τ).loc main_arg1)) (m ((c : Thread nD τ).loc main_arg2))
        (ix3 ⟨t.val / 2, by omega⟩ q ⟨(t.val % 2 * 4 + g) * 128 + d, by omega⟩) := by
  refine (head_at (queries m c t) (iblk m c 2 t) (iblk m c 3 t) (sinks m c t) g q d).trans ?_
  refine Eq.trans ?_ (ref_at _ _ _ (hq c) (hz c) ⟨t.val / 2, by omega⟩ q ⟨t.val % 2, by omega⟩ g d).symm
  refine attend_congr (fun k => ?_) (sinks_at m c t ht g) fun k => Or.inr ?_
  · unfold score
    refine congrArg (· * _) (Finset.sum_congr rfl fun e _ => congrArg₂ (· * ·) ?_ ?_)
    · rw [queries_at, q_at m c t ht]
      exact congrArg (m ((c : Thread nD τ).loc main_arg0)) (by refine congrArg (ix3 _ _) (Fin.ext ?_); show t.val % 2 * 512 + ((g : ℕ) * 128 + e) = t.val % 2 * 512 + g * 128 + e; omega)
    · blk_point [iblk, V, idx t]
  · blk_point [iblk, V, idx t]

/-- What the body stores at a block index of a grid point is the reference's result where that index sits. -/
theorem point (hq : ∀ c : Dev nD, ∀ i, Fine (m ((c : Thread nD τ).loc main_arg0) i)) (hz : ∀ c : Dev nD, ∀ i, Fine (m ((c : Thread nD τ).loc main_arg2) i))
    (c : Dev nD) (t : Fin cfg0.N) (y) : outsAt0 m c t y
    = Cert.Reference12Ideal.Read.val_main_v33 (F := Ideal) (m ((c : Thread nD τ).loc main_arg0)) (m ((c : Thread nD τ).loc main_arg1)) (m ((c : Thread nD τ).loc main_arg2)) (((cfg0.win 4).blk t).view.emb y) := by
  unfold outsAt0
  frame_out
  have ht : t.val < 8 := (idx t).2.2.2.2.2
  idx_vars y
  have e : ((cfg0.win 4).blk t).view.emb (ix3 y0 y1 y2)
      = (ix3 ⟨t.val / 2, by omega⟩ y1 ⟨t.val % 2 * 512 + y2, by omega⟩ : S4x256x1024.Idx) := by
    blk_ext [idx t]
  refine Eq.trans ?_ (congrArg _ e).symm
  canon_tiles x h
  case piece0 =>
    idx_vars x
    obtain rfl : x0 = 0 := Fin.fin_one_eq_zero x0
    refine ((pay5_at _ _ _ _ _).trans (head_point m hq hz c t ht 3 x1 x2)).trans (congrArg _ ?_)
    exact congr (congrArg (ix3 _) (Fin.ext h1.symm)) (Fin.ext (by show (t.val % 2 * 4 + 3) * 128 + (x2 : ℕ) = t.val % 2 * 512 + y2; omega))
  case piece1 =>
    idx_vars x
    obtain rfl : x0 = 0 := Fin.fin_one_eq_zero x0
    refine ((pay4_at _ _ _ _ _).trans (head_point m hq hz c t ht 2 x1 x2)).trans (congrArg _ ?_)
    exact congr (congrArg (ix3 _) (Fin.ext h1.symm)) (Fin.ext (by show (t.val % 2 * 4 + 2) * 128 + (x2 : ℕ) = t.val % 2 * 512 + y2; omega))
  case piece2 =>
    idx_vars x
    obtain rfl : x0 = 0 := Fin.fin_one_eq_zero x0
    refine ((pay3_at _ _ _ _ _).trans (head_point m hq hz c t ht 1 x1 x2)).trans (congrArg _ ?_)
    exact congr (congrArg (ix3 _) (Fin.ext h1.symm)) (Fin.ext (by show (t.val % 2 * 4 + 1) * 128 + (x2 : ℕ) = t.val % 2 * 512 + y2; omega))
  case piece3 =>
    idx_vars x
    obtain rfl : x0 = 0 := Fin.fin_one_eq_zero x0
    refine ((pay2_at _ _ _ _ _).trans (head_point m hq hz c t ht 0 x1 x2)).trans (congrArg _ ?_)
    exact congr (congrArg (ix3 _) (Fin.ext h1.symm)) (Fin.ext (by show (t.val % 2 * 4 + 0) * 128 + (x2 : ℕ) = t.val % 2 * 512 + y2; omega))

/-- The kernel's result array is the reference's term of the arguments. -/
theorem final (hq : ∀ c : Dev nD, ∀ i, Fine (m ((c : Thread nD τ).loc main_arg0) i)) (hz : ∀ c : Dev nD, ∀ i, Fine (m ((c : Thread nD τ).loc main_arg2) i))
    (c : Dev nD) : (dats m 0 c).arrAt 4 (cfgs 0).N
    = Cert.Reference12Ideal.Read.val_main_v33 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m hq hz c t y

end Kernel

end Cert.Kernel12Ideal.AttnCtx

end
-- ==== Proof.Claim12.lean ====
module

public import proofs.«01_k».proof.Defs
public import proofs.«01_k».proof.Proof.Gen.Kernel12.Frame
public import proofs.«01_k».proof.Proof.Gen.Reference12Ideal.Run
public import proofs.«01_k».proof.Proof.AttnCtx
public import proofs.«01_k».proof.Proof.PreFacts
public import Idealize.ShloMosaic.Lib.Claim

@[expose] public section

set_option maxRecDepth 16384
set_option maxHeartbeats 1600000

noncomputable section

open Idealize.ShloMosaic Idealize.ShloMosaic.TcCoe Idealize.SL.Sem

/-! # The claims of Kernel12 -/

namespace Cert.Proof.Kernel12

/-- The kernel runs, and leaves its arguments and the semaphores as they were. -/
theorem frame_kernel : Cert.quiescent_Kernel12 := fun m ρ _ => Cert.Kernel12.Gen.frame m ρ

/-- The idealised kernel runs, and leaves its arguments and the semaphores as they were. -/
theorem frame_ideal : Cert.quiescent_Kernel12Ideal := fun m ρ _ => Cert.Kernel12Ideal.Gen.frame m ρ

/-- The reference runs, and leaves its arguments and the semaphores as they were. -/
theorem frame_reference : Cert.quiescent_Reference12Ideal := by
  intro m g _
  exact (θ_run Cert.Reference12Ideal.defs _ _).mono (fun r h => ⟨fun c => (h c).2, sem_eq_zero_of_no_sems (by decide) r.2⟩)
    (Cert.Reference12Ideal.Value.run m g)

/-- The idealised kernel runs on finite scores. -/
theorem frame_ideal_pre : Cert.quiescent_Kernel12Ideal_pre_finite_scores := fun m ρ _ => Cert.Kernel12Ideal.Gen.frame m ρ

/-- The reference runs on finite scores. -/
theorem frame_reference_pre : Cert.quiescent_Reference12Ideal_pre_finite_scores := fun m g _ => frame_reference m g trivial

/-- The idealised kernel's result is the reference's, the queries, keys and sinks being finite. -/
theorem algebraic : Cert.algebraic_Kernel12Ideal_Reference12Ideal_pre_finite_scores := by
  pair_intro
  · run_from Cert.Kernel12Ideal.Gen.run_main m g
  · run_from Cert.Reference12Ideal.Value.run m' g'
    refine Eq.trans ?_ (Cert.Kernel12Ideal.AttnCtx.final m (fun c => (Cert.Pre_finite_scores.pre_fine (hpre c)).1) (fun c => (Cert.Pre_finite_scores.pre_fine (hpre c)).2) c).symm
    obtain ⟨h0, h1, h2⟩ := hagree c
    rw [← h0, ← h1, ← h2]
    exact Cert.Reference12Ideal.Read.val_main_v33_eq (F := Ideal) m' c

end Cert.Proof.Kernel12

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Claim1
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import proofs.«01_k».proof.Proof.Claim10
public import proofs.«01_k».proof.Proof.Claim11
public import proofs.«01_k».proof.Proof.Claim12
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Pre_finite_scores.facts, Kernel.frame_kernel, Kernel.frame_ideal,
    Kernel.frame_ideal_pre, Kernel.frame_reference, Kernel.frame_reference_pre, Kernel2.frame_kernel,
    Kernel2.frame_ideal, Kernel2.frame_reference, Kernel3.frame_kernel, Kernel3.frame_ideal, Kernel3.frame_reference,
    Kernel4.frame_kernel, Kernel4.frame_ideal, Kernel4.frame_reference, Kernel5.frame_kernel, Kernel5.frame_ideal,
    Kernel5.frame_reference, Kernel6.frame_kernel, Kernel6.frame_ideal, Kernel6.frame_reference,
    Kernel7.frame_kernel, Kernel7.frame_ideal, Kernel7.frame_reference, Kernel8.frame_kernel, Kernel8.frame_ideal,
    Kernel8.frame_reference, Kernel9.frame_kernel, Kernel9.frame_ideal, Kernel9.frame_reference,
    Kernel10.frame_kernel, Kernel10.frame_ideal, Kernel10.frame_reference, Kernel11.frame_kernel,
    Kernel11.frame_ideal, Kernel11.frame_reference, Kernel12.frame_kernel, Kernel12.frame_ideal,
    Kernel12.frame_ideal_pre, Kernel12.frame_reference, Kernel12.frame_reference_pre, trivial, Kernel.algebraic,
    trivial, Kernel2.algebraic, trivial, Kernel3.algebraic, trivial, Kernel4.algebraic, trivial, Kernel5.algebraic,
    trivial, Kernel6.algebraic, trivial, Kernel7.algebraic, trivial, Kernel8.algebraic, trivial, Kernel9.algebraic,
    trivial, Kernel10.algebraic, trivial, Kernel11.algebraic, trivial, Kernel12.algebraic⟩

end Cert.Proof

end
